-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "exp2_arg_max" .f32 0x42FC0000#32 ⊤
  ∧ IdealRules.named_const.Statement Cert.KernelIdeal.κ "log2e" .f32 0x3FB8AA3B#32 (((Real.log 2)⁻¹ : ℝ) : EReal)
  ∧ IdealRules.named_const.Statement Cert.KernelIdeal.κ "no_block" .f32 0x7149F2CA#32 ⊤
  ∧ IdealRules.named_const.Statement Cert.KernelIdeal.κ "suffix_cutoff" .f32 0x43180000#32 ⊤

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v41) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  IdealRules.named_const.Statement Cert.Kernel3Ideal.κ "q_scale" .f32 0x3E38AA3B#32 (((Real.log 256)⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)) (v2 : (c : Dev Cert.Kernel3Ideal.nD) → Buf (Elt Ideal) ((c.tc : Thread Cert.Kernel3Ideal.nD Cert.Kernel3Ideal.τ).loc Cert.Kernel3Ideal.main_v3_2)) (v3 : (c : Dev Cert.Kernel3Ideal.nD) → Buf (Elt Ideal) ((c.tc : Thread Cert.Kernel3Ideal.nD Cert.Kernel3Ideal.τ).loc Cert.Kernel3Ideal.main_v3_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_v3_2) = v2 c
          ∧ r.2.mem ((c.tc : Thread Cert.Kernel3Ideal.nD Cert.Kernel3Ideal.τ).loc Cert.Kernel3Ideal.main_v3_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v30) = v0 c
          ∧ r.2.mem ((c.tc : Thread Cert.Reference3Ideal.nD Cert.Reference3Ideal.τ).loc Cert.Reference3Ideal.main_v31) = v1 c
          ∧ r.2.mem ((c.tc : Thread Cert.Reference3Ideal.nD Cert.Reference3Ideal.τ).loc Cert.Reference3Ideal.main_v32) = v2 c
          ∧ r.2.mem ((c.tc : Thread Cert.Reference3Ideal.nD Cert.Reference3Ideal.τ).loc Cert.Reference3Ideal.main_v33) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S8x1024x4096 : Shape := ⟨3, ![8, 1024, 4096]⟩
abbrev S8x4096x1024 : Shape := ⟨3, ![8, 4096, 1024]⟩
abbrev S8x16x1024x256 : Shape := ⟨4, ![8, 16, 1024, 256]⟩
abbrev S256x256 : Shape := ⟨2, ![256, 256]⟩
abbrev S_ : Shape := ⟨0, ![]⟩
abbrev S192x192 : Shape := ⟨2, ![192, 192]⟩
abbrev S1x256x2048 : Shape := ⟨3, ![1, 256, 2048]⟩
abbrev S1x4096x256 : Shape := ⟨3, ![1, 4096, 256]⟩
abbrev S1x16x256x256 : Shape := ⟨4, ![1, 16, 256, 256]⟩
abbrev S1x2048x256 : Shape := ⟨3, ![1, 2048, 256]⟩
abbrev S8x4x1x256 : Shape := ⟨4, ![8, 4, 1, 256]⟩
abbrev S8x4x64x256 : Shape := ⟨4, ![8, 4, 64, 256]⟩
abbrev S1x128x256 : Shape := ⟨3, ![1, 128, 256]⟩
abbrev S128x256 : Shape := ⟨2, ![128, 256]⟩
abbrev S128x128 : Shape := ⟨2, ![128, 128]⟩
abbrev S1x256x128 : Shape := ⟨3, ![1, 256, 128]⟩
abbrev S256x128 : Shape := ⟨2, ![256, 128]⟩
abbrev S1x256 : Shape := ⟨2, ![1, 256]⟩
abbrev S1x1x64x256 : Shape := ⟨4, ![1, 1, 64, 256]⟩
abbrev S64x256 : Shape := ⟨2, ![64, 256]⟩
abbrev S1x192x128 : Shape := ⟨3, ![1, 192, 128]⟩
abbrev S192x128 : Shape := ⟨2, ![192, 128]⟩
abbrev S192x256 : Shape := ⟨2, ![192, 256]⟩
abbrev S64x192 : Shape := ⟨2, ![64, 192]⟩
abbrev S1x1x1x256 : Shape := ⟨4, ![1, 1, 1, 256]⟩
abbrev S1x1x256 : Shape := ⟨3, ![1, 1, 256]⟩
abbrev S1 : Shape := ⟨1, ![1]⟩
abbrev S1x1x1 : Shape := ⟨3, ![1, 1, 1]⟩
abbrev S1x256x256 : Shape := ⟨3, ![1, 256, 256]⟩

abbrev nBuf : Space → Nat
  | .hbm => 20
  | .vmem => 12
  | .smem => 0
  | _ => 0

abbrev bufTy : (tb : Table) → Fin (tcTables nBuf tb) → BufTy
  | .hbm, ⟨0, _⟩ => ⟨S8x1024x4096, .bf16⟩
  | .hbm, ⟨1, _⟩ => ⟨S8x4096x1024, .bf16⟩
  | .hbm, ⟨2, _⟩ => ⟨S8x16x1024x256, .bf16⟩
  | .hbm, ⟨3, _⟩ => ⟨S256x256, .i32⟩
  | .hbm, ⟨4, _⟩ => ⟨S256x256, .i32⟩
  | .hbm, ⟨5, _⟩ => ⟨S256x256, .i1⟩
  | .hbm, ⟨6, _⟩ => ⟨S_, .bf16⟩
  | .hbm, ⟨7, _⟩ => ⟨S256x256, .bf16⟩
  | .hbm, ⟨8, _⟩ => ⟨S_, .bf16⟩
  | .hbm, ⟨9, _⟩ => ⟨S256x256, .bf16⟩
  | .hbm, ⟨10, _⟩ => ⟨S256x256, .bf16⟩
  | .hbm, ⟨11, _⟩ => ⟨S192x192, .i32⟩
  | .hbm, ⟨12, _⟩ => ⟨S192x192, .i32⟩
  | .hbm, ⟨13, _⟩ => ⟨S192x192, .i1⟩
  | .hbm, ⟨14, _⟩ => ⟨S_, .bf16⟩
  | .hbm, ⟨15, _⟩ => ⟨S192x192, .bf16⟩
  | .hbm, ⟨16, _⟩ => ⟨S_, .bf16⟩
  | .hbm, ⟨17, _⟩ => ⟨S192x192, .bf16⟩
  | .hbm, ⟨18, _⟩ => ⟨S192x192, .bf16⟩
  | .hbm, ⟨19, _⟩ => ⟨S8x4096x1024, .bf16⟩
  | .local _ .vmem, ⟨0, _⟩ => ⟨S256x256, .bf16⟩
  | .local _ .vmem, ⟨1, _⟩ => ⟨S192x192, .bf16⟩
  | .local _ .vmem, ⟨2, _⟩ => ⟨S1x256x2048, .bf16⟩
  | .local _ .vmem, ⟨3, _⟩ => ⟨S1x256x2048, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x16x256x256, .bf16⟩
  | .local _ .vmem, ⟨7, _⟩ => ⟨S1x16x256x256, .bf16⟩
  | .local _ .vmem, ⟨8, _⟩ => ⟨S1x2048x256, .bf16⟩
  | .local _ .vmem, ⟨9, _⟩ => ⟨S1x2048x256, .bf16⟩
  | .local _ .vmem, ⟨10, _⟩ => ⟨S8x4x1x256, .f32⟩
  | .local _ .vmem, ⟨11, _⟩ => ⟨S8x4x64x256, .f32⟩
  | _, _ => ⟨S8x1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 4, 2], ![false, false, false]⟩

def k0_mult1 (i : grid0.Coords) : BitVec 32 :=
  let arg2 : BitVec 32 := BitVec.ofNat 32 (i 2).val
  let c8_i32 : BitVec 32 := 8#32
  let v0 : BitVec 32 := Scalar.muli arg2 c8_i32
  let c0_i32_179 : BitVec 32 := 0#32
  let v324 : BitVec 32 := Scalar.addi v0 c0_i32_179
  let c256_i32 : BitVec 32 := 256#32
  let v454 : BitVec 32 := Scalar.muli v324 c256_i32
  v454
def k0_off1 (i : grid0.Coords) (c0_i32_179 : BitVec 32) : Fin 3 → Nat :=
  let c0_300 : Index := 0#32
  let arg2 : BitVec 32 := BitVec.ofNat 32 (i 2).val
  let c8_i32 : BitVec 32 := 8#32
  let v0 : BitVec 32 := Scalar.muli arg2 c8_i32
  let v324 : BitVec 32 := Scalar.addi v0 c0_i32_179
  let c256_i32 : BitVec 32 := 256#32
  let v454 : BitVec 32 := Scalar.muli v324 c256_i32
  let v455 : BitVec 32 := v454
  let v456 : Index := Scalar.indexCast v455
  let c0_301 : Index := 0#32
  ![0, v456.toNat, 0]
def k0_mult2 (i : grid0.Coords) : BitVec 32 :=
  let arg2 : BitVec 32 := BitVec.ofNat 32 (i 2).val
  let c8_i32 : BitVec 32 := 8#32
  let v0 : BitVec 32 := Scalar.muli arg2 c8_i32
  let c0_i32_180 : BitVec 32 := 0#32
  let v325 : BitVec 32 := Scalar.addi v0 c0_i32_180
  let c256_i32_305 : BitVec 32 := 256#32
  let v466 : BitVec 32 := Scalar.muli v325 c256_i32_305
  v466
def k0_mult3 (i : grid0.Coords) : BitVec 32 :=
  let arg2 : BitVec 32 := BitVec.ofNat 32 (i 2).val
  let c8_i32 : BitVec 32 := 8#32
  let v0 : BitVec 32 := Scalar.muli arg2 c8_i32
  let c0_i32_181 : BitVec 32 := 0#32
  let v326 : BitVec 32 := Scalar.addi v0 c0_i32_181
  let c256_i32_311 : BitVec 32 := 256#32
  let v478 : BitVec 32 := Scalar.muli v326 c256_i32_311
  v478
def k0_off2 (i : grid0.Coords) (c0_i32_181 : BitVec 32) : Fin 3 → Nat :=
  let c0_312 : Index := 0#32
  let arg2 : BitVec 32 := BitVec.ofNat 32 (i 2).val
  let c8_i32 : BitVec 32 := 8#32
  let v0 : BitVec 32 := Scalar.muli arg2 c8_i32
  let v326 : BitVec 32 := Scalar.addi v0 c0_i32_181
  let c256_i32_311 : BitVec 32 := 256#32
  let v478 : BitVec 32 := Scalar.muli v326 c256_i32_311
  let v479 : BitVec 32 := v478
  let v480 : Index := Scalar.indexCast v479
  let c128_313 : Index := 128#32
  ![0, v480.toNat, 128]
def k0_mult4 (i : grid0.Coords) : BitVec 32 :=
  let arg2 : BitVec 32 := BitVec.ofNat 32 (i 2).val
  let c8_i32 : BitVec 32 := 8#32
  let v0 : BitVec 32 := Scalar.muli arg2 c8_i32
  let c0_i32_182 : BitVec 32 := 0#32
  let v327 : BitVec 32 := Scalar.addi v0 c0_i32_182
  let c256_i32_323 : BitVec 32 := 256#32
  let v508 : BitVec 32 := Scalar.muli v327 c256_i32_323
  v508
def k0_mult5 (i : grid0.Coords) : BitVec 32 :=
  let arg2 : BitVec 32 := BitVec.ofNat 32 (i 2).val
  let c8_i32 : BitVec 32 := 8#32
  let v0 : BitVec 32 := Scalar.muli arg2 c8_i32
  let c1_i32 : BitVec 32 := 1#32
  let v328 : BitVec 32 := Scalar.addi v0 c1_i32
  let c256_i32_339 : BitVec 32 := 256#32
  let v546 : BitVec 32 := Scalar.muli v328 c256_i32_339
  v546
def k0_mult6 (i : grid0.Coords) : BitVec 32 :=
  let arg2 : BitVec 32 := BitVec.ofNat 32 (i 2).val
  let c8_i32 : BitVec 32 := 8#32
  let v0 : BitVec 32 := Scalar.muli arg2 c8_i32
  let c1_i32_183 : BitVec 32 := 1#32
  let v329 : BitVec 32 := Scalar.addi v0 c1_i32_183
  let c256_i32_356 : BitVec 32 := 256#32
  let v600 : BitVec 32 := Scalar.muli v329 c256_i32_356
  v600
def k0_off3 (i : grid0.Coords) (c0_i32_179 : BitVec 32) : Fin 4 → Nat :=
  let c0_373 : Index := 0#32
  let arg2 : BitVec 32 := BitVec.ofNat 32 (i 2).val
  let c8_i32 : BitVec 32 := 8#32
  let v0 : BitVec 32 := Scalar.muli arg2 c8_i32
  let v324 : BitVec 32 := Scalar.addi v0 c0_i32_179
  let v654 : Index := Scalar.indexCast v324
  let c0_374 : Index := 0#32
  let c0_375 : Index := 0#32
  ![0, v654.toNat, 0, 0]
def k0_mult7 (i : grid0.Coords) : BitVec 32 :=
  let arg2 : BitVec 32 := BitVec.ofNat 32 (i 2).val
  let c8_i32 : BitVec 32 := 8#32
  let v0 : BitVec 32 := Scalar.muli arg2 c8_i32
  let c1_i32_184 : BitVec 32 := 1#32
  let v330 : BitVec 32 := Scalar.addi v0 c1_i32_184
  let c256_i32_377 : BitVec 32 := 256#32
  let v658 : BitVec 32 := Scalar.muli v330 c256_i32_377
  v658
def k0_off4 (i : grid0.Coords) (c0_i32_180 : BitVec 32) : Fin 4 → Nat :=
  let c0_394 : Index := 0#32
  let arg2 : BitVec 32 := BitVec.ofNat 32 (i 2).val
  let c8_i32 : BitVec 32 := 8#32
  let v0 : BitVec 32 := Scalar.muli arg2 c8_i32
  let v325 : BitVec 32 := Scalar.addi v0 c0_i32_180
  let v712 : Index := Scalar.indexCast v325
  let c64 : Index := 64#32
  let c0_395 : Index := 0#32
  ![0, v712.toNat, 64, 0]
def k0_mult8 (i : grid0.Coords) : BitVec 32 :=
  let arg2 : BitVec 32 := BitVec.ofNat 32 (i 2).val
  let c8_i32 : BitVec 32 := 8#32
  let v0 : BitVec 32 := Scalar.muli arg2 c8_i32
  let c1_i32_185 : BitVec 32 := 1#32
  let v331 : BitVec 32 := Scalar.addi v0 c1_i32_185
  let c256_i32_397 : BitVec 32 := 256#32
  let v716 : BitVec 32 := Scalar.muli v331 c256_i32_397
  v716
def k0_off5 (i : grid0.Coords) (c0_i32_181 : BitVec 32) : Fin 4 → Nat :=
  let c0_414 : Index := 0#32
  let arg2 : BitVec 32 := BitVec.ofNat 32 (i 2).val
  let c8_i32 : BitVec 32 := 8#32
  let v0 : BitVec 32 := Scalar.muli arg2 c8_i32
  let v326 : BitVec 32 := Scalar.addi v0 c0_i32_181
  let v770 : Index := Scalar.indexCast v326
  let c128_415 : Index := 128#32
  let c0_416 : Index := 0#32
  ![0, v770.toNat, 128, 0]
def k0_mult9 (i : grid0.Coords) : BitVec 32 :=
  let arg2 : BitVec 32 := BitVec.ofNat 32 (i 2).val
  let c8_i32 : BitVec 32 := 8#32
  let v0 : BitVec 32 := Scalar.muli arg2 c8_i32
  let c2_i32 : BitVec 32 := 2#32
  let v332 : BitVec 32 := Scalar.addi v0 c2_i32
  let c256_i32_418 : BitVec 32 := 256#32
  let v774 : BitVec 32 := Scalar.muli v332 c256_i32_418
  v774
def k0_off6 (i : grid0.Coords) (c0_i32_182 : BitVec 32) : Fin 4 → Nat :=
  let c0_435 : Index := 0#32
  let arg2 : BitVec 32 := BitVec.ofNat 32 (i 2).val
  let c8_i32 : BitVec 32 := 8#32
  let v0 : BitVec 32 := Scalar.muli arg2 c8_i32
  let v327 : BitVec 32 := Scalar.addi v0 c0_i32_182
  let v828 : Index := Scalar.indexCast v327
  let c192 : Index := 192#32
  let c0_436 : Index := 0#32
  ![0, v828.toNat, 192, 0]
def k0_mult10 (i : grid0.Coords) : BitVec 32 :=
  let arg2 : BitVec 32 := BitVec.ofNat 32 (i 2).val
  let c8_i32 : BitVec 32 := 8#32
  let v0 : BitVec 32 := Scalar.muli arg2 c8_i32
  let c2_i32_186 : BitVec 32 := 2#32
  let v333 : BitVec 32 := Scalar.addi v0 c2_i32_186
  let c256_i32_438 : BitVec 32 := 256#32
  let v832 : BitVec 32 := Scalar.muli v333 c256_i32_438
  v832
def k0_mult11 (i : grid0.Coords) : BitVec 32 :=
  let arg2 : BitVec 32 := BitVec.ofNat 32 (i 2).val
  let c8_i32 : BitVec 32 := 8#32
  let v0 : BitVec 32 := Scalar.muli arg2 c8_i32
  let c2_i32_187 : BitVec 32 := 2#32
  let v334 : BitVec 32 := Scalar.addi v0 c2_i32_187
  let c256_i32_459 : BitVec 32 := 256#32
  let v890 : BitVec 32 := Scalar.muli v334 c256_i32_459
  v890
def k0_mult12 (i : grid0.Coords) : BitVec 32 :=
  let arg2 : BitVec 32 := BitVec.ofNat 32 (i 2).val
  let c8_i32 : BitVec 32 := 8#32
  let v0 : BitVec 32 := Scalar.muli arg2 c8_i32
  let c2_i32_188 : BitVec 32 := 2#32
  let v335 : BitVec 32 := Scalar.addi v0 c2_i32_188
  let c256_i32_480 : BitVec 32 := 256#32
  let v948 : BitVec 32 := Scalar.muli v335 c256_i32_480
  v948
def k0_mult13 (i : grid0.Coords) : BitVec 32 :=
  let arg2 : BitVec 32 := BitVec.ofNat 32 (i 2).val
  let c8_i32 : BitVec 32 := 8#32
  let v0 : BitVec 32 := Scalar.muli arg2 c8_i32
  let c3_i32 : BitVec 32 := 3#32
  let v336 : BitVec 32 := Scalar.addi v0 c3_i32
  let c256_i32_501 : BitVec 32 := 256#32
  let v1006 : BitVec 32 := Scalar.muli v336 c256_i32_501
  v1006
def k0_mult14 (i : grid0.Coords) : BitVec 32 :=
  let arg2 : BitVec 32 := BitVec.ofNat 32 (i 2).val
  let c8_i32 : BitVec 32 := 8#32
  let v0 : BitVec 32 := Scalar.muli arg2 c8_i32
  let c3_i32_189 : BitVec 32 := 3#32
  let v337 : BitVec 32 := Scalar.addi v0 c3_i32_189
  let c256_i32_522 : BitVec 32 := 256#32
  let v1064 : BitVec 32 := Scalar.muli v337 c256_i32_522
  v1064
def k0_mult15 (i : grid0.Coords) : BitVec 32 :=
  let arg2 : BitVec 32 := BitVec.ofNat 32 (i 2).val
  let c8_i32 : BitVec 32 := 8#32
  let v0 : BitVec 32 := Scalar.muli arg2 c8_i32
  let c3_i32_190 : BitVec 32 := 3#32
  let v338 : BitVec 32 := Scalar.addi v0 c3_i32_190
  let c256_i32_543 : BitVec 32 := 256#32
  let v1122 : BitVec 32 := Scalar.muli v338 c256_i32_543
  v1122
def k0_mult16 (i : grid0.Coords) : BitVec 32 :=
  let arg2 : BitVec 32 := BitVec.ofNat 32 (i 2).val
  let c8_i32 : BitVec 32 := 8#32
  let v0 : BitVec 32 := Scalar.muli arg2 c8_i32
  let c3_i32_191 : BitVec 32 := 3#32
  let v339 : BitVec 32 := Scalar.addi v0 c3_i32_191
  let c256_i32_564 : BitVec 32 := 256#32
  let v1180 : BitVec 32 := Scalar.muli v339 c256_i32_564
  v1180
def k0_mult17 (i : grid0.Coords) : BitVec 32 :=
  let arg2 : BitVec 32 := BitVec.ofNat 32 (i 2).val
  let c8_i32 : BitVec 32 := 8#32
  let v0 : BitVec 32 := Scalar.muli arg2 c8_i32
  let c4_i32 : BitVec 32 := 4#32
  let v340 : BitVec 32 := Scalar.addi v0 c4_i32
  let c256_i32_585 : BitVec 32 := 256#32
  let v1238 : BitVec 32 := Scalar.muli v340 c256_i32_585
  v1238
def k0_mult18 (i : grid0.Coords) : BitVec 32 :=
  let arg2 : BitVec 32 := BitVec.ofNat 32 (i 2).val
  let c8_i32 : BitVec 32 := 8#32
  let v0 : BitVec 32 := Scalar.muli arg2 c8_i32
  let c4_i32_192 : BitVec 32 := 4#32
  let v341 : BitVec 32 := Scalar.addi v0 c4_i32_192
  let c256_i32_606 : BitVec 32 := 256#32
  let v1296 : BitVec 32 := Scalar.muli v341 c256_i32_606
  v1296
def k0_mult19 (i : grid0.Coords) : BitVec 32 :=
  let arg2 : BitVec 32 := BitVec.ofNat 32 (i 2).val
  let c8_i32 : BitVec 32 := 8#32
  let v0 : BitVec 32 := Scalar.muli arg2 c8_i32
  let c4_i32_193 : BitVec 32 := 4#32
  let v342 : BitVec 32 := Scalar.addi v0 c4_i32_193
  let c256_i32_627 : BitVec 32 := 256#32
  let v1354 : BitVec 32 := Scalar.muli v342 c256_i32_627
  v1354
def k0_mult20 (i : grid0.Coords) : BitVec 32 :=
  let arg2 : BitVec 32 := BitVec.ofNat 32 (i 2).val
  let c8_i32 : BitVec 32 := 8#32
  let v0 : BitVec 32 := Scalar.muli arg2 c8_i32
  let c4_i32_194 : BitVec 32 := 4#32
  let v343 : BitVec 32 := Scalar.addi v0 c4_i32_194
  let c256_i32_648 : BitVec 32 := 256#32
  let v1412 : BitVec 32 := Scalar.muli v343 c256_i32_648
  v1412
def k0_mult21 (i : grid0.Coords) : BitVec 32 :=
  let arg2 : BitVec 32 := BitVec.ofNat 32 (i 2).val
  let c8_i32 : BitVec 32 := 8#32
  let v0 : BitVec 32 := Scalar.muli arg2 c8_i32
  let c5_i32 : BitVec 32 := 5#32
  let v344 : BitVec 32 := Scalar.addi v0 c5_i32
  let c256_i32_669 : BitVec 32 := 256#32
  let v1470 : BitVec 32 := Scalar.muli v344 c256_i32_669
  v1470
def k0_mult22 (i : grid0.Coords) : BitVec 32 :=
  let arg2 : BitVec 32 := BitVec.ofNat 32 (i 2).val
  let c8_i32 : BitVec 32 := 8#32
  let v0 : BitVec 32 := Scalar.muli arg2 c8_i32
  let c5_i32_195 : BitVec 32 := 5#32
  let v345 : BitVec 32 := Scalar.addi v0 c5_i32_195
  let c256_i32_690 : BitVec 32 := 256#32
  let v1528 : BitVec 32 := Scalar.muli v345 c256_i32_690
  v1528
def k0_mult23 (i : grid0.Coords) : BitVec 32 :=
  let arg2 : BitVec 32 := BitVec.ofNat 32 (i 2).val
  let c8_i32 : BitVec 32 := 8#32
  let v0 : BitVec 32 := Scalar.muli arg2 c8_i32
  let c5_i32_196 : BitVec 32 := 5#32
  let v346 : BitVec 32 := Scalar.addi v0 c5_i32_196
  let c256_i32_711 : BitVec 32 := 256#32
  let v1586 : BitVec 32 := Scalar.muli v346 c256_i32_711
  v1586
def k0_mult24 (i : grid0.Coords) : BitVec 32 :=
  let arg2 : BitVec 32 := BitVec.ofNat 32 (i 2).val
  let c8_i32 : BitVec 32 := 8#32
  let v0 : BitVec 32 := Scalar.muli arg2 c8_i32
  let c5_i32_197 : BitVec 32 := 5#32
  let v347 : BitVec 32 := Scalar.addi v0 c5_i32_197
  let c256_i32_732 : BitVec 32 := 256#32
  let v1644 : BitVec 32 := Scalar.muli v347 c256_i32_732
  v1644
def k0_mult25 (i : grid0.Coords) : BitVec 32 :=
  let arg2 : BitVec 32 := BitVec.ofNat 32 (i 2).val
  let c8_i32 : BitVec 32 := 8#32
  let v0 : BitVec 32 := Scalar.muli arg2 c8_i32
  let c6_i32 : BitVec 32 := 6#32
  let v348 : BitVec 32 := Scalar.addi v0 c6_i32
  let c256_i32_753 : BitVec 32 := 256#32
  let v1702 : BitVec 32 := Scalar.muli v348 c256_i32_753
  v1702
def k0_mult26 (i : grid0.Coords) : BitVec 32 :=
  let arg2 : BitVec 32 := BitVec.ofNat 32 (i 2).val
  let c8_i32 : BitVec 32 := 8#32
  let v0 : BitVec 32 := Scalar.muli arg2 c8_i32
  let c6_i32_198 : BitVec 32 := 6#32
  let v349 : BitVec 32 := Scalar.addi v0 c6_i32_198
  let c256_i32_774 : BitVec 32 := 256#32
  let v1760 : BitVec 32 := Scalar.muli v349 c256_i32_774
  v1760
def k0_mult27 (i : grid0.Coords) : BitVec 32 :=
  let arg2 : BitVec 32 := BitVec.ofNat 32 (i 2).val
  let c8_i32 : BitVec 32 := 8#32
  let v0 : BitVec 32 := Scalar.muli arg2 c8_i32
  let c6_i32_199 : BitVec 32 := 6#32
  let v350 : BitVec 32 := Scalar.addi v0 c6_i32_199
  let c256_i32_795 : BitVec 32 := 256#32
  let v1818 : BitVec 32 := Scalar.muli v350 c256_i32_795
  v1818
def k0_mult28 (i : grid0.Coords) : BitVec 32 :=
  let arg2 : BitVec 32 := BitVec.ofNat 32 (i 2).val
  let c8_i32 : BitVec 32 := 8#32
  let v0 : BitVec 32 := Scalar.muli arg2 c8_i32
  let c6_i32_200 : BitVec 32 := 6#32
  let v351 : BitVec 32 := Scalar.addi v0 c6_i32_200
  let c256_i32_816 : BitVec 32 := 256#32
  let v1876 : BitVec 32 := Scalar.muli v351 c256_i32_816
  v1876
def k0_mult29 (i : grid0.Coords) : BitVec 32 :=
  let arg2 : BitVec 32 := BitVec.ofNat 32 (i 2).val
  let c8_i32 : BitVec 32 := 8#32
  let v0 : BitVec 32 := Scalar.muli arg2 c8_i32
  let c7_i32 : BitVec 32 := 7#32
  let v352 : BitVec 32 := Scalar.addi v0 c7_i32
  let c256_i32_837 : BitVec 32 := 256#32
  let v1934 : BitVec 32 := Scalar.muli v352 c256_i32_837
  v1934
def k0_mult30 (i : grid0.Coords) : BitVec 32 :=
  let arg2 : BitVec 32 := BitVec.ofNat 32 (i 2).val
  let c8_i32 : BitVec 32 := 8#32
  let v0 : BitVec 32 := Scalar.muli arg2 c8_i32
  let c7_i32_201 : BitVec 32 := 7#32
  let v353 : BitVec 32 := Scalar.addi v0 c7_i32_201
  let c256_i32_858 : BitVec 32 := 256#32
  let v1992 : BitVec 32 := Scalar.muli v353 c256_i32_858
  v1992
def k0_mult31 (i : grid0.Coords) : BitVec 32 :=
  let arg2 : BitVec 32 := BitVec.ofNat 32 (i 2).val
  let c8_i32 : BitVec 32 := 8#32
  let v0 : BitVec 32 := Scalar.muli arg2 c8_i32
  let c7_i32_202 : BitVec 32 := 7#32
  let v354 : BitVec 32 := Scalar.addi v0 c7_i32_202
  let c256_i32_879 : BitVec 32 := 256#32
  let v2050 : BitVec 32 := Scalar.muli v354 c256_i32_879
  v2050
def k0_mult32 (i : grid0.Coords) : BitVec 32 :=
  let arg2 : BitVec 32 := BitVec.ofNat 32 (i 2).val
  let c8_i32 : BitVec 32 := 8#32
  let v0 : BitVec 32 := Scalar.muli arg2 c8_i32
  let c7_i32_203 : BitVec 32 := 7#32
  let v355 : BitVec 32 := Scalar.addi v0 c7_i32_203
  let c256_i32_900 : BitVec 32 := 256#32
  let v2108 : BitVec 32 := Scalar.muli v355 c256_i32_900
  v2108
def k0_mult33 (i : grid0.Coords) : BitVec 32 :=
  let arg2 : BitVec 32 := BitVec.ofNat 32 (i 2).val
  let c8_i32 : BitVec 32 := 8#32
  let v0 : BitVec 32 := Scalar.muli arg2 c8_i32
  let c0_i32_204 : BitVec 32 := 0#32
  let v356 : BitVec 32 := Scalar.addi v0 c0_i32_204
  let c1_i32_205 : BitVec 32 := 1#32
  let v357 : BitVec 32 := Scalar.subi v356 c1_i32_205
  let c0_i32_206 : BitVec 32 := 0#32
  let v358 : BitVec 32 := Scalar.maxsi v357 c0_i32_206
  let c256_i32_921 : BitVec 32 := 256#32
  let v2166 : BitVec 32 := Scalar.muli v358 c256_i32_921
  let c64_i32_922 : BitVec 32 := 64#32
  let v2167 : BitVec 32 := Scalar.addi v2166 c64_i32_922
  v2167
def k0_off7 (i : grid0.Coords) (c0_i32_204 : BitVec 32) : Fin 3 → Nat :=
  let c0_923 : Index := 0#32
  let arg2 : BitVec 32 := BitVec.ofNat 32 (i 2).val
  let c8_i32 : BitVec 32 := 8#32
  let v0 : BitVec 32 := Scalar.muli arg2 c8_i32
  let v356 : BitVec 32 := Scalar.addi v0 c0_i32_204
  let c1_i32_205 : BitVec 32 := 1#32
  let v357 : BitVec 32 := Scalar.subi v356 c1_i32_205
  let c0_i32_206 : BitVec 32 := 0#32
  let v358 : BitVec 32 := Scalar.maxsi v357 c0_i32_206
  let c256_i32_921 : BitVec 32 := 256#32
  let v2166 : BitVec 32 := Scalar.muli v358 c256_i32_921
  let c64_i32_922 : BitVec 32 := 64#32
  let v2167 : BitVec 32 := Scalar.addi v2166 c64_i32_922
  let v2168 : BitVec 32 := v2167
  let v2169 : Index := Scalar.indexCast v2168
  let c0_924 : Index := 0#32
  ![0, v2169.toNat, 0]
def k0_mult34 (i : grid0.Coords) : BitVec 32 :=
  let arg2 : BitVec 32 := BitVec.ofNat 32 (i 2).val
  let c8_i32 : BitVec 32 := 8#32
  let v0 : BitVec 32 := Scalar.muli arg2 c8_i32
  let c0_i32_207 : BitVec 32 := 0#32
  let v359 : BitVec 32 := Scalar.addi v0 c0_i32_207
  let c1_i32_208 : BitVec 32 := 1#32
  let v360 : BitVec 32 := Scalar.subi v359 c1_i32_208
  let c0_i32_209 : BitVec 32 := 0#32
  let v361 : BitVec 32 := Scalar.maxsi v360 c0_i32_209
  let c256_i32_941 : BitVec 32 := 256#32
  let v2219 : BitVec 32 := Scalar.muli v361 c256_i32_941
  let c64_i32_942 : BitVec 32 := 64#32
  let v2220 : BitVec 32 := Scalar.addi v2219 c64_i32_942
  v2220
def k0_mult35 (i : grid0.Coords) : BitVec 32 :=
  let arg2 : BitVec 32 := BitVec.ofNat 32 (i 2).val
  let c8_i32 : BitVec 32 := 8#32
  let v0 : BitVec 32 := Scalar.muli arg2 c8_i32
  let c0_i32_210 : BitVec 32 := 0#32
  let v362 : BitVec 32 := Scalar.addi v0 c0_i32_210
  let c1_i32_211 : BitVec 32 := 1#32
  let v363 : BitVec 32 := Scalar.subi v362 c1_i32_211
  let c0_i32_212 : BitVec 32 := 0#32
  let v364 : BitVec 32 := Scalar.maxsi v363 c0_i32_212
  let c256_i32_961 : BitVec 32 := 256#32
  let v2272 : BitVec 32 := Scalar.muli v364 c256_i32_961
  let c64_i32_962 : BitVec 32 := 64#32
  let v2273 : BitVec 32 := Scalar.addi v2272 c64_i32_962
  v2273
def k0_off8 (i : grid0.Coords) (c0_i32_210 : BitVec 32) : Fin 3 → Nat :=
  let c0_963 : Index := 0#32
  let arg2 : BitVec 32 := BitVec.ofNat 32 (i 2).val
  let c8_i32 : BitVec 32 := 8#32
  let v0 : BitVec 32 := Scalar.muli arg2 c8_i32
  let v362 : BitVec 32 := Scalar.addi v0 c0_i32_210
  let c1_i32_211 : BitVec 32 := 1#32
  let v363 : BitVec 32 := Scalar.subi v362 c1_i32_211
  let c0_i32_212 : BitVec 32 := 0#32
  let v364 : BitVec 32 := Scalar.maxsi v363 c0_i32_212
  let c256_i32_961 : BitVec 32 := 256#32
  let v2272 : BitVec 32 := Scalar.muli v364 c256_i32_961
  let c64_i32_962 : BitVec 32 := 64#32
  let v2273 : BitVec 32 := Scalar.addi v2272 c64_i32_962
  let v2274 : BitVec 32 := v2273
  let v2275 : Index := Scalar.indexCast v2274
  let c128_964 : Index := 128#32
  ![0, v2275.toNat, 128]
def k0_mult36 (i : grid0.Coords) : BitVec 32 :=
  let arg2 : BitVec 32 := BitVec.ofNat 32 (i 2).val
  let c8_i32 : BitVec 32 := 8#32
  let v0 : BitVec 32 := Scalar.muli arg2 c8_i32
  let c0_i32_213 : BitVec 32 := 0#32
  let v365 : BitVec 32 := Scalar.addi v0 c0_i32_213
  let c1_i32_214 : BitVec 32 := 1#32
  let v366 : BitVec 32 := Scalar.subi v365 c1_i32_214
  let c0_i32_215 : BitVec 32 := 0#32
  let v367 : BitVec 32 := Scalar.maxsi v366 c0_i32_215
  let c256_i32_978 : BitVec 32 := 256#32
  let v2316 : BitVec 32 := Scalar.muli v367 c256_i32_978
  let c64_i32_979 : BitVec 32 := 64#32
  let v2317 : BitVec 32 := Scalar.addi v2316 c64_i32_979
  v2317
def k0_mult37 (i : grid0.Coords) : BitVec 32 :=
  let arg2 : BitVec 32 := BitVec.ofNat 32 (i 2).val
  let c8_i32 : BitVec 32 := 8#32
  let v0 : BitVec 32 := Scalar.muli arg2 c8_i32
  let c1_i32_216 : BitVec 32 := 1#32
  let v368 : BitVec 32 := Scalar.addi v0 c1_i32_216
  let c1_i32_217 : BitVec 32 := 1#32
  let v369 : BitVec 32 := Scalar.subi v368 c1_i32_217
  let c0_i32_218 : BitVec 32 := 0#32
  let v370 : BitVec 32 := Scalar.maxsi v369 c0_i32_218
  let c256_i32_994 : BitVec 32 := 256#32
  let v2356 : BitVec 32 := Scalar.muli v370 c256_i32_994
  let c64_i32_995 : BitVec 32 := 64#32
  let v2357 : BitVec 32 := Scalar.addi v2356 c64_i32_995
  v2357
def k0_mult38 (i : grid0.Coords) : BitVec 32 :=
  let arg2 : BitVec 32 := BitVec.ofNat 32 (i 2).val
  let c8_i32 : BitVec 32 := 8#32
  let v0 : BitVec 32 := Scalar.muli arg2 c8_i32
  let c1_i32_219 : BitVec 32 := 1#32
  let v371 : BitVec 32 := Scalar.addi v0 c1_i32_219
  let c1_i32_220 : BitVec 32 := 1#32
  let v372 : BitVec 32 := Scalar.subi v371 c1_i32_220
  let c0_i32_221 : BitVec 32 := 0#32
  let v373 : BitVec 32 := Scalar.maxsi v372 c0_i32_221
  let c256_i32_1012 : BitVec 32 := 256#32
  let v2393 : BitVec 32 := Scalar.muli v373 c256_i32_1012
  let c64_i32_1013 : BitVec 32 := 64#32
  let v2394 : BitVec 32 := Scalar.addi v2393 c64_i32_1013
  v2394
def k0_off9 (i : grid0.Coords) (c0_i32_204 : BitVec 32) : Fin 4 → Nat :=
  let c0_1026 : Index := 0#32
  let arg2 : BitVec 32 := BitVec.ofNat 32 (i 2).val
  let c8_i32 : BitVec 32 := 8#32
  let v0 : BitVec 32 := Scalar.muli arg2 c8_i32
  let v356 : BitVec 32 := Scalar.addi v0 c0_i32_204
  let c1_i32_205 : BitVec 32 := 1#32
  let v357 : BitVec 32 := Scalar.subi v356 c1_i32_205
  let c0_i32_206 : BitVec 32 := 0#32
  let v358 : BitVec 32 := Scalar.maxsi v357 c0_i32_206
  let v2426 : Index := Scalar.indexCast v358
  let c0_1027 : Index := 0#32
  let c0_1028 : Index := 0#32
  ![0, v2426.toNat, 0, 0]
def k0_mult39 (i : grid0.Coords) : BitVec 32 :=
  let arg2 : BitVec 32 := BitVec.ofNat 32 (i 2).val
  let c8_i32 : BitVec 32 := 8#32
  let v0 : BitVec 32 := Scalar.muli arg2 c8_i32
  let c1_i32_222 : BitVec 32 := 1#32
  let v374 : BitVec 32 := Scalar.addi v0 c1_i32_222
  let c1_i32_223 : BitVec 32 := 1#32
  let v375 : BitVec 32 := Scalar.subi v374 c1_i32_223
  let c0_i32_224 : BitVec 32 := 0#32
  let v376 : BitVec 32 := Scalar.maxsi v375 c0_i32_224
  let c256_i32_1030 : BitVec 32 := 256#32
  let v2431 : BitVec 32 := Scalar.muli v376 c256_i32_1030
  let c64_i32_1031 : BitVec 32 := 64#32
  let v2432 : BitVec 32 := Scalar.addi v2431 c64_i32_1031
  v2432
def k0_off10 (i : grid0.Coords) (c0_i32_207 : BitVec 32) : Fin 4 → Nat :=
  let c0_1044 : Index := 0#32
  let arg2 : BitVec 32 := BitVec.ofNat 32 (i 2).val
  let c8_i32 : BitVec 32 := 8#32
  let v0 : BitVec 32 := Scalar.muli arg2 c8_i32
  let v359 : BitVec 32 := Scalar.addi v0 c0_i32_207
  let c1_i32_208 : BitVec 32 := 1#32
  let v360 : BitVec 32 := Scalar.subi v359 c1_i32_208
  let c0_i32_209 : BitVec 32 := 0#32
  let v361 : BitVec 32 := Scalar.maxsi v360 c0_i32_209
  let v2464 : Index := Scalar.indexCast v361
  let c64_1045 : Index := 64#32
  let c0_1046 : Index := 0#32
  ![0, v2464.toNat, 64, 0]
def k0_mult40 (i : grid0.Coords) : BitVec 32 :=
  let arg2 : BitVec 32 := BitVec.ofNat 32 (i 2).val
  let c8_i32 : BitVec 32 := 8#32
  let v0 : BitVec 32 := Scalar.muli arg2 c8_i32
  let c1_i32_225 : BitVec 32 := 1#32
  let v377 : BitVec 32 := Scalar.addi v0 c1_i32_225
  let c1_i32_226 : BitVec 32 := 1#32
  let v378 : BitVec 32 := Scalar.subi v377 c1_i32_226
  let c0_i32_227 : BitVec 32 := 0#32
  let v379 : BitVec 32 := Scalar.maxsi v378 c0_i32_227
  let c256_i32_1048 : BitVec 32 := 256#32
  let v2469 : BitVec 32 := Scalar.muli v379 c256_i32_1048
  let c64_i32_1049 : BitVec 32 := 64#32
  let v2470 : BitVec 32 := Scalar.addi v2469 c64_i32_1049
  v2470
def k0_off11 (i : grid0.Coords) (c0_i32_210 : BitVec 32) : Fin 4 → Nat :=
  let c0_1062 : Index := 0#32
  let arg2 : BitVec 32 := BitVec.ofNat 32 (i 2).val
  let c8_i32 : BitVec 32 := 8#32
  let v0 : BitVec 32 := Scalar.muli arg2 c8_i32
  let v362 : BitVec 32 := Scalar.addi v0 c0_i32_210
  let c1_i32_211 : BitVec 32 := 1#32
  let v363 : BitVec 32 := Scalar.subi v362 c1_i32_211
  let c0_i32_212 : BitVec 32 := 0#32
  let v364 : BitVec 32 := Scalar.maxsi v363 c0_i32_212
  let v2502 : Index := Scalar.indexCast v364
  let c128_1063 : Index := 128#32
  let c0_1064 : Index := 0#32
  ![0, v2502.toNat, 128, 0]
def k0_mult41 (i : grid0.Coords) : BitVec 32 :=
  let arg2 : BitVec 32 := BitVec.ofNat 32 (i 2).val
  let c8_i32 : BitVec 32 := 8#32
  let v0 : BitVec 32 := Scalar.muli arg2 c8_i32
  let c2_i32_228 : BitVec 32 := 2#32
  let v380 : BitVec 32 := Scalar.addi v0 c2_i32_228
  let c1_i32_229 : BitVec 32 := 1#32
  let v381 : BitVec 32 := Scalar.subi v380 c1_i32_229
  let c0_i32_230 : BitVec 32 := 0#32
  let v382 : BitVec 32 := Scalar.maxsi v381 c0_i32_230
  let c256_i32_1066 : BitVec 32 := 256#32
  let v2507 : BitVec 32 := Scalar.muli v382 c256_i32_1066
  let c64_i32_1067 : BitVec 32 := 64#32
  let v2508 : BitVec 32 := Scalar.addi v2507 c64_i32_1067
  v2508
def k0_off12 (i : grid0.Coords) (c0_i32_213 : BitVec 32) : Fin 4 → Nat :=
  let c0_1080 : Index := 0#32
  let arg2 : BitVec 32 := BitVec.ofNat 32 (i 2).val
  let c8_i32 : BitVec 32 := 8#32
  let v0 : BitVec 32 := Scalar.muli arg2 c8_i32
  let v365 : BitVec 32 := Scalar.addi v0 c0_i32_213
  let c1_i32_214 : BitVec 32 := 1#32
  let v366 : BitVec 32 := Scalar.subi v365 c1_i32_214
  let c0_i32_215 : BitVec 32 := 0#32
  let v367 : BitVec 32 := Scalar.maxsi v366 c0_i32_215
  let v2540 : Index := Scalar.indexCast v367
  let c192_1081 : Index := 192#32
  let c0_1082 : Index := 0#32
  ![0, v2540.toNat, 192, 0]
def k0_mult42 (i : grid0.Coords) : BitVec 32 :=
  let arg2 : BitVec 32 := BitVec.ofNat 32 (i 2).val
  let c8_i32 : BitVec 32 := 8#32
  let v0 : BitVec 32 := Scalar.muli arg2 c8_i32
  let c2_i32_231 : BitVec 32 := 2#32
  let v383 : BitVec 32 := Scalar.addi v0 c2_i32_231
  let c1_i32_232 : BitVec 32 := 1#32
  let v384 : BitVec 32 := Scalar.subi v383 c1_i32_232
  let c0_i32_233 : BitVec 32 := 0#32
  let v385 : BitVec 32 := Scalar.maxsi v384 c0_i32_233
  let c256_i32_1084 : BitVec 32 := 256#32
  let v2545 : BitVec 32 := Scalar.muli v385 c256_i32_1084
  let c64_i32_1085 : BitVec 32 := 64#32
  let v2546 : BitVec 32 := Scalar.addi v2545 c64_i32_1085
  v2546
def k0_mult43 (i : grid0.Coords) : BitVec 32 :=
  let arg2 : BitVec 32 := BitVec.ofNat 32 (i 2).val
  let c8_i32 : BitVec 32 := 8#32
  let v0 : BitVec 32 := Scalar.muli arg2 c8_i32
  let c2_i32_234 : BitVec 32 := 2#32
  let v386 : BitVec 32 := Scalar.addi v0 c2_i32_234
  let c1_i32_235 : BitVec 32 := 1#32
  let v387 : BitVec 32 := Scalar.subi v386 c1_i32_235
  let c0_i32_236 : BitVec 32 := 0#32
  let v388 : BitVec 32 := Scalar.maxsi v387 c0_i32_236
  let c256_i32_1102 : BitVec 32 := 256#32
  let v2583 : BitVec 32 := Scalar.muli v388 c256_i32_1102
  let c64_i32_1103 : BitVec 32 := 64#32
  let v2584 : BitVec 32 := Scalar.addi v2583 c64_i32_1103
  v2584
def k0_mult44 (i : grid0.Coords) : BitVec 32 :=
  let arg2 : BitVec 32 := BitVec.ofNat 32 (i 2).val
  let c8_i32 : BitVec 32 := 8#32
  let v0 : BitVec 32 := Scalar.muli arg2 c8_i32
  let c2_i32_237 : BitVec 32 := 2#32
  let v389 : BitVec 32 := Scalar.addi v0 c2_i32_237
  let c1_i32_238 : BitVec 32 := 1#32
  let v390 : BitVec 32 := Scalar.subi v389 c1_i32_238
  let c0_i32_239 : BitVec 32 := 0#32
  let v391 : BitVec 32 := Scalar.maxsi v390 c0_i32_239
  let c256_i32_1120 : BitVec 32 := 256#32
  let v2621 : BitVec 32 := Scalar.muli v391 c256_i32_1120
  let c64_i32_1121 : BitVec 32 := 64#32
  let v2622 : BitVec 32 := Scalar.addi v2621 c64_i32_1121
  v2622
def k0_mult45 (i : grid0.Coords) : BitVec 32 :=
  let arg2 : BitVec 32 := BitVec.ofNat 32 (i 2).val
  let c8_i32 : BitVec 32 := 8#32
  let v0 : BitVec 32 := Scalar.muli arg2 c8_i32
  let c3_i32_240 : BitVec 32 := 3#32
  let v392 : BitVec 32 := Scalar.addi v0 c3_i32_240
  let c1_i32_241 : BitVec 32 := 1#32
  let v393 : BitVec 32 := Scalar.subi v392 c1_i32_241
  let c0_i32_242 : BitVec 32 := 0#32
  let v394 : BitVec 32 := Scalar.maxsi v393 c0_i32_242
  let c256_i32_1138 : BitVec 32 := 256#32
  let v2659 : BitVec 32 := Scalar.muli v394 c256_i32_1138
  let c64_i32_1139 : BitVec 32 := 64#32
  let v2660 : BitVec 32 := Scalar.addi v2659 c64_i32_1139
  v2660
def k0_mult46 (i : grid0.Coords) : BitVec 32 :=
  let arg2 : BitVec 32 := BitVec.ofNat 32 (i 2).val
  let c8_i32 : BitVec 32 := 8#32
  let v0 : BitVec 32 := Scalar.muli arg2 c8_i32
  let c3_i32_243 : BitVec 32 := 3#32
  let v395 : BitVec 32 := Scalar.addi v0 c3_i32_243
  let c1_i32_244 : BitVec 32 := 1#32
  let v396 : BitVec 32 := Scalar.subi v395 c1_i32_244
  let c0_i32_245 : BitVec 32 := 0#32
  let v397 : BitVec 32 := Scalar.maxsi v396 c0_i32_245
  let c256_i32_1156 : BitVec 32 := 256#32
  let v2697 : BitVec 32 := Scalar.muli v397 c256_i32_1156
  let c64_i32_1157 : BitVec 32 := 64#32
  let v2698 : BitVec 32 := Scalar.addi v2697 c64_i32_1157
  v2698
def k0_mult47 (i : grid0.Coords) : BitVec 32 :=
  let arg2 : BitVec 32 := BitVec.ofNat 32 (i 2).val
  let c8_i32 : BitVec 32 := 8#32
  let v0 : BitVec 32 := Scalar.muli arg2 c8_i32
  let c3_i32_246 : BitVec 32 := 3#32
  let v398 : BitVec 32 := Scalar.addi v0 c3_i32_246
  let c1_i32_247 : BitVec 32 := 1#32
  let v399 : BitVec 32 := Scalar.subi v398 c1_i32_247
  let c0_i32_248 : BitVec 32 := 0#32
  let v400 : BitVec 32 := Scalar.maxsi v399 c0_i32_248
  let c256_i32_1174 : BitVec 32 := 256#32
  let v2735 : BitVec 32 := Scalar.muli v400 c256_i32_1174
  let c64_i32_1175 : BitVec 32 := 64#32
  let v2736 : BitVec 32 := Scalar.addi v2735 c64_i32_1175
  v2736
def k0_mult48 (i : grid0.Coords) : BitVec 32 :=
  let arg2 : BitVec 32 := BitVec.ofNat 32 (i 2).val
  let c8_i32 : BitVec 32 := 8#32
  let v0 : BitVec 32 := Scalar.muli arg2 c8_i32
  let c3_i32_249 : BitVec 32 := 3#32
  let v401 : BitVec 32 := Scalar.addi v0 c3_i32_249
  let c1_i32_250 : BitVec 32 := 1#32
  let v402 : BitVec 32 := Scalar.subi v401 c1_i32_250
  let c0_i32_251 : BitVec 32 := 0#32
  let v403 : BitVec 32 := Scalar.maxsi v402 c0_i32_251
  let c256_i32_1192 : BitVec 32 := 256#32
  let v2773 : BitVec 32 := Scalar.muli v403 c256_i32_1192
  let c64_i32_1193 : BitVec 32 := 64#32
  let v2774 : BitVec 32 := Scalar.addi v2773 c64_i32_1193
  v2774
def k0_mult49 (i : grid0.Coords) : BitVec 32 :=
  let arg2 : BitVec 32 := BitVec.ofNat 32 (i 2).val
  let c8_i32 : BitVec 32 := 8#32
  let v0 : BitVec 32 := Scalar.muli arg2 c8_i32
  let c4_i32_252 : BitVec 32 := 4#32
  let v404 : BitVec 32 := Scalar.addi v0 c4_i32_252
  let c1_i32_253 : BitVec 32 := 1#32
  let v405 : BitVec 32 := Scalar.subi v404 c1_i32_253
  let c0_i32_254 : BitVec 32 := 0#32
  let v406 : BitVec 32 := Scalar.maxsi v405 c0_i32_254
  let c256_i32_1210 : BitVec 32 := 256#32
  let v2811 : BitVec 32 := Scalar.muli v406 c256_i32_1210
  let c64_i32_1211 : BitVec 32 := 64#32
  let v2812 : BitVec 32 := Scalar.addi v2811 c64_i32_1211
  v2812
def k0_mult50 (i : grid0.Coords) : BitVec 32 :=
  let arg2 : BitVec 32 := BitVec.ofNat 32 (i 2).val
  let c8_i32 : BitVec 32 := 8#32
  let v0 : BitVec 32 := Scalar.muli arg2 c8_i32
  let c4_i32_255 : BitVec 32 := 4#32
  let v407 : BitVec 32 := Scalar.addi v0 c4_i32_255
  let c1_i32_256 : BitVec 32 := 1#32
  let v408 : BitVec 32 := Scalar.subi v407 c1_i32_256
  let c0_i32_257 : BitVec 32 := 0#32
  let v409 : BitVec 32 := Scalar.maxsi v408 c0_i32_257
  let c256_i32_1228 : BitVec 32 := 256#32
  let v2849 : BitVec 32 := Scalar.muli v409 c256_i32_1228
  let c64_i32_1229 : BitVec 32 := 64#32
  let v2850 : BitVec 32 := Scalar.addi v2849 c64_i32_1229
  v2850
def k0_mult51 (i : grid0.Coords) : BitVec 32 :=
  let arg2 : BitVec 32 := BitVec.ofNat 32 (i 2).val
  let c8_i32 : BitVec 32 := 8#32
  let v0 : BitVec 32 := Scalar.muli arg2 c8_i32
  let c4_i32_258 : BitVec 32 := 4#32
  let v410 : BitVec 32 := Scalar.addi v0 c4_i32_258
  let c1_i32_259 : BitVec 32 := 1#32
  let v411 : BitVec 32 := Scalar.subi v410 c1_i32_259
  let c0_i32_260 : BitVec 32 := 0#32
  let v412 : BitVec 32 := Scalar.maxsi v411 c0_i32_260
  let c256_i32_1246 : BitVec 32 := 256#32
  let v2887 : BitVec 32 := Scalar.muli v412 c256_i32_1246
  let c64_i32_1247 : BitVec 32 := 64#32
  let v2888 : BitVec 32 := Scalar.addi v2887 c64_i32_1247
  v2888
def k0_mult52 (i : grid0.Coords) : BitVec 32 :=
  let arg2 : BitVec 32 := BitVec.ofNat 32 (i 2).val
  let c8_i32 : BitVec 32 := 8#32
  let v0 : BitVec 32 := Scalar.muli arg2 c8_i32
  let c4_i32_261 : BitVec 32 := 4#32
  let v413 : BitVec 32 := Scalar.addi v0 c4_i32_261
  let c1_i32_262 : BitVec 32 := 1#32
  let v414 : BitVec 32 := Scalar.subi v413 c1_i32_262
  let c0_i32_263 : BitVec 32 := 0#32
  let v415 : BitVec 32 := Scalar.maxsi v414 c0_i32_263
  let c256_i32_1264 : BitVec 32 := 256#32
  let v2925 : BitVec 32 := Scalar.muli v415 c256_i32_1264
  let c64_i32_1265 : BitVec 32 := 64#32
  let v2926 : BitVec 32 := Scalar.addi v2925 c64_i32_1265
  v2926
def k0_mult53 (i : grid0.Coords) : BitVec 32 :=
  let arg2 : BitVec 32 := BitVec.ofNat 32 (i 2).val
  let c8_i32 : BitVec 32 := 8#32
  let v0 : BitVec 32 := Scalar.muli arg2 c8_i32
  let c5_i32_264 : BitVec 32 := 5#32
  let v416 : BitVec 32 := Scalar.addi v0 c5_i32_264
  let c1_i32_265 : BitVec 32 := 1#32
  let v417 : BitVec 32 := Scalar.subi v416 c1_i32_265
  let c0_i32_266 : BitVec 32 := 0#32
  let v418 : BitVec 32 := Scalar.maxsi v417 c0_i32_266
  let c256_i32_1282 : BitVec 32 := 256#32
  let v2963 : BitVec 32 := Scalar.muli v418 c256_i32_1282
  let c64_i32_1283 : BitVec 32 := 64#32
  let v2964 : BitVec 32 := Scalar.addi v2963 c64_i32_1283
  v2964
def k0_mult54 (i : grid0.Coords) : BitVec 32 :=
  let arg2 : BitVec 32 := BitVec.ofNat 32 (i 2).val
  let c8_i32 : BitVec 32 := 8#32
  let v0 : BitVec 32 := Scalar.muli arg2 c8_i32
  let c5_i32_267 : BitVec 32 := 5#32
  let v419 : BitVec 32 := Scalar.addi v0 c5_i32_267
  let c1_i32_268 : BitVec 32 := 1#32
  let v420 : BitVec 32 := Scalar.subi v419 c1_i32_268
  let c0_i32_269 : BitVec 32 := 0#32
  let v421 : BitVec 32 := Scalar.maxsi v420 c0_i32_269
  let c256_i32_1300 : BitVec 32 := 256#32
  let v3001 : BitVec 32 := Scalar.muli v421 c256_i32_1300
  let c64_i32_1301 : BitVec 32 := 64#32
  let v3002 : BitVec 32 := Scalar.addi v3001 c64_i32_1301
  v3002
def k0_mult55 (i : grid0.Coords) : BitVec 32 :=
  let arg2 : BitVec 32 := BitVec.ofNat 32 (i 2).val
  let c8_i32 : BitVec 32 := 8#32
  let v0 : BitVec 32 := Scalar.muli arg2 c8_i32
  let c5_i32_270 : BitVec 32 := 5#32
  let v422 : BitVec 32 := Scalar.addi v0 c5_i32_270
  let c1_i32_271 : BitVec 32 := 1#32
  let v423 : BitVec 32 := Scalar.subi v422 c1_i32_271
  let c0_i32_272 : BitVec 32 := 0#32
  let v424 : BitVec 32 := Scalar.maxsi v423 c0_i32_272
  let c256_i32_1318 : BitVec 32 := 256#32
  let v3039 : BitVec 32 := Scalar.muli v424 c256_i32_1318
  let c64_i32_1319 : BitVec 32 := 64#32
  let v3040 : BitVec 32 := Scalar.addi v3039 c64_i32_1319
  v3040
def k0_mult56 (i : grid0.Coords) : BitVec 32 :=
  let arg2 : BitVec 32 := BitVec.ofNat 32 (i 2).val
  let c8_i32 : BitVec 32 := 8#32
  let v0 : BitVec 32 := Scalar.muli arg2 c8_i32
  let c5_i32_273 : BitVec 32 := 5#32
  let v425 : BitVec 32 := Scalar.addi v0 c5_i32_273
  let c1_i32_274 : BitVec 32 := 1#32
  let v426 : BitVec 32 := Scalar.subi v425 c1_i32_274
  let c0_i32_275 : BitVec 32 := 0#32
  let v427 : BitVec 32 := Scalar.maxsi v426 c0_i32_275
  let c256_i32_1336 : BitVec 32 := 256#32
  let v3077 : BitVec 32 := Scalar.muli v427 c256_i32_1336
  let c64_i32_1337 : BitVec 32 := 64#32
  let v3078 : BitVec 32 := Scalar.addi v3077 c64_i32_1337
  v3078
def k0_mult57 (i : grid0.Coords) : BitVec 32 :=
  let arg2 : BitVec 32 := BitVec.ofNat 32 (i 2).val
  let c8_i32 : BitVec 32 := 8#32
  let v0 : BitVec 32 := Scalar.muli arg2 c8_i32
  let c6_i32_276 : BitVec 32 := 6#32
  let v428 : BitVec 32 := Scalar.addi v0 c6_i32_276
  let c1_i32_277 : BitVec 32 := 1#32
  let v429 : BitVec 32 := Scalar.subi v428 c1_i32_277
  let c0_i32_278 : BitVec 32 := 0#32
  let v430 : BitVec 32 := Scalar.maxsi v429 c0_i32_278
  let c256_i32_1354 : BitVec 32 := 256#32
  let v3115 : BitVec 32 := Scalar.muli v430 c256_i32_1354
  let c64_i32_1355 : BitVec 32 := 64#32
  let v3116 : BitVec 32 := Scalar.addi v3115 c64_i32_1355
  v3116
def k0_mult58 (i : grid0.Coords) : BitVec 32 :=
  let arg2 : BitVec 32 := BitVec.ofNat 32 (i 2).val
  let c8_i32 : BitVec 32 := 8#32
  let v0 : BitVec 32 := Scalar.muli arg2 c8_i32
  let c6_i32_279 : BitVec 32 := 6#32
  let v431 : BitVec 32 := Scalar.addi v0 c6_i32_279
  let c1_i32_280 : BitVec 32 := 1#32
  let v432 : BitVec 32 := Scalar.subi v431 c1_i32_280
  let c0_i32_281 : BitVec 32 := 0#32
  let v433 : BitVec 32 := Scalar.maxsi v432 c0_i32_281
  let c256_i32_1372 : BitVec 32 := 256#32
  let v3153 : BitVec 32 := Scalar.muli v433 c256_i32_1372
  let c64_i32_1373 : BitVec 32 := 64#32
  let v3154 : BitVec 32 := Scalar.addi v3153 c64_i32_1373
  v3154
def k0_mult59 (i : grid0.Coords) : BitVec 32 :=
  let arg2 : BitVec 32 := BitVec.ofNat 32 (i 2).val
  let c8_i32 : BitVec 32 := 8#32
  let v0 : BitVec 32 := Scalar.muli arg2 c8_i32
  let c6_i32_282 : BitVec 32 := 6#32
  let v434 : BitVec 32 := Scalar.addi v0 c6_i32_282
  let c1_i32_283 : BitVec 32 := 1#32
  let v435 : BitVec 32 := Scalar.subi v434 c1_i32_283
  let c0_i32_284 : BitVec 32 := 0#32
  let v436 : BitVec 32 := Scalar.maxsi v435 c0_i32_284
  let c256_i32_1390 : BitVec 32 := 256#32
  let v3191 : BitVec 32 := Scalar.muli v436 c256_i32_1390
  let c64_i32_1391 : BitVec 32 := 64#32
  let v3192 : BitVec 32 := Scalar.addi v3191 c64_i32_1391
  v3192
def k0_mult60 (i : grid0.Coords) : BitVec 32 :=
  let arg2 : BitVec 32 := BitVec.ofNat 32 (i 2).val
  let c8_i32 : BitVec 32 := 8#32
  let v0 : BitVec 32 := Scalar.muli arg2 c8_i32
  let c6_i32_285 : BitVec 32 := 6#32
  let v437 : BitVec 32 := Scalar.addi v0 c6_i32_285
  let c1_i32_286 : BitVec 32 := 1#32
  let v438 : BitVec 32 := Scalar.subi v437 c1_i32_286
  let c0_i32_287 : BitVec 32 := 0#32
  let v439 : BitVec 32 := Scalar.maxsi v438 c0_i32_287
  let c256_i32_1408 : BitVec 32 := 256#32
  let v3229 : BitVec 32 := Scalar.muli v439 c256_i32_1408
  let c64_i32_1409 : BitVec 32 := 64#32
  let v3230 : BitVec 32 := Scalar.addi v3229 c64_i32_1409
  v3230
def k0_mult61 (i : grid0.Coords) : BitVec 32 :=
  let arg2 : BitVec 32 := BitVec.ofNat 32 (i 2).val
  let c8_i32 : BitVec 32 := 8#32
  let v0 : BitVec 32 := Scalar.muli arg2 c8_i32
  let c7_i32_288 : BitVec 32 := 7#32
  let v440 : BitVec 32 := Scalar.addi v0 c7_i32_288
  let c1_i32_289 : BitVec 32 := 1#32
  let v441 : BitVec 32 := Scalar.subi v440 c1_i32_289
  let c0_i32_290 : BitVec 32 := 0#32
  let v442 : BitVec 32 := Scalar.maxsi v441 c0_i32_290
  let c256_i32_1426 : BitVec 32 := 256#32
  let v3267 : BitVec 32 := Scalar.muli v442 c256_i32_1426
  let c64_i32_1427 : BitVec 32 := 64#32
  let v3268 : BitVec 32 := Scalar.addi v3267 c64_i32_1427
  v3268
def k0_mult62 (i : grid0.Coords) : BitVec 32 :=
  let arg2 : BitVec 32 := BitVec.ofNat 32 (i 2).val
  let c8_i32 : BitVec 32 := 8#32
  let v0 : BitVec 32 := Scalar.muli arg2 c8_i32
  let c7_i32_291 : BitVec 32 := 7#32
  let v443 : BitVec 32 := Scalar.addi v0 c7_i32_291
  let c1_i32_292 : BitVec 32 := 1#32
  let v444 : BitVec 32 := Scalar.subi v443 c1_i32_292
  let c0_i32_293 : BitVec 32 := 0#32
  let v445 : BitVec 32 := Scalar.maxsi v444 c0_i32_293
  let c256_i32_1444 : BitVec 32 := 256#32
  let v3305 : BitVec 32 := Scalar.muli v445 c256_i32_1444
  let c64_i32_1445 : BitVec 32 := 64#32
  let v3306 : BitVec 32 := Scalar.addi v3305 c64_i32_1445
  v3306
def k0_mult63 (i : grid0.Coords) : BitVec 32 :=
  let arg2 : BitVec 32 := BitVec.ofNat 32 (i 2).val
  let c8_i32 : BitVec 32 := 8#32
  let v0 : BitVec 32 := Scalar.muli arg2 c8_i32
  let c7_i32_294 : BitVec 32 := 7#32
  let v446 : BitVec 32 := Scalar.addi v0 c7_i32_294
  let c1_i32_295 : BitVec 32 := 1#32
  let v447 : BitVec 32 := Scalar.subi v446 c1_i32_295
  let c0_i32_296 : BitVec 32 := 0#32
  let v448 : BitVec 32 := Scalar.maxsi v447 c0_i32_296
  let c256_i32_1462 : BitVec 32 := 256#32
  let v3343 : BitVec 32 := Scalar.muli v448 c256_i32_1462
  let c64_i32_1463 : BitVec 32 := 64#32
  let v3344 : BitVec 32 := Scalar.addi v3343 c64_i32_1463
  v3344
def k0_mult64 (i : grid0.Coords) : BitVec 32 :=
  let arg2 : BitVec 32 := BitVec.ofNat 32 (i 2).val
  let c8_i32 : BitVec 32 := 8#32
  let v0 : BitVec 32 := Scalar.muli arg2 c8_i32
  let c7_i32_297 : BitVec 32 := 7#32
  let v449 : BitVec 32 := Scalar.addi v0 c7_i32_297
  let c1_i32_298 : BitVec 32 := 1#32
  let v450 : BitVec 32 := Scalar.subi v449 c1_i32_298
  let c0_i32_299 : BitVec 32 := 0#32
  let v451 : BitVec 32 := Scalar.maxsi v450 c0_i32_299
  let c256_i32_1480 : BitVec 32 := 256#32
  let v3381 : BitVec 32 := Scalar.muli v451 c256_i32_1480
  let c64_i32_1481 : BitVec 32 := 64#32
  let v3382 : BitVec 32 := Scalar.addi v3381 c64_i32_1481
  v3382
def k0_mult65 (arg11 : BitVec 32) : BitVec 32 :=
  let c256_i32_2141 : BitVec 32 := 256#32
  let v4147 : BitVec 32 := Scalar.muli arg11 c256_i32_2141
  v4147

def k0_off13 (arg11 : BitVec 32) : Fin 3 → Nat :=
  let c0_2142 : Index := 0#32
  let c256_i32_2141 : BitVec 32 := 256#32
  let v4147 : BitVec 32 := Scalar.muli arg11 c256_i32_2141
  let v4148 : BitVec 32 := v4147
  let v4149 : Index := Scalar.indexCast v4148
  let c0_2143 : Index := 0#32
  ![0, v4149.toNat, 0]
def k0_off14 (arg11 : BitVec 32) : Fin 4 → Nat :=
  let c0_2160 : Index := 0#32
  let v4177 : Index := Scalar.indexCast arg11
  let c0_2161 : Index := 0#32
  let c0_2162 : Index := 0#32
  ![0, v4177.toNat, 0, 0]
def k0_mult66 (arg11 : BitVec 32) : BitVec 32 :=
  let c256_i32_2176 : BitVec 32 := 256#32
  let v4195 : BitVec 32 := Scalar.muli arg11 c256_i32_2176
  v4195
def k0_off15 (arg11 : BitVec 32) : Fin 4 → Nat :=
  let c0_2195 : Index := 0#32
  let v4225 : Index := Scalar.indexCast arg11
  let c64_2196 : Index := 64#32
  let c0_2197 : Index := 0#32
  ![0, v4225.toNat, 64, 0]
def k0_mult67 (arg11 : BitVec 32) : BitVec 32 :=
  let c256_i32_2211 : BitVec 32 := 256#32
  let v4243 : BitVec 32 := Scalar.muli arg11 c256_i32_2211
  v4243
def k0_off16 (arg11 : BitVec 32) : Fin 3 → Nat :=
  let c0_2212 : Index := 0#32
  let c256_i32_2211 : BitVec 32 := 256#32
  let v4243 : BitVec 32 := Scalar.muli arg11 c256_i32_2211
  let v4244 : BitVec 32 := v4243
  let v4245 : Index := Scalar.indexCast v4244
  let c128_2213 : Index := 128#32
  ![0, v4245.toNat, 128]
def k0_off17 (arg11 : BitVec 32) : Fin 4 → Nat :=
  let c0_2230 : Index := 0#32
  let v4273 : Index := Scalar.indexCast arg11
  let c128_2231 : Index := 128#32
  let c0_2232 : Index := 0#32
  ![0, v4273.toNat, 128, 0]
def k0_mult68 (arg11 : BitVec 32) : BitVec 32 :=
  let c256_i32_2246 : BitVec 32 := 256#32
  let v4291 : BitVec 32 := Scalar.muli arg11 c256_i32_2246
  v4291
def k0_off18 (arg11 : BitVec 32) : Fin 4 → Nat :=
  let c0_2265 : Index := 0#32
  let v4321 : Index := Scalar.indexCast arg11
  let c192_2266 : Index := 192#32
  let c0_2267 : Index := 0#32
  ![0, v4321.toNat, 192, 0]

def k0_chk1 (arg11 : BitVec 32) : Prop :=
  (256 ∣ (k0_mult65 arg11).toNat) ∧
  (∀ a, (k0_off13 arg11) a + S1x256x128.size a ≤ S1x4096x256.size a) ∧
  (∀ a, (k0_off14 arg11) a + S1x1x64x256.size a ≤ S1x16x256x256.size a) ∧
  (256 ∣ (k0_mult66 arg11).toNat) ∧
  (∀ a, (k0_off15 arg11) a + S1x1x64x256.size a ≤ S1x16x256x256.size a) ∧
  (256 ∣ (k0_mult67 arg11).toNat) ∧
  (∀ a, (k0_off16 arg11) a + S1x256x128.size a ≤ S1x4096x256.size a) ∧
  (∀ a, (k0_off17 arg11) a + S1x1x64x256.size a ≤ S1x16x256x256.size a) ∧
  (256 ∣ (k0_mult68 arg11).toNat) ∧
  (∀ a, (k0_off18 arg11) a + S1x1x64x256.size a ≤ S1x16x256x256.size a)
theorem k0_mult65_dvd : ∀ (arg11 : BitVec 32) (k0_hw1 : k0_chk1 arg11), 256 ∣ (k0_mult65 arg11).toNat := fun arg11 k0_hw1 => k0_hw1.1
theorem k0_off13_inb : ∀ (arg11 : BitVec 32) (k0_hw1 : k0_chk1 arg11), ∀ a, (k0_off13 arg11) a + S1x256x128.size a ≤ S1x4096x256.size a := fun arg11 k0_hw1 => k0_hw1.2.1
theorem k0_off14_inb : ∀ (arg11 : BitVec 32) (k0_hw1 : k0_chk1 arg11), ∀ a, (k0_off14 arg11) a + S1x1x64x256.size a ≤ S1x16x256x256.size a := fun arg11 k0_hw1 => k0_hw1.2.2.1
theorem k0_mult66_dvd : ∀ (arg11 : BitVec 32) (k0_hw1 : k0_chk1 arg11), 256 ∣ (k0_mult66 arg11).toNat := fun arg11 k0_hw1 => k0_hw1.2.2.2.1
theorem k0_off15_inb : ∀ (arg11 : BitVec 32) (k0_hw1 : k0_chk1 arg11), ∀ a, (k0_off15 arg11) a + S1x1x64x256.size a ≤ S1x16x256x256.size a := fun arg11 k0_hw1 => k0_hw1.2.2.2.2.1
theorem k0_mult67_dvd : ∀ (arg11 : BitVec 32) (k0_hw1 : k0_chk1 arg11), 256 ∣ (k0_mult67 arg11).toNat := fun arg11 k0_hw1 => k0_hw1.2.2.2.2.2.1
theorem k0_off16_inb : ∀ (arg11 : BitVec 32) (k0_hw1 : k0_chk1 arg11), ∀ a, (k0_off16 arg11) a + S1x256x128.size a ≤ S1x4096x256.size a := fun arg11 k0_hw1 => k0_hw1.2.2.2.2.2.2.1
theorem k0_off17_inb : ∀ (arg11 : BitVec 32) (k0_hw1 : k0_chk1 arg11), ∀ a, (k0_off17 arg11) a + S1x1x64x256.size a ≤ S1x16x256x256.size a := fun arg11 k0_hw1 => k0_hw1.2.2.2.2.2.2.2.1
theorem k0_mult68_dvd : ∀ (arg11 : BitVec 32) (k0_hw1 : k0_chk1 arg11), 256 ∣ (k0_mult68 arg11).toNat := fun arg11 k0_hw1 => k0_hw1.2.2.2.2.2.2.2.2.1
theorem k0_off18_inb : ∀ (arg11 : BitVec 32) (k0_hw1 : k0_chk1 arg11), ∀ a, (k0_off18 arg11) a + S1x1x64x256.size a ≤ S1x16x256x256.size a := fun arg11 k0_hw1 => k0_hw1.2.2.2.2.2.2.2.2.2

def k0_mult69 (arg11 : BitVec 32) : BitVec 32 :=
  let c256_i32_2141 : BitVec 32 := 256#32
  let v4147 : BitVec 32 := Scalar.muli arg11 c256_i32_2141
  v4147

def k0_off19 (arg11 : BitVec 32) : Fin 3 → Nat :=
  let c0_2142 : Index := 0#32
  let c256_i32_2141 : BitVec 32 := 256#32
  let v4147 : BitVec 32 := Scalar.muli arg11 c256_i32_2141
  let v4148 : BitVec 32 := v4147
  let v4149 : Index := Scalar.indexCast v4148
  let c0_2143 : Index := 0#32
  ![0, v4149.toNat, 0]
def k0_off20 (arg11 : BitVec 32) : Fin 4 → Nat :=
  let c0_2160 : Index := 0#32
  let v4177 : Index := Scalar.indexCast arg11
  let c0_2161 : Index := 0#32
  let c0_2162 : Index := 0#32
  ![0, v4177.toNat, 0, 0]
def k0_mult70 (arg11 : BitVec 32) : BitVec 32 :=
  let c256_i32_2176 : BitVec 32 := 256#32
  let v4195 : BitVec 32 := Scalar.muli arg11 c256_i32_2176
  v4195
def k0_off21 (arg11 : BitVec 32) : Fin 4 → Nat :=
  let c0_2195 : Index := 0#32
  let v4225 : Index := Scalar.indexCast arg11
  let c64_2196 : Index := 64#32
  let c0_2197 : Index := 0#32
  ![0, v4225.toNat, 64, 0]
def k0_mult71 (arg11 : BitVec 32) : BitVec 32 :=
  let c256_i32_2211 : BitVec 32 := 256#32
  let v4243 : BitVec 32 := Scalar.muli arg11 c256_i32_2211
  v4243
def k0_off22 (arg11 : BitVec 32) : Fin 3 → Nat :=
  let c0_2212 : Index := 0#32
  let c256_i32_2211 : BitVec 32 := 256#32
  let v4243 : BitVec 32 := Scalar.muli arg11 c256_i32_2211
  let v4244 : BitVec 32 := v4243
  let v4245 : Index := Scalar.indexCast v4244
  let c128_2213 : Index := 128#32
  ![0, v4245.toNat, 128]
def k0_off23 (arg11 : BitVec 32) : Fin 4 → Nat :=
  let c0_2230 : Index := 0#32
  let v4273 : Index := Scalar.indexCast arg11
  let c128_2231 : Index := 128#32
  let c0_2232 : Index := 0#32
  ![0, v4273.toNat, 128, 0]
def k0_mult72 (arg11 : BitVec 32) : BitVec 32 :=
  let c256_i32_2246 : BitVec 32 := 256#32
  let v4291 : BitVec 32 := Scalar.muli arg11 c256_i32_2246
  v4291
def k0_off24 (arg11 : BitVec 32) : Fin 4 → Nat :=
  let c0_2265 : Index := 0#32
  let v4321 : Index := Scalar.indexCast arg11
  let c192_2266 : Index := 192#32
  let c0_2267 : Index := 0#32
  ![0, v4321.toNat, 192, 0]

def k0_chk2 (arg11 : BitVec 32) : Prop :=
  (256 ∣ (k0_mult69 arg11).toNat) ∧
  (∀ a, (k0_off19 arg11) a + S1x256x128.size a ≤ S1x4096x256.size a) ∧
  (∀ a, (k0_off20 arg11) a + S1x1x64x256.size a ≤ S1x16x256x256.size a) ∧
  (256 ∣ (k0_mult70 arg11).toNat) ∧
  (∀ a, (k0_off21 arg11) a + S1x1x64x256.size a ≤ S1x16x256x256.size a) ∧
  (256 ∣ (k0_mult71 arg11).toNat) ∧
  (∀ a, (k0_off22 arg11) a + S1x256x128.size a ≤ S1x4096x256.size a) ∧
  (∀ a, (k0_off23 arg11) a + S1x1x64x256.size a ≤ S1x16x256x256.size a) ∧
  (256 ∣ (k0_mult72 arg11).toNat) ∧
  (∀ a, (k0_off24 arg11) a + S1x1x64x256.size a ≤ S1x16x256x256.size a)
theorem k0_mult69_dvd : ∀ (arg11 : BitVec 32) (k0_hw2 : k0_chk2 arg11), 256 ∣ (k0_mult69 arg11).toNat := fun arg11 k0_hw2 => k0_hw2.1
theorem k0_off19_inb : ∀ (arg11 : BitVec 32) (k0_hw2 : k0_chk2 arg11), ∀ a, (k0_off19 arg11) a + S1x256x128.size a ≤ S1x4096x256.size a := fun arg11 k0_hw2 => k0_hw2.2.1
theorem k0_off20_inb : ∀ (arg11 : BitVec 32) (k0_hw2 : k0_chk2 arg11), ∀ a, (k0_off20 arg11) a + S1x1x64x256.size a ≤ S1x16x256x256.size a := fun arg11 k0_hw2 => k0_hw2.2.2.1
theorem k0_mult70_dvd : ∀ (arg11 : BitVec 32) (k0_hw2 : k0_chk2 arg11), 256 ∣ (k0_mult70 arg11).toNat := fun arg11 k0_hw2 => k0_hw2.2.2.2.1
theorem k0_off21_inb : ∀ (arg11 : BitVec 32) (k0_hw2 : k0_chk2 arg11), ∀ a, (k0_off21 arg11) a + S1x1x64x256.size a ≤ S1x16x256x256.size a := fun arg11 k0_hw2 => k0_hw2.2.2.2.2.1
theorem k0_mult71_dvd : ∀ (arg11 : BitVec 32) (k0_hw2 : k0_chk2 arg11), 256 ∣ (k0_mult71 arg11).toNat := fun arg11 k0_hw2 => k0_hw2.2.2.2.2.2.1
theorem k0_off22_inb : ∀ (arg11 : BitVec 32) (k0_hw2 : k0_chk2 arg11), ∀ a, (k0_off22 arg11) a + S1x256x128.size a ≤ S1x4096x256.size a := fun arg11 k0_hw2 => k0_hw2.2.2.2.2.2.2.1
theorem k0_off23_inb : ∀ (arg11 : BitVec 32) (k0_hw2 : k0_chk2 arg11), ∀ a, (k0_off23 arg11) a + S1x1x64x256.size a ≤ S1x16x256x256.size a := fun arg11 k0_hw2 => k0_hw2.2.2.2.2.2.2.2.1
theorem k0_mult72_dvd : ∀ (arg11 : BitVec 32) (k0_hw2 : k0_chk2 arg11), 256 ∣ (k0_mult72 arg11).toNat := fun arg11 k0_hw2 => k0_hw2.2.2.2.2.2.2.2.2.1
theorem k0_off24_inb : ∀ (arg11 : BitVec 32) (k0_hw2 : k0_chk2 arg11), ∀ a, (k0_off24 arg11) a + S1x1x64x256.size a ≤ S1x16x256x256.size a := fun arg11 k0_hw2 => k0_hw2.2.2.2.2.2.2.2.2.2

def k0_mult73 (arg11 : BitVec 32) : BitVec 32 :=
  let c256_i32_2141 : BitVec 32 := 256#32
  let v4147 : BitVec 32 := Scalar.muli arg11 c256_i32_2141
  v4147

def k0_off25 (arg11 : BitVec 32) : Fin 3 → Nat :=
  let c0_2142 : Index := 0#32
  let c256_i32_2141 : BitVec 32 := 256#32
  let v4147 : BitVec 32 := Scalar.muli arg11 c256_i32_2141
  let v4148 : BitVec 32 := v4147
  let v4149 : Index := Scalar.indexCast v4148
  let c0_2143 : Index := 0#32
  ![0, v4149.toNat, 0]
def k0_off26 (arg11 : BitVec 32) : Fin 4 → Nat :=
  let c0_2160 : Index := 0#32
  let v4177 : Index := Scalar.indexCast arg11
  let c0_2161 : Index := 0#32
  let c0_2162 : Index := 0#32
  ![0, v4177.toNat, 0, 0]
def k0_mult74 (arg11 : BitVec 32) : BitVec 32 :=
  let c256_i32_2176 : BitVec 32 := 256#32
  let v4195 : BitVec 32 := Scalar.muli arg11 c256_i32_2176
  v4195
def k0_off27 (arg11 : BitVec 32) : Fin 4 → Nat :=
  let c0_2195 : Index := 0#32
  let v4225 : Index := Scalar.indexCast arg11
  let c64_2196 : Index := 64#32
  let c0_2197 : Index := 0#32
  ![0, v4225.toNat, 64, 0]
def k0_mult75 (arg11 : BitVec 32) : BitVec 32 :=
  let c256_i32_2211 : BitVec 32 := 256#32
  let v4243 : BitVec 32 := Scalar.muli arg11 c256_i32_2211
  v4243
def k0_off28 (arg11 : BitVec 32) : Fin 3 → Nat :=
  let c0_2212 : Index := 0#32
  let c256_i32_2211 : BitVec 32 := 256#32
  let v4243 : BitVec 32 := Scalar.muli arg11 c256_i32_2211
  let v4244 : BitVec 32 := v4243
  let v4245 : Index := Scalar.indexCast v4244
  let c128_2213 : Index := 128#32
  ![0, v4245.toNat, 128]
def k0_off29 (arg11 : BitVec 32) : Fin 4 → Nat :=
  let c0_2230 : Index := 0#32
  let v4273 : Index := Scalar.indexCast arg11
  let c128_2231 : Index := 128#32
  let c0_2232 : Index := 0#32
  ![0, v4273.toNat, 128, 0]
def k0_mult76 (arg11 : BitVec 32) : BitVec 32 :=
  let c256_i32_2246 : BitVec 32 := 256#32
  let v4291 : BitVec 32 := Scalar.muli arg11 c256_i32_2246
  v4291
def k0_off30 (arg11 : BitVec 32) : Fin 4 → Nat :=
  let c0_2265 : Index := 0#32
  let v4321 : Index := Scalar.indexCast arg11
  let c192_2266 : Index := 192#32
  let c0_2267 : Index := 0#32
  ![0, v4321.toNat, 192, 0]

def k0_chk3 (arg11 : BitVec 32) : Prop :=
  (256 ∣ (k0_mult73 arg11).toNat) ∧
  (∀ a, (k0_off25 arg11) a + S1x256x128.size a ≤ S1x4096x256.size a) ∧
  (∀ a, (k0_off26 arg11) a + S1x1x64x256.size a ≤ S1x16x256x256.size a) ∧
  (256 ∣ (k0_mult74 arg11).toNat) ∧
  (∀ a, (k0_off27 arg11) a + S1x1x64x256.size a ≤ S1x16x256x256.size a) ∧
  (256 ∣ (k0_mult75 arg11).toNat) ∧
  (∀ a, (k0_off28 arg11) a + S1x256x128.size a ≤ S1x4096x256.size a) ∧
  (∀ a, (k0_off29 arg11) a + S1x1x64x256.size a ≤ S1x16x256x256.size a) ∧
  (256 ∣ (k0_mult76 arg11).toNat) ∧
  (∀ a, (k0_off30 arg11) a + S1x1x64x256.size a ≤ S1x16x256x256.size a)
theorem k0_mult73_dvd : ∀ (arg11 : BitVec 32) (k0_hw3 : k0_chk3 arg11), 256 ∣ (k0_mult73 arg11).toNat := fun arg11 k0_hw3 => k0_hw3.1
theorem k0_off25_inb : ∀ (arg11 : BitVec 32) (k0_hw3 : k0_chk3 arg11), ∀ a, (k0_off25 arg11) a + S1x256x128.size a ≤ S1x4096x256.size a := fun arg11 k0_hw3 => k0_hw3.2.1
theorem k0_off26_inb : ∀ (arg11 : BitVec 32) (k0_hw3 : k0_chk3 arg11), ∀ a, (k0_off26 arg11) a + S1x1x64x256.size a ≤ S1x16x256x256.size a := fun arg11 k0_hw3 => k0_hw3.2.2.1
theorem k0_mult74_dvd : ∀ (arg11 : BitVec 32) (k0_hw3 : k0_chk3 arg11), 256 ∣ (k0_mult74 arg11).toNat := fun arg11 k0_hw3 => k0_hw3.2.2.2.1
theorem k0_off27_inb : ∀ (arg11 : BitVec 32) (k0_hw3 : k0_chk3 arg11), ∀ a, (k0_off27 arg11) a + S1x1x64x256.size a ≤ S1x16x256x256.size a := fun arg11 k0_hw3 => k0_hw3.2.2.2.2.1
theorem k0_mult75_dvd : ∀ (arg11 : BitVec 32) (k0_hw3 : k0_chk3 arg11), 256 ∣ (k0_mult75 arg11).toNat := fun arg11 k0_hw3 => k0_hw3.2.2.2.2.2.1
theorem k0_off28_inb : ∀ (arg11 : BitVec 32) (k0_hw3 : k0_chk3 arg11), ∀ a, (k0_off28 arg11) a + S1x256x128.size a ≤ S1x4096x256.size a := fun arg11 k0_hw3 => k0_hw3.2.2.2.2.2.2.1
theorem k0_off29_inb : ∀ (arg11 : BitVec 32) (k0_hw3 : k0_chk3 arg11), ∀ a, (k0_off29 arg11) a + S1x1x64x256.size a ≤ S1x16x256x256.size a := fun arg11 k0_hw3 => k0_hw3.2.2.2.2.2.2.2.1
theorem k0_mult76_dvd : ∀ (arg11 : BitVec 32) (k0_hw3 : k0_chk3 arg11), 256 ∣ (k0_mult76 arg11).toNat := fun arg11 k0_hw3 => k0_hw3.2.2.2.2.2.2.2.2.1
theorem k0_off30_inb : ∀ (arg11 : BitVec 32) (k0_hw3 : k0_chk3 arg11), ∀ a, (k0_off30 arg11) a + S1x1x64x256.size a ≤ S1x16x256x256.size a := fun arg11 k0_hw3 => k0_hw3.2.2.2.2.2.2.2.2.2

def k0_mult77 (arg11 : BitVec 32) : BitVec 32 :=
  let c256_i32_2141 : BitVec 32 := 256#32
  let v4147 : BitVec 32 := Scalar.muli arg11 c256_i32_2141
  v4147

def k0_off31 (arg11 : BitVec 32) : Fin 3 → Nat :=
  let c0_2142 : Index := 0#32
  let c256_i32_2141 : BitVec 32 := 256#32
  let v4147 : BitVec 32 := Scalar.muli arg11 c256_i32_2141
  let v4148 : BitVec 32 := v4147
  let v4149 : Index := Scalar.indexCast v4148
  let c0_2143 : Index := 0#32
  ![0, v4149.toNat, 0]
def k0_off32 (arg11 : BitVec 32) : Fin 4 → Nat :=
  let c0_2160 : Index := 0#32
  let v4177 : Index := Scalar.indexCast arg11
  let c0_2161 : Index := 0#32
  let c0_2162 : Index := 0#32
  ![0, v4177.toNat, 0, 0]
def k0_mult78 (arg11 : BitVec 32) : BitVec 32 :=
  let c256_i32_2176 : BitVec 32 := 256#32
  let v4195 : BitVec 32 := Scalar.muli arg11 c256_i32_2176
  v4195
def k0_off33 (arg11 : BitVec 32) : Fin 4 → Nat :=
  let c0_2195 : Index := 0#32
  let v4225 : Index := Scalar.indexCast arg11
  let c64_2196 : Index := 64#32
  let c0_2197 : Index := 0#32
  ![0, v4225.toNat, 64, 0]
def k0_mult79 (arg11 : BitVec 32) : BitVec 32 :=
  let c256_i32_2211 : BitVec 32 := 256#32
  let v4243 : BitVec 32 := Scalar.muli arg11 c256_i32_2211
  v4243
def k0_off34 (arg11 : BitVec 32) : Fin 3 → Nat :=
  let c0_2212 : Index := 0#32
  let c256_i32_2211 : BitVec 32 := 256#32
  let v4243 : BitVec 32 := Scalar.muli arg11 c256_i32_2211
  let v4244 : BitVec 32 := v4243
  let v4245 : Index := Scalar.indexCast v4244
  let c128_2213 : Index := 128#32
  ![0, v4245.toNat, 128]
def k0_off35 (arg11 : BitVec 32) : Fin 4 → Nat :=
  let c0_2230 : Index := 0#32
  let v4273 : Index := Scalar.indexCast arg11
  let c128_2231 : Index := 128#32
  let c0_2232 : Index := 0#32
  ![0, v4273.toNat, 128, 0]
def k0_mult80 (arg11 : BitVec 32) : BitVec 32 :=
  let c256_i32_2246 : BitVec 32 := 256#32
  let v4291 : BitVec 32 := Scalar.muli arg11 c256_i32_2246
  v4291
def k0_off36 (arg11 : BitVec 32) : Fin 4 → Nat :=
  let c0_2265 : Index := 0#32
  let v4321 : Index := Scalar.indexCast arg11
  let c192_2266 : Index := 192#32
  let c0_2267 : Index := 0#32
  ![0, v4321.toNat, 192, 0]

def k0_chk4 (arg11 : BitVec 32) : Prop :=
  (256 ∣ (k0_mult77 arg11).toNat) ∧
  (∀ a, (k0_off31 arg11) a + S1x256x128.size a ≤ S1x4096x256.size a) ∧
  (∀ a, (k0_off32 arg11) a + S1x1x64x256.size a ≤ S1x16x256x256.size a) ∧
  (256 ∣ (k0_mult78 arg11).toNat) ∧
  (∀ a, (k0_off33 arg11) a + S1x1x64x256.size a ≤ S1x16x256x256.size a) ∧
  (256 ∣ (k0_mult79 arg11).toNat) ∧
  (∀ a, (k0_off34 arg11) a + S1x256x128.size a ≤ S1x4096x256.size a) ∧
  (∀ a, (k0_off35 arg11) a + S1x1x64x256.size a ≤ S1x16x256x256.size a) ∧
  (256 ∣ (k0_mult80 arg11).toNat) ∧
  (∀ a, (k0_off36 arg11) a + S1x1x64x256.size a ≤ S1x16x256x256.size a)
theorem k0_mult77_dvd : ∀ (arg11 : BitVec 32) (k0_hw4 : k0_chk4 arg11), 256 ∣ (k0_mult77 arg11).toNat := fun arg11 k0_hw4 => k0_hw4.1
theorem k0_off31_inb : ∀ (arg11 : BitVec 32) (k0_hw4 : k0_chk4 arg11), ∀ a, (k0_off31 arg11) a + S1x256x128.size a ≤ S1x4096x256.size a := fun arg11 k0_hw4 => k0_hw4.2.1
theorem k0_off32_inb : ∀ (arg11 : BitVec 32) (k0_hw4 : k0_chk4 arg11), ∀ a, (k0_off32 arg11) a + S1x1x64x256.size a ≤ S1x16x256x256.size a := fun arg11 k0_hw4 => k0_hw4.2.2.1
theorem k0_mult78_dvd : ∀ (arg11 : BitVec 32) (k0_hw4 : k0_chk4 arg11), 256 ∣ (k0_mult78 arg11).toNat := fun arg11 k0_hw4 => k0_hw4.2.2.2.1
theorem k0_off33_inb : ∀ (arg11 : BitVec 32) (k0_hw4 : k0_chk4 arg11), ∀ a, (k0_off33 arg11) a + S1x1x64x256.size a ≤ S1x16x256x256.size a := fun arg11 k0_hw4 => k0_hw4.2.2.2.2.1
theorem k0_mult79_dvd : ∀ (arg11 : BitVec 32) (k0_hw4 : k0_chk4 arg11), 256 ∣ (k0_mult79 arg11).toNat := fun arg11 k0_hw4 => k0_hw4.2.2.2.2.2.1
theorem k0_off34_inb : ∀ (arg11 : BitVec 32) (k0_hw4 : k0_chk4 arg11), ∀ a, (k0_off34 arg11) a + S1x256x128.size a ≤ S1x4096x256.size a := fun arg11 k0_hw4 => k0_hw4.2.2.2.2.2.2.1
theorem k0_off35_inb : ∀ (arg11 : BitVec 32) (k0_hw4 : k0_chk4 arg11), ∀ a, (k0_off35 arg11) a + S1x1x64x256.size a ≤ S1x16x256x256.size a := fun arg11 k0_hw4 => k0_hw4.2.2.2.2.2.2.2.1
theorem k0_mult80_dvd : ∀ (arg11 : BitVec 32) (k0_hw4 : k0_chk4 arg11), 256 ∣ (k0_mult80 arg11).toNat := fun arg11 k0_hw4 => k0_hw4.2.2.2.2.2.2.2.2.1
theorem k0_off36_inb : ∀ (arg11 : BitVec 32) (k0_hw4 : k0_chk4 arg11), ∀ a, (k0_off36 arg11) a + S1x1x64x256.size a ≤ S1x16x256x256.size a := fun arg11 k0_hw4 => k0_hw4.2.2.2.2.2.2.2.2.2

def k0_mult81 (arg11 : BitVec 32) : BitVec 32 :=
  let c256_i32_2141 : BitVec 32 := 256#32
  let v4147 : BitVec 32 := Scalar.muli arg11 c256_i32_2141
  v4147

def k0_off37 (arg11 : BitVec 32) : Fin 3 → Nat :=
  let c0_2142 : Index := 0#32
  let c256_i32_2141 : BitVec 32 := 256#32
  let v4147 : BitVec 32 := Scalar.muli arg11 c256_i32_2141
  let v4148 : BitVec 32 := v4147
  let v4149 : Index := Scalar.indexCast v4148
  let c0_2143 : Index := 0#32
  ![0, v4149.toNat, 0]
def k0_off38 (arg11 : BitVec 32) : Fin 4 → Nat :=
  let c0_2160 : Index := 0#32
  let v4177 : Index := Scalar.indexCast arg11
  let c0_2161 : Index := 0#32
  let c0_2162 : Index := 0#32
  ![0, v4177.toNat, 0, 0]
def k0_mult82 (arg11 : BitVec 32) : BitVec 32 :=
  let c256_i32_2176 : BitVec 32 := 256#32
  let v4195 : BitVec 32 := Scalar.muli arg11 c256_i32_2176
  v4195
def k0_off39 (arg11 : BitVec 32) : Fin 4 → Nat :=
  let c0_2195 : Index := 0#32
  let v4225 : Index := Scalar.indexCast arg11
  let c64_2196 : Index := 64#32
  let c0_2197 : Index := 0#32
  ![0, v4225.toNat, 64, 0]
def k0_mult83 (arg11 : BitVec 32) : BitVec 32 :=
  let c256_i32_2211 : BitVec 32 := 256#32
  let v4243 : BitVec 32 := Scalar.muli arg11 c256_i32_2211
  v4243
def k0_off40 (arg11 : BitVec 32) : Fin 3 → Nat :=
  let c0_2212 : Index := 0#32
  let c256_i32_2211 : BitVec 32 := 256#32
  let v4243 : BitVec 32 := Scalar.muli arg11 c256_i32_2211
  let v4244 : BitVec 32 := v4243
  let v4245 : Index := Scalar.indexCast v4244
  let c128_2213 : Index := 128#32
  ![0, v4245.toNat, 128]
def k0_off41 (arg11 : BitVec 32) : Fin 4 → Nat :=
  let c0_2230 : Index := 0#32
  let v4273 : Index := Scalar.indexCast arg11
  let c128_2231 : Index := 128#32
  let c0_2232 : Index := 0#32
  ![0, v4273.toNat, 128, 0]
def k0_mult84 (arg11 : BitVec 32) : BitVec 32 :=
  let c256_i32_2246 : BitVec 32 := 256#32
  let v4291 : BitVec 32 := Scalar.muli arg11 c256_i32_2246
  v4291
def k0_off42 (arg11 : BitVec 32) : Fin 4 → Nat :=
  let c0_2265 : Index := 0#32
  let v4321 : Index := Scalar.indexCast arg11
  let c192_2266 : Index := 192#32
  let c0_2267 : Index := 0#32
  ![0, v4321.toNat, 192, 0]

def k0_chk5 (arg11 : BitVec 32) : Prop :=
  (256 ∣ (k0_mult81 arg11).toNat) ∧
  (∀ a, (k0_off37 arg11) a + S1x256x128.size a ≤ S1x4096x256.size a) ∧
  (∀ a, (k0_off38 arg11) a + S1x1x64x256.size a ≤ S1x16x256x256.size a) ∧
  (256 ∣ (k0_mult82 arg11).toNat) ∧
  (∀ a, (k0_off39 arg11) a + S1x1x64x256.size a ≤ S1x16x256x256.size a) ∧
  (256 ∣ (k0_mult83 arg11).toNat) ∧
  (∀ a, (k0_off40 arg11) a + S1x256x128.size a ≤ S1x4096x256.size a) ∧
  (∀ a, (k0_off41 arg11) a + S1x1x64x256.size a ≤ S1x16x256x256.size a) ∧
  (256 ∣ (k0_mult84 arg11).toNat) ∧
  (∀ a, (k0_off42 arg11) a + S1x1x64x256.size a ≤ S1x16x256x256.size a)
theorem k0_mult81_dvd : ∀ (arg11 : BitVec 32) (k0_hw5 : k0_chk5 arg11), 256 ∣ (k0_mult81 arg11).toNat := fun arg11 k0_hw5 => k0_hw5.1
theorem k0_off37_inb : ∀ (arg11 : BitVec 32) (k0_hw5 : k0_chk5 arg11), ∀ a, (k0_off37 arg11) a + S1x256x128.size a ≤ S1x4096x256.size a := fun arg11 k0_hw5 => k0_hw5.2.1
theorem k0_off38_inb : ∀ (arg11 : BitVec 32) (k0_hw5 : k0_chk5 arg11), ∀ a, (k0_off38 arg11) a + S1x1x64x256.size a ≤ S1x16x256x256.size a := fun arg11 k0_hw5 => k0_hw5.2.2.1
theorem k0_mult82_dvd : ∀ (arg11 : BitVec 32) (k0_hw5 : k0_chk5 arg11), 256 ∣ (k0_mult82 arg11).toNat := fun arg11 k0_hw5 => k0_hw5.2.2.2.1
theorem k0_off39_inb : ∀ (arg11 : BitVec 32) (k0_hw5 : k0_chk5 arg11), ∀ a, (k0_off39 arg11) a + S1x1x64x256.size a ≤ S1x16x256x256.size a := fun arg11 k0_hw5 => k0_hw5.2.2.2.2.1
theorem k0_mult83_dvd : ∀ (arg11 : BitVec 32) (k0_hw5 : k0_chk5 arg11), 256 ∣ (k0_mult83 arg11).toNat := fun arg11 k0_hw5 => k0_hw5.2.2.2.2.2.1
theorem k0_off40_inb : ∀ (arg11 : BitVec 32) (k0_hw5 : k0_chk5 arg11), ∀ a, (k0_off40 arg11) a + S1x256x128.size a ≤ S1x4096x256.size a := fun arg11 k0_hw5 => k0_hw5.2.2.2.2.2.2.1
theorem k0_off41_inb : ∀ (arg11 : BitVec 32) (k0_hw5 : k0_chk5 arg11), ∀ a, (k0_off41 arg11) a + S1x1x64x256.size a ≤ S1x16x256x256.size a := fun arg11 k0_hw5 => k0_hw5.2.2.2.2.2.2.2.1
theorem k0_mult84_dvd : ∀ (arg11 : BitVec 32) (k0_hw5 : k0_chk5 arg11), 256 ∣ (k0_mult84 arg11).toNat := fun arg11 k0_hw5 => k0_hw5.2.2.2.2.2.2.2.2.1
theorem k0_off42_inb : ∀ (arg11 : BitVec 32) (k0_hw5 : k0_chk5 arg11), ∀ a, (k0_off42 arg11) a + S1x1x64x256.size a ≤ S1x16x256x256.size a := fun arg11 k0_hw5 => k0_hw5.2.2.2.2.2.2.2.2.2

def k0_mult85 (arg11 : BitVec 32) : BitVec 32 :=
  let c256_i32_2141 : BitVec 32 := 256#32
  let v4147 : BitVec 32 := Scalar.muli arg11 c256_i32_2141
  v4147

def k0_off43 (arg11 : BitVec 32) : Fin 3 → Nat :=
  let c0_2142 : Index := 0#32
  let c256_i32_2141 : BitVec 32 := 256#32
  let v4147 : BitVec 32 := Scalar.muli arg11 c256_i32_2141
  let v4148 : BitVec 32 := v4147
  let v4149 : Index := Scalar.indexCast v4148
  let c0_2143 : Index := 0#32
  ![0, v4149.toNat, 0]
def k0_off44 (arg11 : BitVec 32) : Fin 4 → Nat :=
  let c0_2160 : Index := 0#32
  let v4177 : Index := Scalar.indexCast arg11
  let c0_2161 : Index := 0#32
  let c0_2162 : Index := 0#32
  ![0, v4177.toNat, 0, 0]
def k0_mult86 (arg11 : BitVec 32) : BitVec 32 :=
  let c256_i32_2176 : BitVec 32 := 256#32
  let v4195 : BitVec 32 := Scalar.muli arg11 c256_i32_2176
  v4195
def k0_off45 (arg11 : BitVec 32) : Fin 4 → Nat :=
  let c0_2195 : Index := 0#32
  let v4225 : Index := Scalar.indexCast arg11
  let c64_2196 : Index := 64#32
  let c0_2197 : Index := 0#32
  ![0, v4225.toNat, 64, 0]
def k0_mult87 (arg11 : BitVec 32) : BitVec 32 :=
  let c256_i32_2211 : BitVec 32 := 256#32
  let v4243 : BitVec 32 := Scalar.muli arg11 c256_i32_2211
  v4243
def k0_off46 (arg11 : BitVec 32) : Fin 3 → Nat :=
  let c0_2212 : Index := 0#32
  let c256_i32_2211 : BitVec 32 := 256#32
  let v4243 : BitVec 32 := Scalar.muli arg11 c256_i32_2211
  let v4244 : BitVec 32 := v4243
  let v4245 : Index := Scalar.indexCast v4244
  let c128_2213 : Index := 128#32
  ![0, v4245.toNat, 128]
def k0_off47 (arg11 : BitVec 32) : Fin 4 → Nat :=
  let c0_2230 : Index := 0#32
  let v4273 : Index := Scalar.indexCast arg11
  let c128_2231 : Index := 128#32
  let c0_2232 : Index := 0#32
  ![0, v4273.toNat, 128, 0]
def k0_mult88 (arg11 : BitVec 32) : BitVec 32 :=
  let c256_i32_2246 : BitVec 32 := 256#32
  let v4291 : BitVec 32 := Scalar.muli arg11 c256_i32_2246
  v4291
def k0_off48 (arg11 : BitVec 32) : Fin 4 → Nat :=
  let c0_2265 : Index := 0#32
  let v4321 : Index := Scalar.indexCast arg11
  let c192_2266 : Index := 192#32
  let c0_2267 : Index := 0#32
  ![0, v4321.toNat, 192, 0]

def k0_chk6 (arg11 : BitVec 32) : Prop :=
  (256 ∣ (k0_mult85 arg11).toNat) ∧
  (∀ a, (k0_off43 arg11) a + S1x256x128.size a ≤ S1x4096x256.size a) ∧
  (∀ a, (k0_off44 arg11) a + S1x1x64x256.size a ≤ S1x16x256x256.size a) ∧
  (256 ∣ (k0_mult86 arg11).toNat) ∧
  (∀ a, (k0_off45 arg11) a + S1x1x64x256.size a ≤ S1x16x256x256.size a) ∧
  (256 ∣ (k0_mult87 arg11).toNat) ∧
  (∀ a, (k0_off46 arg11) a + S1x256x128.size a ≤ S1x4096x256.size a) ∧
  (∀ a, (k0_off47 arg11) a + S1x1x64x256.size a ≤ S1x16x256x256.size a) ∧
  (256 ∣ (k0_mult88 arg11).toNat) ∧
  (∀ a, (k0_off48 arg11) a + S1x1x64x256.size a ≤ S1x16x256x256.size a)
theorem k0_mult85_dvd : ∀ (arg11 : BitVec 32) (k0_hw6 : k0_chk6 arg11), 256 ∣ (k0_mult85 arg11).toNat := fun arg11 k0_hw6 => k0_hw6.1
theorem k0_off43_inb : ∀ (arg11 : BitVec 32) (k0_hw6 : k0_chk6 arg11), ∀ a, (k0_off43 arg11) a + S1x256x128.size a ≤ S1x4096x256.size a := fun arg11 k0_hw6 => k0_hw6.2.1
theorem k0_off44_inb : ∀ (arg11 : BitVec 32) (k0_hw6 : k0_chk6 arg11), ∀ a, (k0_off44 arg11) a + S1x1x64x256.size a ≤ S1x16x256x256.size a := fun arg11 k0_hw6 => k0_hw6.2.2.1
theorem k0_mult86_dvd : ∀ (arg11 : BitVec 32) (k0_hw6 : k0_chk6 arg11), 256 ∣ (k0_mult86 arg11).toNat := fun arg11 k0_hw6 => k0_hw6.2.2.2.1
theorem k0_off45_inb : ∀ (arg11 : BitVec 32) (k0_hw6 : k0_chk6 arg11), ∀ a, (k0_off45 arg11) a + S1x1x64x256.size a ≤ S1x16x256x256.size a := fun arg11 k0_hw6 => k0_hw6.2.2.2.2.1
theorem k0_mult87_dvd : ∀ (arg11 : BitVec 32) (k0_hw6 : k0_chk6 arg11), 256 ∣ (k0_mult87 arg11).toNat := fun arg11 k0_hw6 => k0_hw6.2.2.2.2.2.1
theorem k0_off46_inb : ∀ (arg11 : BitVec 32) (k0_hw6 : k0_chk6 arg11), ∀ a, (k0_off46 arg11) a + S1x256x128.size a ≤ S1x4096x256.size a := fun arg11 k0_hw6 => k0_hw6.2.2.2.2.2.2.1
theorem k0_off47_inb : ∀ (arg11 : BitVec 32) (k0_hw6 : k0_chk6 arg11), ∀ a, (k0_off47 arg11) a + S1x1x64x256.size a ≤ S1x16x256x256.size a := fun arg11 k0_hw6 => k0_hw6.2.2.2.2.2.2.2.1
theorem k0_mult88_dvd : ∀ (arg11 : BitVec 32) (k0_hw6 : k0_chk6 arg11), 256 ∣ (k0_mult88 arg11).toNat := fun arg11 k0_hw6 => k0_hw6.2.2.2.2.2.2.2.2.1
theorem k0_off48_inb : ∀ (arg11 : BitVec 32) (k0_hw6 : k0_chk6 arg11), ∀ a, (k0_off48 arg11) a + S1x1x64x256.size a ≤ S1x16x256x256.size a := fun arg11 k0_hw6 => k0_hw6.2.2.2.2.2.2.2.2.2

def k0_mult89 (arg11 : BitVec 32) : BitVec 32 :=
  let c256_i32_2141 : BitVec 32 := 256#32
  let v4147 : BitVec 32 := Scalar.muli arg11 c256_i32_2141
  v4147

def k0_off49 (arg11 : BitVec 32) : Fin 3 → Nat :=
  let c0_2142 : Index := 0#32
  let c256_i32_2141 : BitVec 32 := 256#32
  let v4147 : BitVec 32 := Scalar.muli arg11 c256_i32_2141
  let v4148 : BitVec 32 := v4147
  let v4149 : Index := Scalar.indexCast v4148
  let c0_2143 : Index := 0#32
  ![0, v4149.toNat, 0]
def k0_off50 (arg11 : BitVec 32) : Fin 4 → Nat :=
  let c0_2160 : Index := 0#32
  let v4177 : Index := Scalar.indexCast arg11
  let c0_2161 : Index := 0#32
  let c0_2162 : Index := 0#32
  ![0, v4177.toNat, 0, 0]
def k0_mult90 (arg11 : BitVec 32) : BitVec 32 :=
  let c256_i32_2176 : BitVec 32 := 256#32
  let v4195 : BitVec 32 := Scalar.muli arg11 c256_i32_2176
  v4195
def k0_off51 (arg11 : BitVec 32) : Fin 4 → Nat :=
  let c0_2195 : Index := 0#32
  let v4225 : Index := Scalar.indexCast arg11
  let c64_2196 : Index := 64#32
  let c0_2197 : Index := 0#32
  ![0, v4225.toNat, 64, 0]
def k0_mult91 (arg11 : BitVec 32) : BitVec 32 :=
  let c256_i32_2211 : BitVec 32 := 256#32
  let v4243 : BitVec 32 := Scalar.muli arg11 c256_i32_2211
  v4243
def k0_off52 (arg11 : BitVec 32) : Fin 3 → Nat :=
  let c0_2212 : Index := 0#32
  let c256_i32_2211 : BitVec 32 := 256#32
  let v4243 : BitVec 32 := Scalar.muli arg11 c256_i32_2211
  let v4244 : BitVec 32 := v4243
  let v4245 : Index := Scalar.indexCast v4244
  let c128_2213 : Index := 128#32
  ![0, v4245.toNat, 128]
def k0_off53 (arg11 : BitVec 32) : Fin 4 → Nat :=
  let c0_2230 : Index := 0#32
  let v4273 : Index := Scalar.indexCast arg11
  let c128_2231 : Index := 128#32
  let c0_2232 : Index := 0#32
  ![0, v4273.toNat, 128, 0]
def k0_mult92 (arg11 : BitVec 32) : BitVec 32 :=
  let c256_i32_2246 : BitVec 32 := 256#32
  let v4291 : BitVec 32 := Scalar.muli arg11 c256_i32_2246
  v4291
def k0_off54 (arg11 : BitVec 32) : Fin 4 → Nat :=
  let c0_2265 : Index := 0#32
  let v4321 : Index := Scalar.indexCast arg11
  let c192_2266 : Index := 192#32
  let c0_2267 : Index := 0#32
  ![0, v4321.toNat, 192, 0]

def k0_chk7 (arg11 : BitVec 32) : Prop :=
  (256 ∣ (k0_mult89 arg11).toNat) ∧
  (∀ a, (k0_off49 arg11) a + S1x256x128.size a ≤ S1x4096x256.size a) ∧
  (∀ a, (k0_off50 arg11) a + S1x1x64x256.size a ≤ S1x16x256x256.size a) ∧
  (256 ∣ (k0_mult90 arg11).toNat) ∧
  (∀ a, (k0_off51 arg11) a + S1x1x64x256.size a ≤ S1x16x256x256.size a) ∧
  (256 ∣ (k0_mult91 arg11).toNat) ∧
  (∀ a, (k0_off52 arg11) a + S1x256x128.size a ≤ S1x4096x256.size a) ∧
  (∀ a, (k0_off53 arg11) a + S1x1x64x256.size a ≤ S1x16x256x256.size a) ∧
  (256 ∣ (k0_mult92 arg11).toNat) ∧
  (∀ a, (k0_off54 arg11) a + S1x1x64x256.size a ≤ S1x16x256x256.size a)
theorem k0_mult89_dvd : ∀ (arg11 : BitVec 32) (k0_hw7 : k0_chk7 arg11), 256 ∣ (k0_mult89 arg11).toNat := fun arg11 k0_hw7 => k0_hw7.1
theorem k0_off49_inb : ∀ (arg11 : BitVec 32) (k0_hw7 : k0_chk7 arg11), ∀ a, (k0_off49 arg11) a + S1x256x128.size a ≤ S1x4096x256.size a := fun arg11 k0_hw7 => k0_hw7.2.1
theorem k0_off50_inb : ∀ (arg11 : BitVec 32) (k0_hw7 : k0_chk7 arg11), ∀ a, (k0_off50 arg11) a + S1x1x64x256.size a ≤ S1x16x256x256.size a := fun arg11 k0_hw7 => k0_hw7.2.2.1
theorem k0_mult90_dvd : ∀ (arg11 : BitVec 32) (k0_hw7 : k0_chk7 arg11), 256 ∣ (k0_mult90 arg11).toNat := fun arg11 k0_hw7 => k0_hw7.2.2.2.1
theorem k0_off51_inb : ∀ (arg11 : BitVec 32) (k0_hw7 : k0_chk7 arg11), ∀ a, (k0_off51 arg11) a + S1x1x64x256.size a ≤ S1x16x256x256.size a := fun arg11 k0_hw7 => k0_hw7.2.2.2.2.1
theorem k0_mult91_dvd : ∀ (arg11 : BitVec 32) (k0_hw7 : k0_chk7 arg11), 256 ∣ (k0_mult91 arg11).toNat := fun arg11 k0_hw7 => k0_hw7.2.2.2.2.2.1
theorem k0_off52_inb : ∀ (arg11 : BitVec 32) (k0_hw7 : k0_chk7 arg11), ∀ a, (k0_off52 arg11) a + S1x256x128.size a ≤ S1x4096x256.size a := fun arg11 k0_hw7 => k0_hw7.2.2.2.2.2.2.1
theorem k0_off53_inb : ∀ (arg11 : BitVec 32) (k0_hw7 : k0_chk7 arg11), ∀ a, (k0_off53 arg11) a + S1x1x64x256.size a ≤ S1x16x256x256.size a := fun arg11 k0_hw7 => k0_hw7.2.2.2.2.2.2.2.1
theorem k0_mult92_dvd : ∀ (arg11 : BitVec 32) (k0_hw7 : k0_chk7 arg11), 256 ∣ (k0_mult92 arg11).toNat := fun arg11 k0_hw7 => k0_hw7.2.2.2.2.2.2.2.2.1
theorem k0_off54_inb : ∀ (arg11 : BitVec 32) (k0_hw7 : k0_chk7 arg11), ∀ a, (k0_off54 arg11) a + S1x1x64x256.size a ≤ S1x16x256x256.size a := fun arg11 k0_hw7 => k0_hw7.2.2.2.2.2.2.2.2.2

def k0_mult93 (arg11 : BitVec 32) : BitVec 32 :=
  let c256_i32_2141 : BitVec 32 := 256#32
  let v4147 : BitVec 32 := Scalar.muli arg11 c256_i32_2141
  v4147

def k0_off55 (arg11 : BitVec 32) : Fin 3 → Nat :=
  let c0_2142 : Index := 0#32
  let c256_i32_2141 : BitVec 32 := 256#32
  let v4147 : BitVec 32 := Scalar.muli arg11 c256_i32_2141
  let v4148 : BitVec 32 := v4147
  let v4149 : Index := Scalar.indexCast v4148
  let c0_2143 : Index := 0#32
  ![0, v4149.toNat, 0]
def k0_off56 (arg11 : BitVec 32) : Fin 4 → Nat :=
  let c0_2160 : Index := 0#32
  let v4177 : Index := Scalar.indexCast arg11
  let c0_2161 : Index := 0#32
  let c0_2162 : Index := 0#32
  ![0, v4177.toNat, 0, 0]
def k0_mult94 (arg11 : BitVec 32) : BitVec 32 :=
  let c256_i32_2176 : BitVec 32 := 256#32
  let v4195 : BitVec 32 := Scalar.muli arg11 c256_i32_2176
  v4195
def k0_off57 (arg11 : BitVec 32) : Fin 4 → Nat :=
  let c0_2195 : Index := 0#32
  let v4225 : Index := Scalar.indexCast arg11
  let c64_2196 : Index := 64#32
  let c0_2197 : Index := 0#32
  ![0, v4225.toNat, 64, 0]
def k0_mult95 (arg11 : BitVec 32) : BitVec 32 :=
  let c256_i32_2211 : BitVec 32 := 256#32
  let v4243 : BitVec 32 := Scalar.muli arg11 c256_i32_2211
  v4243
def k0_off58 (arg11 : BitVec 32) : Fin 3 → Nat :=
  let c0_2212 : Index := 0#32
  let c256_i32_2211 : BitVec 32 := 256#32
  let v4243 : BitVec 32 := Scalar.muli arg11 c256_i32_2211
  let v4244 : BitVec 32 := v4243
  let v4245 : Index := Scalar.indexCast v4244
  let c128_2213 : Index := 128#32
  ![0, v4245.toNat, 128]
def k0_off59 (arg11 : BitVec 32) : Fin 4 → Nat :=
  let c0_2230 : Index := 0#32
  let v4273 : Index := Scalar.indexCast arg11
  let c128_2231 : Index := 128#32
  let c0_2232 : Index := 0#32
  ![0, v4273.toNat, 128, 0]
def k0_mult96 (arg11 : BitVec 32) : BitVec 32 :=
  let c256_i32_2246 : BitVec 32 := 256#32
  let v4291 : BitVec 32 := Scalar.muli arg11 c256_i32_2246
  v4291
def k0_off60 (arg11 : BitVec 32) : Fin 4 → Nat :=
  let c0_2265 : Index := 0#32
  let v4321 : Index := Scalar.indexCast arg11
  let c192_2266 : Index := 192#32
  let c0_2267 : Index := 0#32
  ![0, v4321.toNat, 192, 0]

def k0_chk8 (arg11 : BitVec 32) : Prop :=
  (256 ∣ (k0_mult93 arg11).toNat) ∧
  (∀ a, (k0_off55 arg11) a + S1x256x128.size a ≤ S1x4096x256.size a) ∧
  (∀ a, (k0_off56 arg11) a + S1x1x64x256.size a ≤ S1x16x256x256.size a) ∧
  (256 ∣ (k0_mult94 arg11).toNat) ∧
  (∀ a, (k0_off57 arg11) a + S1x1x64x256.size a ≤ S1x16x256x256.size a) ∧
  (256 ∣ (k0_mult95 arg11).toNat) ∧
  (∀ a, (k0_off58 arg11) a + S1x256x128.size a ≤ S1x4096x256.size a) ∧
  (∀ a, (k0_off59 arg11) a + S1x1x64x256.size a ≤ S1x16x256x256.size a) ∧
  (256 ∣ (k0_mult96 arg11).toNat) ∧
  (∀ a, (k0_off60 arg11) a + S1x1x64x256.size a ≤ S1x16x256x256.size a)
theorem k0_mult93_dvd : ∀ (arg11 : BitVec 32) (k0_hw8 : k0_chk8 arg11), 256 ∣ (k0_mult93 arg11).toNat := fun arg11 k0_hw8 => k0_hw8.1
theorem k0_off55_inb : ∀ (arg11 : BitVec 32) (k0_hw8 : k0_chk8 arg11), ∀ a, (k0_off55 arg11) a + S1x256x128.size a ≤ S1x4096x256.size a := fun arg11 k0_hw8 => k0_hw8.2.1
theorem k0_off56_inb : ∀ (arg11 : BitVec 32) (k0_hw8 : k0_chk8 arg11), ∀ a, (k0_off56 arg11) a + S1x1x64x256.size a ≤ S1x16x256x256.size a := fun arg11 k0_hw8 => k0_hw8.2.2.1
theorem k0_mult94_dvd : ∀ (arg11 : BitVec 32) (k0_hw8 : k0_chk8 arg11), 256 ∣ (k0_mult94 arg11).toNat := fun arg11 k0_hw8 => k0_hw8.2.2.2.1
theorem k0_off57_inb : ∀ (arg11 : BitVec 32) (k0_hw8 : k0_chk8 arg11), ∀ a, (k0_off57 arg11) a + S1x1x64x256.size a ≤ S1x16x256x256.size a := fun arg11 k0_hw8 => k0_hw8.2.2.2.2.1
theorem k0_mult95_dvd : ∀ (arg11 : BitVec 32) (k0_hw8 : k0_chk8 arg11), 256 ∣ (k0_mult95 arg11).toNat := fun arg11 k0_hw8 => k0_hw8.2.2.2.2.2.1
theorem k0_off58_inb : ∀ (arg11 : BitVec 32) (k0_hw8 : k0_chk8 arg11), ∀ a, (k0_off58 arg11) a + S1x256x128.size a ≤ S1x4096x256.size a := fun arg11 k0_hw8 => k0_hw8.2.2.2.2.2.2.1
theorem k0_off59_inb : ∀ (arg11 : BitVec 32) (k0_hw8 : k0_chk8 arg11), ∀ a, (k0_off59 arg11) a + S1x1x64x256.size a ≤ S1x16x256x256.size a := fun arg11 k0_hw8 => k0_hw8.2.2.2.2.2.2.2.1
theorem k0_mult96_dvd : ∀ (arg11 : BitVec 32) (k0_hw8 : k0_chk8 arg11), 256 ∣ (k0_mult96 arg11).toNat := fun arg11 k0_hw8 => k0_hw8.2.2.2.2.2.2.2.2.1
theorem k0_off60_inb : ∀ (arg11 : BitVec 32) (k0_hw8 : k0_chk8 arg11), ∀ a, (k0_off60 arg11) a + S1x1x64x256.size a ≤ S1x16x256x256.size a := fun arg11 k0_hw8 => k0_hw8.2.2.2.2.2.2.2.2.2

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S192x192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x16x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "exp2_arg_max" => some ⊤
  | "log2e" => some (((Real.log 2)⁻¹ : ℝ) : EReal)
  | "mask" => some ⊥
  | "no_block" => some ⊤
  | "suffix_cutoff" => some ⊤
  | _ => none
-- ==== ReferenceIdeal.lean ====
abbrev S8x1024x4096 : Shape := ⟨3, ![8, 1024, 4096]⟩
abbrev S8x4096x1024 : Shape := ⟨3, ![8, 4096, 1024]⟩
abbrev S8x16x1024x256 : Shape := ⟨4, ![8, 16, 1024, 256]⟩
abbrev S8x16x64x4096 : Shape := ⟨4, ![8, 16, 64, 4096]⟩
abbrev S8x16x4096x64 : Shape := ⟨4, ![8, 16, 4096, 64]⟩
abbrev S_ : Shape := ⟨0, ![]⟩
abbrev S8x4096x16x64 : Shape := ⟨4, ![8, 4096, 16, 64]⟩
abbrev S8x16x16x64x256 : Shape := ⟨5, ![8, 16, 16, 64, 256]⟩
abbrev S8x16x16x256x64 : Shape := ⟨5, ![8, 16, 16, 256, 64]⟩
abbrev S4096 : Shape := ⟨1, ![4096]⟩
abbrev S8x16x4096x4096 : Shape := ⟨4, ![8, 16, 4096, 4096]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩

abbrev nBuf : Space → Nat
  | .hbm => 83
  | .vmem => 0
  | .smem => 0
  | _ => 0

abbrev bufTy : (tb : Table) → Fin (tcTables nBuf tb) → BufTy
  | .hbm, ⟨0, _⟩ => ⟨S8x1024x4096, .bf16⟩
  | .hbm, ⟨1, _⟩ => ⟨S8x4096x1024, .bf16⟩
  | .hbm, ⟨2, _⟩ => ⟨S8x16x1024x256, .bf16⟩
  | .hbm, ⟨3, _⟩ => ⟨S8x1024x4096, .f32⟩
  | .hbm, ⟨4, _⟩ => ⟨S8x16x64x4096, .f32⟩
  | .hbm, ⟨5, _⟩ => ⟨S8x16x4096x64, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8x16x4096x64, .f32⟩
  | .hbm, ⟨11, _⟩ => ⟨S8x16x4096x64, .f32⟩
  | .hbm, ⟨12, _⟩ => ⟨S8x4096x1024, .f32⟩
  | .hbm, ⟨13, _⟩ => ⟨S8x4096x16x64, .f32⟩
  | .hbm, ⟨14, _⟩ => ⟨S8x16x4096x64, .f32⟩
  | .hbm, ⟨15, _⟩ => ⟨S8x16x1024x256, .f32⟩
  | .hbm, ⟨16, _⟩ => ⟨S8x16x16x64x256, .f32⟩
  | .hbm, ⟨17, _⟩ => ⟨S8x16x16x256x64, .f32⟩
  | .hbm, ⟨18, _⟩ => ⟨S8x16x4096x64, .f32⟩
  | .hbm, ⟨19, _⟩ => ⟨S4096, .i32⟩
  | .hbm, ⟨20, _⟩ => ⟨S8x16x4096x4096, .f32⟩
  | .hbm, ⟨21, _⟩ => ⟨S_, .f32⟩
  | .hbm, ⟨22, _⟩ => ⟨S8x16x4096x4096, .f32⟩
  | .hbm, ⟨23, _⟩ => ⟨S8x16x4096x4096, .f32⟩
  | .hbm, ⟨24, _⟩ => ⟨S1x4096, .i32⟩
  | .hbm, ⟨25, _⟩ => ⟨S4096x1, .i32⟩
  | .hbm, ⟨26, _⟩ => ⟨S4096x4096, .i32⟩
  | .hbm, ⟨27, _⟩ => ⟨S4096x4096, .i32⟩
  | .hbm, ⟨28, _⟩ => ⟨S4096x4096, .i1⟩
  | .hbm, ⟨29, _⟩ => ⟨S1x1x4096x4096, .i1⟩
  | .hbm, ⟨30, _⟩ => ⟨S8x16x4096x4096, .f32⟩
  | .hbm, ⟨31, _⟩ => ⟨S8x16x4096x4096, .f32⟩
  | .hbm, ⟨32, _⟩ => ⟨S_, .f32⟩
  | .hbm, ⟨33, _⟩ => ⟨S8x16x4096x4096, .f32⟩
  | .hbm, ⟨34, _⟩ => ⟨S8x16x4096x4096, .f32⟩
  | .hbm, ⟨35, _⟩ => ⟨S8x16x4096x4096, .f32⟩
  | .hbm, ⟨36, _⟩ => ⟨S8x16x4096x4096, .f32⟩
  | .hbm, ⟨37, _⟩ => ⟨S8x16x4096x4096, .i1⟩
  | .hbm, ⟨38, _⟩ => ⟨S8x16x4096x4096, .f32⟩
  | .hbm, ⟨39, _⟩ => ⟨S8x16x4096x4096, .f32⟩
  | .hbm, ⟨40, _⟩ => ⟨S8x16x4096x4096, .f32⟩
  | .hbm, ⟨41, _⟩ => ⟨S8x16x4096x4096, .f32⟩
  | .hbm, ⟨42, _⟩ => ⟨S8x16x4096x4096, .f32⟩
  | .hbm, ⟨43, _⟩ => ⟨S8x16x4096x4096, .f32⟩
  | .hbm, ⟨44, _⟩ => ⟨S8x16x4096x4096, .f32⟩
  | .hbm, ⟨45, _⟩ => ⟨S8x16x4096x4096, .f32⟩
  | .hbm, ⟨46, _⟩ => ⟨S8x16x4096x4096, .f32⟩
  | .hbm, ⟨47, _⟩ => ⟨S_, .f32⟩
  | .hbm, ⟨48, _⟩ => ⟨S_, .f32⟩
  | .hbm, ⟨49, _⟩ => ⟨S8x16x4096x4096, .i1⟩
  | .hbm, ⟨50, _⟩ => ⟨S8x16x4096x4096, .f32⟩
  | .hbm, ⟨51, _⟩ => ⟨S8x16x4096x4096, .f32⟩
  | .hbm, ⟨52, _⟩ => ⟨S_, .f32⟩
  | .hbm, ⟨53, _⟩ => ⟨S_, .f32⟩
  | .hbm, ⟨54, _⟩ => ⟨S8x16x4096x4096, .f32⟩
  | .hbm, ⟨55, _⟩ => ⟨S8x16x4096x4096, .f32⟩
  | .hbm, ⟨56, _⟩ => ⟨S8x16x4096x4096, .f32⟩
  | .hbm, ⟨57, _⟩ => ⟨S_, .f32⟩
  | .hbm, ⟨58, _⟩ => ⟨S8x16x4096x4096, .f32⟩
  | .hbm, ⟨59, _⟩ => ⟨S8x16x4096x4096, .f32⟩
  | .hbm, ⟨60, _⟩ => ⟨S8x16x4096x4096, .f32⟩
  | .hbm, ⟨61, _⟩ => ⟨S8x16x4096x4096, .f32⟩
  | .hbm, ⟨62, _⟩ => ⟨S8x16x4096x4096, .i1⟩
  | .hbm, ⟨63, _⟩ => ⟨S8x16x4096x4096, .f32⟩
  | .hbm, ⟨64, _⟩ => ⟨S8x16x4096x4096, .f32⟩
  | .hbm, ⟨65, _⟩ => ⟨S8x16x4096x4096, .f32⟩
  | .hbm, ⟨66, _⟩ => ⟨S8x16x4096x4096, .f32⟩
  | .hbm, ⟨67, _⟩ => ⟨S8x16x4096x4096, .f32⟩
  | .hbm, ⟨68, _⟩ => ⟨S8x16x4096x4096, .f32⟩
  | .hbm, ⟨69, _⟩ => ⟨S8x16x4096x4096, .f32⟩
  | .hbm, ⟨70, _⟩ => ⟨S8x16x4096x4096, .f32⟩
  | .hbm, ⟨71, _⟩ => ⟨S8x16x4096x4096, .f32⟩
  | .hbm, ⟨72, _⟩ => ⟨S8x16x4096x4096, .f32⟩
  | .hbm, ⟨73, _⟩ => ⟨S8x16x4096x4096, .f32⟩
  | .hbm, ⟨74, _⟩ => ⟨S_, .f32⟩
  | .hbm, ⟨75, _⟩ => ⟨S_, .f32⟩
  | .hbm, ⟨76, _⟩ => ⟨S8x16x4096x4096, .i1⟩
  | .hbm, ⟨77, _⟩ => ⟨S8x16x4096x4096, .f32⟩
  | .hbm, ⟨78, _⟩ => ⟨S8x16x4096x4096, .f32⟩
  | .hbm, ⟨79, _⟩ => ⟨S8x16x4096x64, .f32⟩
  | .hbm, ⟨80, _⟩ => ⟨S8x4096x16x64, .f32⟩
  | .hbm, ⟨81, _⟩ => ⟨S8x4096x1024, .f32⟩
  | .hbm, ⟨82, _⟩ => ⟨S8x4096x1024, .bf16⟩
  | _, _ => ⟨S8x1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_call0_v0 : Ref sig .tc := ⟨.hbm, 31, rfl⟩
abbrev main_call0_call0_cst : Ref sig .tc := ⟨.hbm, 32, rfl⟩
abbrev main_call0_call0_v0 : Ref sig .tc := ⟨.hbm, 33, rfl⟩
abbrev main_call0_call0_v1 : Ref sig .tc := ⟨.hbm, 34, rfl⟩
abbrev main_call0_call0_v2 : Ref sig .tc := ⟨.hbm, 35, rfl⟩
abbrev main_call0_call0_v3 : Ref sig .tc := ⟨.hbm, 36, rfl⟩
abbrev main_call0_call0_v4 : Ref sig .tc := ⟨.hbm, 37, rfl⟩
abbrev main_call0_call0_v5 : Ref sig .tc := ⟨.hbm, 38, rfl⟩
abbrev main_call0_call0_v6 : Ref sig .tc := ⟨.hbm, 39, rfl⟩
abbrev main_call0_call0_v7 : Ref sig .tc := ⟨.hbm, 40, rfl⟩
abbrev main_call0_call0_v8 : Ref sig .tc := ⟨.hbm, 41, rfl⟩
abbrev main_call0_call0_v9 : Ref sig .tc := ⟨.hbm, 42, rfl⟩
abbrev main_call0_call0_v10 : Ref sig .tc := ⟨.hbm, 43, rfl⟩
abbrev main_call0_call0_v11 : Ref sig .tc := ⟨.hbm, 44, rfl⟩
abbrev main_call0_v1 : Ref sig .tc := ⟨.hbm, 45, rfl⟩
abbrev main_v25 : Ref sig .tc := ⟨.hbm, 46, rfl⟩
abbrev main_cst_2 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v26 : Ref sig .tc := ⟨.hbm, 51, rfl⟩
abbrev main_call2_cst : Ref sig .tc := ⟨.hbm, 52, rfl⟩
abbrev main_call2_v0 : Ref sig .tc := ⟨.hbm, 53, rfl⟩
abbrev main_v27 : Ref sig .tc := ⟨.hbm, 54, rfl⟩
abbrev main_v28 : Ref sig .tc := ⟨.hbm, 55, rfl⟩
abbrev main_call3_v0 : Ref sig .tc := ⟨.hbm, 56, rfl⟩
abbrev main_call3_call0_cst : Ref sig .tc := ⟨.hbm, 57, rfl⟩
abbrev main_call3_call0_v0 : Ref sig .tc := ⟨.hbm, 58, rfl⟩
abbrev main_call3_call0_v1 : Ref sig .tc := ⟨.hbm, 59, rfl⟩
abbrev main_call3_call0_v2 : Ref sig .tc := ⟨.hbm, 60, rfl⟩
abbrev main_call3_call0_v3 : Ref sig .tc := ⟨.hbm, 61, rfl⟩
abbrev main_call3_call0_v4 : Ref sig .tc := ⟨.hbm, 62, rfl⟩
abbrev main_call3_call0_v5 : Ref sig .tc := ⟨.hbm, 63, rfl⟩
abbrev main_call3_call0_v6 : Ref sig .tc := ⟨.hbm, 64, rfl⟩
abbrev main_call3_call0_v7 : Ref sig .tc := ⟨.hbm, 65, rfl⟩
abbrev main_call3_call0_v8 : Ref sig .tc := ⟨.hbm, 66, rfl⟩
abbrev main_call3_call0_v9 : Ref sig .tc := ⟨.hbm, 67, rfl⟩
abbrev main_call3_call0_v10 : Ref sig .tc := ⟨.hbm, 68, rfl⟩
abbrev main_call3_call0_v11 : Ref sig .tc := ⟨.hbm, 69, rfl⟩
abbrev main_call3_v1 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_cst_3 : Ref sig .tc := ⟨.hbm, 74, rfl⟩
abbrev main_call4_v0 : Ref sig .tc := ⟨.hbm, 75, rfl⟩
abbrev main_call4_v1 : Ref sig .tc := ⟨.hbm, 76, rfl⟩
abbrev main_call4_v2 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩

abbrev nD : Nat := 1
abbrev τ : Topo := Topo.v7x

variable {F : FTy → Type} [FloatOps F]
-- ==== Kernel2.lean ====
abbrev S8x4096x1024 : Shape := ⟨3, ![8, 4096, 1024]⟩
abbrev S2x1024 : Shape := ⟨2, ![2, 1024]⟩
abbrev S2x1024x4096 : Shape := ⟨3, ![2, 1024, 4096]⟩
abbrev S2x1024x1024 : Shape := ⟨3, ![2, 1024, 1024]⟩
abbrev S1024 : Shape := ⟨1, ![1024]⟩
abbrev S1x1024 : Shape := ⟨2, ![1, 1024]⟩
abbrev S1x1024x1024 : Shape := ⟨3, ![1, 1024, 1024]⟩
abbrev S1024x1024 : Shape := ⟨2, ![1024, 1024]⟩
abbrev S1024x1 : Shape := ⟨2, ![1024, 1]⟩

abbrev nBuf : Space → Nat
  | .hbm => 12
  | .vmem => 10
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .f32⟩
  | .hbm, ⟨2, _⟩ => ⟨S2x1024, .f32⟩
  | .hbm, ⟨3, _⟩ => ⟨S2x1024x4096, .f32⟩
  | .hbm, ⟨4, _⟩ => ⟨S2x1024x1024, .f32⟩
  | .hbm, ⟨5, _⟩ => ⟨S1024, .f32⟩
  | .hbm, ⟨6, _⟩ => ⟨S2x1024x1024, .bf16⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S1x1024, .f32⟩
  | .hbm, ⟨11, _⟩ => ⟨S8x4096x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .bf16⟩
  | .local _ .vmem, ⟨7, _⟩ => ⟨S1x1024, .f32⟩
  | .local _ .vmem, ⟨8, _⟩ => ⟨S1x1024x1024, .f32⟩
  | .local _ .vmem, ⟨9, _⟩ => ⟨S1x1024x1024, .f32⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c3_i32 : BitVec 32 := 3#32
  let c0_i32_0 : BitVec 32 := 0#32
  ![c1_i32.toNat, c0_i32.toNat, c3_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S8x4096x1024 : Shape := ⟨3, ![8, 4096, 1024]⟩
abbrev S2x1024 : Shape := ⟨2, ![2, 1024]⟩
abbrev S2x1024x4096 : Shape := ⟨3, ![2, 1024, 4096]⟩
abbrev S2x1024x1024 : Shape := ⟨3, ![2, 1024, 1024]⟩
abbrev S1024 : Shape := ⟨1, ![1024]⟩
abbrev S1x1024 : Shape := ⟨2, ![1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S8x4096x4096 : Shape := ⟨3, ![8, 4096, 4096]⟩
abbrev S1x1024x1024 : Shape := ⟨3, ![1, 1024, 1024]⟩
abbrev S1024x1024 : Shape := ⟨2, ![1024, 1024]⟩

abbrev nBuf : Space → Nat
  | .hbm => 62
  | .vmem => 0
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .f32⟩
  | .hbm, ⟨2, _⟩ => ⟨S2x1024, .f32⟩
  | .hbm, ⟨3, _⟩ => ⟨S2x1024x4096, .f32⟩
  | .hbm, ⟨4, _⟩ => ⟨S2x1024x1024, .f32⟩
  | .hbm, ⟨5, _⟩ => ⟨S1024, .f32⟩
  | .hbm, ⟨6, _⟩ => ⟨S1x1024, .f32⟩
  | .hbm, ⟨7, _⟩ => ⟨S1024, .f32⟩
  | .hbm, ⟨8, _⟩ => ⟨S8x4096x1024, .f32⟩
  | .hbm, ⟨9, _⟩ => ⟨S_, .f32⟩
  | .hbm, ⟨10, _⟩ => ⟨S8x4096, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S8x4096x1, .f32⟩
  | .hbm, ⟨19, _⟩ => ⟨S8x4096x1024, .f32⟩
  | .hbm, ⟨20, _⟩ => ⟨S8x4096x1024, .f32⟩
  | .hbm, ⟨21, _⟩ => ⟨S1x1x1024, .f32⟩
  | .hbm, ⟨22, _⟩ => ⟨S8x4096x1024, .f32⟩
  | .hbm, ⟨23, _⟩ => ⟨S8x4096x1024, .f32⟩
  | .hbm, ⟨24, _⟩ => ⟨S1x1024x4096, .f32⟩
  | .hbm, ⟨25, _⟩ => ⟨S1024x4096, .f32⟩
  | .hbm, ⟨26, _⟩ => ⟨S8x4096x4096, .f32⟩
  | .hbm, ⟨27, _⟩ => ⟨S8x4096x1024, .f32⟩
  | .hbm, ⟨28, _⟩ => ⟨S8x4096x1024, .f32⟩
  | .hbm, ⟨29, _⟩ => ⟨S8x4096x1024, .f32⟩
  | .hbm, ⟨30, _⟩ => ⟨S8x4096x1024, .f32⟩
  | .hbm, ⟨31, _⟩ => ⟨S8x4096x1024, .f32⟩
  | .hbm, ⟨32, _⟩ => ⟨S8x4096x1024, .f32⟩
  | .hbm, ⟨33, _⟩ => ⟨S8x4096x1024, .f32⟩
  | .hbm, ⟨34, _⟩ => ⟨S_, .f32⟩
  | .hbm, ⟨35, _⟩ => ⟨S8x4096x1024, .f32⟩
  | .hbm, ⟨36, _⟩ => ⟨S8x4096x1024, .f32⟩
  | .hbm, ⟨37, _⟩ => ⟨S_, .f32⟩
  | .hbm, ⟨38, _⟩ => ⟨S8x4096x1024, .f32⟩
  | .hbm, ⟨39, _⟩ => ⟨S8x4096x1024, .f32⟩
  | .hbm, ⟨40, _⟩ => ⟨S8x4096x1024, .f32⟩
  | .hbm, ⟨41, _⟩ => ⟨S8x4096x1024, .f32⟩
  | .hbm, ⟨42, _⟩ => ⟨S1x1024x1024, .f32⟩
  | .hbm, ⟨43, _⟩ => ⟨S1024x1024, .f32⟩
  | .hbm, ⟨44, _⟩ => ⟨S8x4096x1024, .f32⟩
  | .hbm, ⟨45, _⟩ => ⟨S8x4096x1024, .f32⟩
  | .hbm, ⟨46, _⟩ => ⟨S8x4096x1024, .f32⟩
  | .hbm, ⟨47, _⟩ => ⟨S_, .f32⟩
  | .hbm, ⟨48, _⟩ => ⟨S8x4096, .f32⟩
  | .hbm, ⟨49, _⟩ => ⟨S8x4096x1, .f32⟩
  | .hbm, ⟨50, _⟩ => ⟨S_, .f32⟩
  | .hbm, ⟨51, _⟩ => ⟨S8x4096x1, .f32⟩
  | .hbm, ⟨52, _⟩ => ⟨S8x4096x1, .f32⟩
  | .hbm, ⟨53, _⟩ => ⟨S_, .f32⟩
  | .hbm, ⟨54, _⟩ => ⟨S8x4096x1, .f32⟩
  | .hbm, ⟨55, _⟩ => ⟨S8x4096x1, .f32⟩
  | .hbm, ⟨56, _⟩ => ⟨S8x4096x1, .f32⟩
  | .hbm, ⟨57, _⟩ => ⟨S8x4096x1024, .f32⟩
  | .hbm, ⟨58, _⟩ => ⟨S8x4096x1024, .f32⟩
  | .hbm, ⟨59, _⟩ => ⟨S1x1x1024, .f32⟩
  | .hbm, ⟨60, _⟩ => ⟨S8x4096x1024, .f32⟩
  | .hbm, ⟨61, _⟩ => ⟨S8x4096x1024, .f32⟩
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_2 : Ref sig .tc := ⟨.hbm, 47, rfl⟩
abbrev main_v30 : Ref sig .tc := ⟨.hbm, 48, rfl⟩
abbrev main_v31 : Ref sig .tc := ⟨.hbm, 49, rfl⟩
abbrev main_cst_3 : Ref sig .tc := ⟨.hbm, 50, rfl⟩
abbrev main_v32 : Ref sig .tc := ⟨.hbm, 51, rfl⟩
abbrev main_v33 : Ref sig .tc := ⟨.hbm, 52, rfl⟩
abbrev main_cst_4 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩

abbrev nD : Nat := 1
abbrev τ : Topo := Topo.v7x

variable {F : FTy → Type} [FloatOps F]
-- ==== Kernel3.lean ====
abbrev S8x4096x1024 : Shape := ⟨3, ![8, 4096, 1024]⟩
abbrev S2x1024 : Shape := ⟨2, ![2, 1024]⟩
abbrev S2x1024x4096 : Shape := ⟨3, ![2, 1024, 4096]⟩
abbrev S1x1024 : Shape := ⟨2, ![1, 1024]⟩
abbrev S1024 : Shape := ⟨1, ![1024]⟩
abbrev S8x1024x4096 : Shape := ⟨3, ![8, 1024, 4096]⟩
abbrev S8x16x1024x256 : Shape := ⟨4, ![8, 16, 1024, 256]⟩
abbrev S1x1024x1024 : Shape := ⟨3, ![1, 1024, 1024]⟩
abbrev S1x4x1024x256 : Shape := ⟨4, ![1, 4, 1024, 256]⟩
abbrev S1024x1024 : Shape := ⟨2, ![1024, 1024]⟩
abbrev S1024x1 : Shape := ⟨2, ![1024, 1]⟩
abbrev S1024x256 : Shape := ⟨2, ![1024, 256]⟩
abbrev S1x1x1024x256 : Shape := ⟨4, ![1, 1, 1024, 256]⟩

abbrev nBuf : Space → Nat
  | .hbm => 10
  | .vmem => 17
  | .smem => 0
  | _ => 0

abbrev bufTy : (tb : Table) → Fin (tcTables nBuf tb) → BufTy
  | .hbm, ⟨0, _⟩ => ⟨S8x4096x1024, .f32⟩
  | .hbm, ⟨1, _⟩ => ⟨S2x1024, .f32⟩
  | .hbm, ⟨2, _⟩ => ⟨S2x1024x4096, .f32⟩
  | .hbm, ⟨3, _⟩ => ⟨S1x1024, .f32⟩
  | .hbm, ⟨4, _⟩ => ⟨S1024, .f32⟩
  | .hbm, ⟨5, _⟩ => ⟨S1x1024, .f32⟩
  | .hbm, ⟨6, _⟩ => ⟨S8x4096x1024, .bf16⟩
  | .hbm, ⟨7, _⟩ => ⟨S8x4096x1024, .bf16⟩
  | .hbm, ⟨8, _⟩ => ⟨S8x1024x4096, .bf16⟩
  | .hbm, ⟨9, _⟩ => ⟨S8x16x1024x256, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x1024x1024, .bf16⟩
  | .local _ .vmem, ⟨13, _⟩ => ⟨S1x4x1024x256, .bf16⟩
  | .local _ .vmem, ⟨14, _⟩ => ⟨S1x4x1024x256, .bf16⟩
  | .local _ .vmem, ⟨15, _⟩ => ⟨S1024x1024, .bf16⟩
  | .local _ .vmem, ⟨16, _⟩ => ⟨S1024x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c1_i32 : BitVec 32 := 1#32
  let c0_i32_1 : BitVec 32 := 0#32
  ![c0_i32.toNat, c0_i32_0.toNat, c1_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c3_i32 : BitVec 32 := 3#32
  let c0_i32_1 : BitVec 32 := 0#32
  ![c0_i32.toNat, c0_i32_0.toNat, c3_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c2_i32 : BitVec 32 := 2#32
  let c0_i32_1 : BitVec 32 := 0#32
  ![c0_i32.toNat, c0_i32_0.toNat, c2_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Kernel3Ideal.lean ====
variable {F : FTy → Type} [FloatOps F] [Named F]
def κ : String → Option EReal := fun
  | "q_scale" => some (((Real.log 256)⁻¹ : ℝ) : EReal)
  | _ => none
-- ==== Reference3Ideal.lean ====
abbrev S8x4096x1024 : Shape := ⟨3, ![8, 4096, 1024]⟩
abbrev S2x1024 : Shape := ⟨2, ![2, 1024]⟩
abbrev S2x1024x4096 : Shape := ⟨3, ![2, 1024, 4096]⟩
abbrev S_ : Shape := ⟨0, ![]⟩
abbrev S8x4096 : Shape := ⟨2, ![8, 4096]⟩
abbrev S8x4096x1 : Shape := ⟨3, ![8, 4096, 1]⟩
abbrev S1x1024 : Shape := ⟨2, ![1, 1024]⟩
abbrev S1024 : Shape := ⟨1, ![1024]⟩
abbrev S1x1x1024 : Shape := ⟨3, ![1, 1, 1024]⟩
abbrev S1x1024x4096 : Shape := ⟨3, ![1, 1024, 4096]⟩
abbrev S1024x4096 : Shape := ⟨2, ![1024, 4096]⟩
abbrev S8x4096x4096 : Shape := ⟨3, ![8, 4096, 4096]⟩
abbrev S8x1024x4096 : Shape := ⟨3, ![8, 1024, 4096]⟩
abbrev S8x16x256x1024 : Shape := ⟨4, ![8, 16, 256, 1024]⟩
abbrev S8x16x1024x256 : Shape := ⟨4, ![8, 16, 1024, 256]⟩

abbrev nBuf : Space → Nat
  | .hbm => 42
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S2x1024, .f32⟩
  | .hbm, ⟨2, _⟩ => ⟨S2x1024x4096, .f32⟩
  | .hbm, ⟨3, _⟩ => ⟨S8x4096x1024, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S8x4096x1, .f32⟩
  | .hbm, ⟨14, _⟩ => ⟨S8x4096x1024, .f32⟩
  | .hbm, ⟨15, _⟩ => ⟨S8x4096x1024, .f32⟩
  | .hbm, ⟨16, _⟩ => ⟨S1x1024, .f32⟩
  | .hbm, ⟨17, _⟩ => ⟨S1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S1x1024x4096, .f32⟩
  | .hbm, ⟨22, _⟩ => ⟨S1024x4096, .f32⟩
  | .hbm, ⟨23, _⟩ => ⟨S8x4096x4096, .f32⟩
  | .hbm, ⟨24, _⟩ => ⟨S8x4096x1024, .f32⟩
  | .hbm, ⟨25, _⟩ => ⟨S8x4096x1024, .f32⟩
  | .hbm, ⟨26, _⟩ => ⟨S8x4096x1024, .f32⟩
  | .hbm, ⟨27, _⟩ => ⟨S8x4096x1024, .f32⟩
  | .hbm, ⟨28, _⟩ => ⟨S_, .f32⟩
  | .hbm, ⟨29, _⟩ => ⟨S8x4096x1024, .f32⟩
  | .hbm, ⟨30, _⟩ => ⟨S8x4096x1024, .f32⟩
  | .hbm, ⟨31, _⟩ => ⟨S_, .f32⟩
  | .hbm, ⟨32, _⟩ => ⟨S_, .f32⟩
  | .hbm, ⟨33, _⟩ => ⟨S8x4096x1024, .f32⟩
  | .hbm, ⟨34, _⟩ => ⟨S8x4096x1024, .f32⟩
  | .hbm, ⟨35, _⟩ => ⟨S8x1024x4096, .f32⟩
  | .hbm, ⟨36, _⟩ => ⟨S8x16x256x1024, .f32⟩
  | .hbm, ⟨37, _⟩ => ⟨S8x16x1024x256, .f32⟩
  | .hbm, ⟨38, _⟩ => ⟨S8x4096x1024, .bf16⟩
  | .hbm, ⟨39, _⟩ => ⟨S8x4096x1024, .bf16⟩
  | .hbm, ⟨40, _⟩ => ⟨S8x1024x4096, .bf16⟩
  | .hbm, ⟨41, _⟩ => ⟨S8x16x1024x256, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩

abbrev nD : Nat := 1
abbrev τ : Topo := Topo.v7x

variable {F : FTy → Type} [FloatOps F]
-- ==== Proof.Stick.Prog.lean ====
module

public import Idealize.ShloMosaic.Lib.Pipeline
public import Idealize.ShloMosaic.Lib.Scf
public import Idealize.ShloMosaic.Lib.Sig
public import Idealize.ShloMosaic.PureOps

/-! # The stick-breaking kernel, said once

The printed kernel is one long straight line: 32 query loads, 64 units of work (a diagonal block and the 192 keys
before it, for each of 8 tiles and 4 heads) whose loads are interleaved by a software pipeline, then per tile a loop
over the earlier key blocks and the store of the tile. Here the same program is written as a few recursive definitions,
generic in the signature and in the five named constants, so that one proof serves both programs. -/

@[expose] public section

noncomputable section

namespace Cert.Stick

open Idealize.ShloMosaic Idealize.SL.Sem

abbrev T256x256 : Shape := ⟨2, ![256, 256]⟩
abbrev T192x192 : Shape := ⟨2, ![192, 192]⟩
abbrev T1x256x2048 : Shape := ⟨3, ![1, 256, 2048]⟩
abbrev T1x4096x256 : Shape := ⟨3, ![1, 4096, 256]⟩
abbrev T1x16x256x256 : Shape := ⟨4, ![1, 16, 256, 256]⟩
abbrev T1x2048x256 : Shape := ⟨3, ![1, 2048, 256]⟩
abbrev T8x4x1x256 : Shape := ⟨4, ![8, 4, 1, 256]⟩
abbrev T8x4x64x256 : Shape := ⟨4, ![8, 4, 64, 256]⟩
abbrev T1x128x256 : Shape := ⟨3, ![1, 128, 256]⟩
abbrev T128x256 : Shape := ⟨2, ![128, 256]⟩
abbrev T128x128 : Shape := ⟨2, ![128, 128]⟩
abbrev T1x256x128 : Shape := ⟨3, ![1, 256, 128]⟩
abbrev T256x128 : Shape := ⟨2, ![256, 128]⟩
abbrev T1x256 : Shape := ⟨2, ![1, 256]⟩
abbrev T1x1x64x256 : Shape := ⟨4, ![1, 1, 64, 256]⟩
abbrev T64x256 : Shape := ⟨2, ![64, 256]⟩
abbrev T1x192x128 : Shape := ⟨3, ![1, 192, 128]⟩
abbrev T192x128 : Shape := ⟨2, ![192, 128]⟩
abbrev T192x256 : Shape := ⟨2, ![192, 256]⟩
abbrev T64x192 : Shape := ⟨2, ![64, 192]⟩
abbrev T1x1x1x256 : Shape := ⟨4, ![1, 1, 1, 256]⟩
abbrev T1x1x256 : Shape := ⟨3, ![1, 1, 256]⟩
abbrev T1 : Shape := ⟨1, ![1]⟩
abbrev T1x1x1 : Shape := ⟨3, ![1, 1, 1]⟩
abbrev T1x256x256 : Shape := ⟨3, ![1, 256, 256]⟩

/-! ## Shape facts -/

theorem posT1x128x256 : 0 < T1x128x256.numel := by decide
theorem posT1x256x128 : 0 < T1x256x128.numel := by decide
theorem posT1x192x128 : 0 < T1x192x128.numel := by decide
theorem posT256x256 : 0 < T256x256.numel := by decide
theorem posT192x192 : 0 < T192x192.numel := by decide
theorem posT1x1x64x256 : 0 < T1x1x64x256.numel := by decide
theorem posT1x1x1x256 : 0 < T1x1x1x256.numel := by decide
theorem posT1x256x256 : 0 < T1x256x256.numel := by decide
theorem scQuery : T1x128x256.ShapeCasts T128x256 := by decide
theorem scKey : T1x256x128.ShapeCasts T256x128 := by decide
theorem scKeyNear : T1x192x128.ShapeCasts T192x128 := by decide
theorem scLater : T256x256.ShapeCasts T256x256 := by decide
theorem scLaterNear : T192x192.ShapeCasts T192x192 := by decide
theorem scValue : T1x1x64x256.ShapeCasts T64x256 := by decide
theorem scAcc : T64x256.ShapeCasts T1x1x64x256 := by decide
theorem scRow : T1x1x1x256.ShapeCasts T1x256 := by decide
theorem scRow' : T1x256.ShapeCasts T1x1x1x256 := by decide
theorem scMin : T1x256.ShapeCasts T1x1x256 := by decide
theorem scMin' : T1.ShapeCasts T1x1x1 := by decide
theorem scOut : T256x256.ShapeCasts T1x256x256 := by decide
theorem ioHead : T128x256.Iotas .tc 32 [0] := by decide
theorem ioRow : T256x256.Iotas .tc 32 [0] := by decide
theorem ioCol : T256x256.Iotas .tc 32 [1] := by decide
theorem slTop : T256x256.Slices ![0, 0] T128x256 := by decide
theorem slBot : T256x256.Slices ![128, 128] T128x128 := by decide
theorem slRow : T256x256.Slices ![0, 0] T1x256 := by decide
theorem slRowTop : T128x256.Slices ![0, 0] T1x256 := by decide
theorem slRowNear : T192x256.Slices ![0, 0] T1x256 := by decide
theorem slValue : T64x256.Slices ![0, 64] T64x192 := by decide
theorem caHalf : Shape.Concatenates [T128x128, T128x128] T128x256 1 := by decide
theorem caFull : Shape.Concatenates [T128x256, T128x256] T256x256 0 := by decide
theorem caHeads : Shape.Concatenates [T64x256, T64x256, T64x256, T64x256] T256x256 0 := by decide
theorem bcNear : T1x256.Broadcasts T192x256 := by decide
theorem bcFar : T1x256.Broadcasts T256x256 := by decide
theorem trOut : T256x256.Transposes [1, 0] T256x256 := by decide
theorem reMin : T1x1x256.Reduces [1, 2] T1 := by decide
theorem inMin : ∀ a, (![0, 0, 0] : Fin 3 → Nat) a < T1x1x1.size a := by decide
theorem ltBf16 : FTy.bits .bf16 < FTy.bits .f32 := by decide
theorem inT256x256 : ∀ a, (![0, 0] : Fin 2 → Nat) a + T256x256.size a ≤ T256x256.size a := by decide
theorem inT192x192 : ∀ a, (![0, 0] : Fin 2 → Nat) a + T192x192.size a ≤ T192x192.size a := by decide
theorem inT1x256x256 : ∀ a, (![0, 0, 0] : Fin 3 → Nat) a + T1x256x256.size a ≤ T1x256x256.size a := by decide

/-! ## Where each load looks

A unit of work is numbered `c = 4 * tile + head`; every function below reduces the number modulo the 32 there are. -/

/-- The tile of unit `c`. -/
def tl (c : Nat) : Nat := c / 4 % 8
/-- The head of unit `c`. -/
def hd (c : Nat) : Nat := c % 4

/-- The query tile of unit `c`: 128 channels holding its head's 64, 256 columns. -/
def offQ (c : Nat) : Fin 3 → Nat := ![0, 128 * (hd c / 2), 256 * tl c]
/-- Key rows from a word, the 128 lanes holding a head's 64. -/
def offK (j : BitVec 32) (hh : Nat) : Fin 3 → Nat := ![0, (Scalar.indexCast j).toNat, 128 * (hh / 2)]
/-- A value block: key tile `j`, one head's 64 channels. -/
def offV (j : BitVec 32) (hh : Nat) : Fin 4 → Nat := ![0, (Scalar.indexCast j).toNat, 64 * hh, 0]
/-- Unit `c`'s place in a scratch buffer. -/
def offS (c : Nat) : Fin 4 → Nat := ![tl c, hd c, 0, 0]
/-- A tile's rows in the output block. -/
def offO (ti : Nat) : Fin 3 → Nat := ![0, 256 * (ti % 8), 0]

/-- The first key tile of grid coordinate `t`. -/
def base (t : Fin 2) : BitVec 32 := Scalar.muli (BitVec.ofNat 32 t.val) 8#32
/-- A tile's own key tile. -/
def ownJ (t : Fin 2) (ti : Nat) : BitVec 32 := Scalar.addi (base t) (BitVec.ofNat 32 ti)
/-- The key tile before it, the first one where there is none. -/
def nearJ (t : Fin 2) (ti : Nat) : BitVec 32 := Scalar.maxsi (Scalar.subi (ownJ t ti) 1#32) 0#32
/-- A key tile's first row. -/
def rowK (j : BitVec 32) : BitVec 32 := Scalar.muli j 256#32
/-- The first of the 192 rows that end a key tile. -/
def rowN (j : BitVec 32) : BitVec 32 := Scalar.addi (Scalar.muli j 256#32) 64#32

theorem tl_lt (c : Nat) : tl c < 8 := Nat.mod_lt _ (by decide)
theorem hd_lt (c : Nat) : hd c < 4 := Nat.mod_lt _ (by decide)

theorem inQ (c : Nat) : ∀ a, offQ c a + T1x128x256.size a ≤ T1x256x2048.size a := by
  have h1 := tl_lt c; have h2 := hd_lt c
  intro a
  match a with
  | 0 => exact Nat.le_refl 1
  | 1 => show 128 * (hd c / 2) + 128 ≤ 256; omega
  | 2 => show 256 * tl c + 256 ≤ 2048; omega

theorem inS1 (c : Nat) : ∀ a, offS c a + T1x1x1x256.size a ≤ T8x4x1x256.size a := by
  have h1 := tl_lt c; have h2 := hd_lt c
  intro a
  match a with
  | 0 => show tl c + 1 ≤ 8; omega
  | 1 => show hd c + 1 ≤ 4; omega
  | 2 => exact Nat.le_refl 1
  | 3 => exact Nat.le_refl 256

theorem inS64 (c : Nat) : ∀ a, offS c a + T1x1x64x256.size a ≤ T8x4x64x256.size a := by
  have h1 := tl_lt c; have h2 := hd_lt c
  intro a
  match a with
  | 0 => show tl c + 1 ≤ 8; omega
  | 1 => show hd c + 1 ≤ 4; omega
  | 2 => exact Nat.le_refl 64
  | 3 => exact Nat.le_refl 256

theorem inO (ti : Nat) : ∀ a, offO ti a + T1x256x256.size a ≤ T1x2048x256.size a := by
  have h1 : ti % 8 < 8 := Nat.mod_lt _ (by decide)
  intro a
  match a with
  | 0 => exact Nat.le_refl 1
  | 1 => show 256 * (ti % 8) + 256 ≤ 2048; omega
  | 2 => exact Nat.le_refl 256

theorem rowK_own (t : Fin 2) (ti : Fin 8) : (Scalar.indexCast (rowK (ownJ t ti.val))).toNat = 256 * (8 * t.val + ti.val) := by
  revert t ti; decide
theorem rowN_near (t : Fin 2) (ti : Fin 8) :
    (Scalar.indexCast (rowN (nearJ t ti.val))).toNat = 256 * (8 * t.val + ti.val - 1) + 64 := by
  revert t ti; decide
theorem tile_own (t : Fin 2) (ti : Fin 8) : (Scalar.indexCast (ownJ t ti.val)).toNat = 8 * t.val + ti.val := by
  revert t ti; decide
theorem tile_near (t : Fin 2) (ti : Fin 8) : (Scalar.indexCast (nearJ t ti.val)).toNat = 8 * t.val + ti.val - 1 := by
  revert t ti; decide

theorem inK0 (t : Fin 2) (c : Nat) : ∀ a, offK (rowK (ownJ t (tl c))) (hd c) a + T1x256x128.size a ≤ T1x4096x256.size a := by
  have h2 := hd_lt c
  have h := rowK_own t ⟨tl c, tl_lt c⟩
  have h1 := tl_lt c; have h3 := t.isLt
  intro a
  match a with
  | 0 => exact Nat.le_refl 1
  | 1 => show (Scalar.indexCast (rowK (ownJ t (tl c)))).toNat + 256 ≤ 4096; simp only at h; omega
  | 2 => show 128 * (hd c / 2) + 128 ≤ 256; omega

theorem inK1 (t : Fin 2) (c : Nat) : ∀ a, offK (rowN (nearJ t (tl c))) (hd c) a + T1x192x128.size a ≤ T1x4096x256.size a := by
  have h2 := hd_lt c
  have h := rowN_near t ⟨tl c, tl_lt c⟩
  have h1 := tl_lt c; have h3 := t.isLt
  intro a
  match a with
  | 0 => exact Nat.le_refl 1
  | 1 => show (Scalar.indexCast (rowN (nearJ t (tl c)))).toNat + 192 ≤ 4096; simp only at h; omega
  | 2 => show 128 * (hd c / 2) + 128 ≤ 256; omega

theorem inV0 (t : Fin 2) (c : Nat) : ∀ a, offV (ownJ t (tl c)) (hd c) a + T1x1x64x256.size a ≤ T1x16x256x256.size a := by
  have h2 := hd_lt c
  have h := tile_own t ⟨tl c, tl_lt c⟩
  have h1 := tl_lt c; have h3 := t.isLt
  intro a
  match a with
  | 0 => exact Nat.le_refl 1
  | 1 => show (Scalar.indexCast (ownJ t (tl c))).toNat + 1 ≤ 16; simp only at h; omega
  | 2 => show 64 * hd c + 64 ≤ 256; omega
  | 3 => exact Nat.le_refl 256

theorem inV1 (t : Fin 2) (c : Nat) : ∀ a, offV (nearJ t (tl c)) (hd c) a + T1x1x64x256.size a ≤ T1x16x256x256.size a := by
  have h2 := hd_lt c
  have h := tile_near t ⟨tl c, tl_lt c⟩
  have h1 := tl_lt c; have h3 := t.isLt
  intro a
  match a with
  | 0 => exact Nat.le_refl 1
  | 1 => show (Scalar.indexCast (nearJ t (tl c))).toNat + 1 ≤ 16; simp only at h; omega
  | 2 => show 64 * hd c + 64 ≤ 256; omega
  | 3 => exact Nat.le_refl 256

/-! ## What is computed between the loads and the stores -/

variable {F : FTy → Type} [FloatOps F]

/-- The five constants the two programs read differently. -/
structure Consts (F : FTy → Type) where
  /-- What a key that does not count scores. -/
  masked : F .f32
  /-- The suffix of a block that is not there. -/
  noBlock : F .f32
  /-- The bound under `exp2`. -/
  cap : F .f32
  /-- The suffix beyond which a tile is done. -/
  cutoff : F .f32
  /-- The base-2 logarithm of e. -/
  log2e : F .f32

variable (K : Consts F)

/-- The query tile with the other head's 64 channels zeroed. -/
def qm (hh : Nat) (x : Vec F T1x128x256 .bf16) : FVec F T128x256 .bf16 :=
  select (andi (cmpi .sge (iota .tc T128x256 32 [0] ioHead) (broadcast T128x256 (BitVec.ofNat 32 (64 * (hh % 2)))))
      (cmpi .slt (iota .tc T128x256 32 [0] ioHead) (broadcast T128x256 (BitVec.ofNat 32 (64 * (hh % 2) + 64)))))
    (shapeCast T128x256 x scQuery) (broadcast T128x256 (Scalar.ofBits .bf16 0x0000#16))

/-- The position of each key in its tile. -/
def keyPos : IVec T256x256 32 := iota .tc T256x256 32 [0] ioRow
/-- Which keys of a tile come before which queries of it. -/
def strict : IVec T256x256 1 := cmpi .slt keyPos (iota .tc T256x256 32 [1] ioCol)

/-- The base-2 softplus. -/
def sp2 {s : Shape} (z : FVec F s .f32) : FVec F s .f32 :=
  maximumf z (mulf (log (addf (broadcast s (Scalar.ofBits .f32 0x3F800000#32)) (exp2 (minimumf z (broadcast s K.cap)))))
    (broadcast s K.log2e))

/-- Two parts of a tile whose lower left is zero, put together. -/
def fullTile (a : FVec F T128x256 .bf16) (b : FVec F T128x128 .bf16) : FVec F T256x256 .bf16 :=
  concatenate T256x256 0 [⟨T128x256, a⟩, ⟨T128x256, concatenate T128x256 1
    [⟨T128x128, broadcast T128x128 (Scalar.ofBits .bf16 0x0000#16)⟩, ⟨T128x128, b⟩] caHalf⟩] caFull

/-- The scores of a whole key tile. -/
def score (k : Vec F T1x256x128 .bf16) (q : FVec F T128x256 .bf16) : FVec F T256x256 .f32 :=
  matmul (DotDims.plain 256 128 256) none (shapeCast T256x128 k scKey) q (constant T256x256 .f32 0x00000000#32)
/-- The scores of the 192 keys before a tile. -/
def scoreNear (k : Vec F T1x192x128 .bf16) (q : FVec F T128x256 .bf16) : FVec F T192x256 .f32 :=
  matmul (DotDims.plain 192 128 256) none (shapeCast T192x128 k scKeyNear) q (constant T192x256 .f32 0x00000000#32)

/-- For each key of a tile, the sum over the keys after it in the tile. -/
def inner (l : Vec F T256x256 .bf16) (s : FVec F T256x256 .bf16) : FVec F T256x256 .f32 :=
  matmul (DotDims.plain 256 256 256) none (shapeCast T256x256 l scLater) s (constant T256x256 .f32 0x00000000#32)
/-- The same among the 192 keys. -/
def innerNear (l : Vec F T192x192 .bf16) (s : FVec F T192x256 .bf16) : FVec F T192x256 .f32 :=
  matmul (DotDims.plain 192 192 256) none (shapeCast T192x192 l scLaterNear) s (constant T192x256 .f32 0x00000000#32)

/-! ### The diagonal block -/

/-- The upper part of the diagonal block's scores. -/
def ownTop (k : Vec F T1x256x128 .bf16) (q : FVec F T128x256 .bf16) : FVec F T128x256 .f32 :=
  select (extractStridedSlice T128x256 ![0, 0] strict slTop) (extractStridedSlice T128x256 ![0, 0] (score k q) slTop)
    (broadcast T128x256 K.masked)
/-- The lower right part. -/
def ownBot (k : Vec F T1x256x128 .bf16) (q : FVec F T128x256 .bf16) : FVec F T128x128 .f32 :=
  select (extractStridedSlice T128x128 ![128, 128] strict slBot) (extractStridedSlice T128x128 ![128, 128] (score k q) slBot)
    (broadcast T128x128 K.masked)
/-- Sums over later keys of the diagonal block. -/
def ownInner (k : Vec F T1x256x128 .bf16) (l : Vec F T256x256 .bf16) (q : FVec F T128x256 .bf16) : FVec F T256x256 .f32 :=
  inner l (fullTile (truncf .bf16 (sp2 K (ownTop K k q)) ltBf16) (truncf .bf16 (sp2 K (ownBot K k q)) ltBf16))
/-- Sums over all keys of the diagonal block. -/
def ownTotal (k : Vec F T1x256x128 .bf16) (l : Vec F T256x256 .bf16) (q : FVec F T128x256 .bf16) : FVec F T1x256 .f32 :=
  addf (extractStridedSlice T1x256 ![0, 0] (ownInner K k l q) slRow)
    (extractStridedSlice T1x256 ![0, 0] (sp2 K (ownTop K k q)) slRowTop)
/-- The diagonal block's weighted values. -/
def ownOut (k : Vec F T1x256x128 .bf16) (l : Vec F T256x256 .bf16) (v : Vec F T1x1x64x256 .bf16)
    (q : FVec F T128x256 .bf16) : FVec F T64x256 .f32 :=
  matmul (DotDims.plain 64 256 256) none (shapeCast T64x256 v scValue)
    (fullTile
      (truncf .bf16 (exp2 (subf (subf (ownTop K k q) (sp2 K (ownTop K k q)))
        (extractStridedSlice T128x256 ![0, 0] (ownInner K k l q) slTop))) ltBf16)
      (truncf .bf16 (exp2 (subf (subf (ownBot K k q) (sp2 K (ownBot K k q)))
        (extractStridedSlice T128x128 ![128, 128] (ownInner K k l q) slBot))) ltBf16))
    (constant T64x256 .f32 0x00000000#32)

/-! ### The 192 keys before it -/

/-- Sums over later keys of the 192. -/
def nearInner (k : Vec F T1x192x128 .bf16) (l : Vec F T192x192 .bf16) (q : FVec F T128x256 .bf16) : FVec F T192x256 .f32 :=
  innerNear l (truncf .bf16 (sp2 K (scoreNear k q)) ltBf16)
/-- Sums over all of the 192. -/
def nearTotal (k : Vec F T1x192x128 .bf16) (l : Vec F T192x192 .bf16) (q : FVec F T128x256 .bf16) : FVec F T1x256 .f32 :=
  addf (extractStridedSlice T1x256 ![0, 0] (nearInner K k l q) slRowNear)
    (extractStridedSlice T1x256 ![0, 0] (sp2 K (scoreNear k q)) slRowNear)
/-- Their weighted values, after the diagonal block's `s`. -/
def nearOut (t : Fin 2) (ti : Nat) (k : Vec F T1x192x128 .bf16) (l : Vec F T192x192 .bf16) (v : Vec F T1x1x64x256 .bf16)
    (q : FVec F T128x256 .bf16) (s : FVec F T1x256 .f32) : FVec F T64x256 .f32 :=
  matmul (DotDims.plain 64 192 256) none (extractStridedSlice T64x192 ![0, 64] (shapeCast T64x256 v scValue) slValue)
    (truncf .bf16 (exp2 (subf (subf (subf (scoreNear k q) (sp2 K (scoreNear k q))) (nearInner K k l q))
      (broadcastTo T192x256 (Scalar.select (Scalar.cmpi .sgt (ownJ t ti) 0#32) s (broadcast T1x256 K.noBlock)) bcNear)))
      ltBf16)
    (constant T64x256 .f32 0x00000000#32)

/-! ### An earlier block -/

/-- An earlier block's scores, where the keys already met do not count. -/
def farZ (t : Fin 2) (ti : Nat) (pos : IVec T256x256 32) (j : BitVec 32) (k : Vec F T1x256x128 .bf16)
    (q : FVec F T128x256 .bf16) : FVec F T256x256 .f32 :=
  select (andi (broadcast T256x256 (Scalar.cmpi .eq j (Scalar.subi (ownJ t ti) 1#32)))
      (cmpi .sge pos (broadcast T256x256 64#32))) (broadcast T256x256 K.masked) (score k q)
/-- Its sums over later keys. -/
def farInner (z : FVec F T256x256 .f32) (l : Vec F T256x256 .bf16) : FVec F T256x256 .f32 :=
  inner l (truncf .bf16 (sp2 K z) ltBf16)
/-- The accumulator after it. -/
def farAcc (z : FVec F T256x256 .f32) (l : Vec F T256x256 .bf16) (s : Vec F T1x1x1x256 .f32) (a : Vec F T1x1x64x256 .f32)
    (v : Vec F T1x1x64x256 .bf16) : FVec F T1x1x64x256 .f32 :=
  shapeCast T1x1x64x256 (addf (shapeCast T64x256 a scValue) (matmul (DotDims.plain 64 256 256) none (shapeCast T64x256 v scValue)
    (truncf .bf16 (exp2 (subf (subf (subf z (sp2 K z)) (farInner K z l)) (broadcastTo T256x256 (shapeCast T1x256 s scRow) bcFar)))
      ltBf16) (constant T64x256 .f32 0x00000000#32))) scAcc
/-- The suffix after it. -/
def farSuf (z : FVec F T256x256 .f32) (l : Vec F T256x256 .bf16) (s : Vec F T1x1x1x256 .f32) : FVec F T1x1x1x256 .f32 :=
  shapeCast T1x1x1x256 (addf (shapeCast T1x256 s scRow) (addf (extractStridedSlice T1x256 ![0, 0] (farInner K z l) slRow)
    (extractStridedSlice T1x256 ![0, 0] (sp2 K z) slRow))) scRow'

/-- The least element of a row. -/
def rowMin (s : Vec F T1x1x1x256 .f32) : F .f32 :=
  extractAt ![0, 0, 0] (shapeCast T1x1x1 (multiReduction .minimumf [1, 2] T1 (shapeCast T1x1x256 (shapeCast T1x256 s scRow) scMin)
    0x7F800000#32 reMin (.inl rfl) rfl) scMin') inMin
/-- The least of four rows. -/
def rowMin4 (s0 s1 s2 s3 : Vec F T1x1x1x256 .f32) : F .f32 :=
  Scalar.minimumf (Scalar.minimumf (Scalar.minimumf (rowMin s0) (rowMin s1)) (rowMin s2)) (rowMin s3)
/-- A tile's result: four heads' accumulators, queries first. -/
def outTile (a0 a1 a2 a3 : Vec F T1x1x64x256 .f32) : FVec F T1x256x256 .bf16 :=
  shapeCast T1x256x256 (truncf .bf16 (transpose T256x256 [1, 0] (concatenate T256x256 0
    [⟨T64x256, shapeCast T64x256 a0 scValue⟩, ⟨T64x256, shapeCast T64x256 a1 scValue⟩,
     ⟨T64x256, shapeCast T64x256 a2 scValue⟩, ⟨T64x256, shapeCast T64x256 a3 scValue⟩] caHeads) trOut) ltBf16) scOut

/-! ## What has been loaded -/

/-- The blocks loaded so far, by unit. -/
structure Env (F : FTy → Type) where
  q : Nat → Vec F T1x128x256 .bf16
  k0 : Nat → Vec F T1x256x128 .bf16
  k1 : Nat → Vec F T1x192x128 .bf16
  l0 : Nat → Vec F T256x256 .bf16
  l1 : Nat → Vec F T192x192 .bf16
  v0 : Nat → Vec F T1x1x64x256 .bf16
  v1 : Nat → Vec F T1x1x64x256 .bf16

/-- A family with one member replaced. -/
def upd {α : Type} (f : Nat → α) (n : Nat) (x : α) : Nat → α := fun u => cond (Nat.beq n u) x (f u)

/-- The kinds of load: queries, keys, the table of later keys, values; of a diagonal block or of the 192 keys. -/
inductive Ev where
  | q (c : Nat) | k0 (c : Nat) | k1 (c : Nat) | l0 (c : Nat) | l1 (c : Nat) | v0 (c : Nat) | v1 (c : Nat)
  deriving DecidableEq

/-- The key load of pipeline unit `u`. -/
def evK (u : Nat) : Ev := cond (Nat.blt u 32) (.k0 u) (.k1 (u - 32))
/-- Its load of the table of later keys. -/
def evL (u : Nat) : Ev := cond (Nat.blt u 32) (.l0 u) (.l1 (u - 32))
/-- Its value load. -/
def evV (u : Nat) : Ev := cond (Nat.blt u 32) (.v0 u) (.v1 (u - 32))

/-- The loads of pipeline step `s`: keys for unit `s`, the table for the unit three before, values for five before. -/
def stepEv (s : Nat) : List Ev :=
  cond (Nat.blt s 64) [evK s] [] ++ (cond (Nat.blt 2 s && Nat.blt s 67) [evL (s - 3)] [] ++
    cond (Nat.blt 4 s) [evV (s - 5)] [])

/-- The numbers from `n` on, `k` of them. -/
def upFrom : Nat → Nat → List Nat
  | _, 0 => []
  | n, k + 1 => n :: upFrom (n + 1) k

/-- All loads, in order. -/
def allEv : List Ev := (upFrom 0 32).map .q ++ (upFrom 0 69).flatMap stepEv

/-- A query block, masked. -/
def Env.qm (e : Env F) (c : Nat) : FVec F T128x256 .bf16 := Stick.qm (hd c) (e.q c)
/-- Unit `c`'s first accumulator. -/
def Env.acc (e : Env F) (t : Fin 2) (c : Nat) : FVec F T1x1x64x256 .f32 :=
  shapeCast T1x1x64x256 (addf (ownOut K (e.k0 c) (e.l0 c) (e.v0 c) (e.qm c))
    (nearOut K t (tl c) (e.k1 c) (e.l1 c) (e.v1 c) (e.qm c) (ownTotal K (e.k0 c) (e.l0 c) (e.qm c)))) scAcc
/-- Unit `c`'s first suffix. -/
def Env.suf (e : Env F) (c : Nat) : FVec F T1x1x1x256 .f32 :=
  shapeCast T1x1x1x256 (addf (ownTotal K (e.k0 c) (e.l0 c) (e.qm c)) (nearTotal K (e.k1 c) (e.l1 c) (e.qm c))) scRow'

/-! ## The program -/

variable {nD : Nat} {τ : Topo} {sig : RefSig} {Λ : Labels}

/-- The kernel's buffers. -/
structure Bufs (sig : RefSig) where
  later : Memref sig .tc .vmem T256x256 .bf16
  laterN : Memref sig .tc .vmem T192x192 .bf16
  qt : Memref sig .tc .vmem T1x256x2048 .bf16
  ks : Memref sig .tc .vmem T1x4096x256 .bf16
  vt : Memref sig .tc .vmem T1x16x256x256 .bf16
  out : Memref sig .tc .vmem T1x2048x256 .bf16
  suf : Memref sig .tc .vmem T8x4x1x256 .f32
  acc : Memref sig .tc .vmem T8x4x64x256 .f32

section Program

/-- Programs of the kernel's body. -/
abbrev BProg (nD : Nat) (τ : Topo) (sig : RefSig) (Λ : Labels) (F : FTy → Type) (α : Type) : Type 1 :=
  Prog (TpuEff nD τ sig (Elt F) Λ .tc) α

variable {α : Type} (B : Bufs sig) (t : Fin 2)

/-- Do the loads, then continue with what they gave. -/
def loads : List Ev → Env F → (Env F → BProg nD τ sig Λ F α) → BProg nD τ sig Λ F α
  | [], e, k => k e
  | .q c :: es, e, k =>
    Prog.op (.load B.qt (Rect.unit (s := T1x256x2048) (offQ c) T1x128x256.size (inQ c)).toLoadRect (View.loadsAt_vmem posT1x128x256))
      fun x => loads es { e with q := upd e.q c x } k
  | .k0 c :: es, e, k =>
    Prog.op (.load B.ks (Rect.unit (s := T1x4096x256) (offK (rowK (ownJ t (tl c))) (hd c)) T1x256x128.size (inK0 t c)).toLoadRect
        (View.loadsAt_vmem posT1x256x128))
      fun x => loads es { e with k0 := upd e.k0 c x } k
  | .k1 c :: es, e, k =>
    Prog.op (.load B.ks (Rect.unit (s := T1x4096x256) (offK (rowN (nearJ t (tl c))) (hd c)) T1x192x128.size (inK1 t c)).toLoadRect
        (View.loadsAt_vmem posT1x192x128))
      fun x => loads es { e with k1 := upd e.k1 c x } k
  | .l0 c :: es, e, k =>
    Prog.op (.load B.later (Rect.unit (s := T256x256) ![0, 0] T256x256.size inT256x256).toLoadRect (View.loadsAt_vmem posT256x256))
      fun x => loads es { e with l0 := upd e.l0 c x } k
  | .l1 c :: es, e, k =>
    Prog.op (.load B.laterN (Rect.unit (s := T192x192) ![0, 0] T192x192.size inT192x192).toLoadRect (View.loadsAt_vmem posT192x192))
      fun x => loads es { e with l1 := upd e.l1 c x } k
  | .v0 c :: es, e, k =>
    Prog.op (.load B.vt (Rect.unit (s := T1x16x256x256) (offV (ownJ t (tl c)) (hd c)) T1x1x64x256.size (inV0 t c)).toLoadRect
        (View.loadsAt_vmem posT1x1x64x256))
      fun x => loads es { e with v0 := upd e.v0 c x } k
  | .v1 c :: es, e, k =>
    Prog.op (.load B.vt (Rect.unit (s := T1x16x256x256) (offV (nearJ t (tl c)) (hd c)) T1x1x64x256.size (inV1 t c)).toLoadRect
        (View.loadsAt_vmem posT1x1x64x256))
      fun x => loads es { e with v1 := upd e.v1 c x } k

/-- Unit `c`'s suffix in the scratch. -/
abbrev rS (c : Nat) : Rect T8x4x1x256 := Rect.unit (s := T8x4x1x256) (offS c) T1x1x1x256.size (inS1 c)
/-- Unit `c`'s accumulator in the scratch. -/
abbrev rA (c : Nat) : Rect T8x4x64x256 := Rect.unit (s := T8x4x64x256) (offS c) T1x1x64x256.size (inS64 c)
/-- A tile of the output block. -/
abbrev rO (ti : Nat) : Rect T1x2048x256 := Rect.unit (s := T1x2048x256) (offO ti) T1x256x256.size (inO ti)

/-- Read a suffix. -/
abbrev ldS (c : Nat) (k : Vec F T1x1x1x256 .f32 → BProg nD τ sig Λ F α) : BProg nD τ sig Λ F α :=
  Prog.op (.load B.suf (rS c).toLoadRect (View.loadsAt_vmem posT1x1x1x256)) k
/-- Read an accumulator. -/
abbrev ldA (c : Nat) (k : Vec F T1x1x64x256 .f32 → BProg nD τ sig Λ F α) : BProg nD τ sig Λ F α :=
  Prog.op (.load B.acc (rA c).toLoadRect (View.loadsAt_vmem posT1x1x64x256)) k
/-- Write a suffix: the store's read of what was there, then the store. -/
abbrev stS (c : Nat) (x : Vec F T1x1x1x256 .f32) (k : BProg nD τ sig Λ F α) : BProg nD τ sig Λ F α :=
  ldS B c fun _ => Prog.op (.store B.suf (rS c) x Finset.univ (View.stores_vmem_bits_univ posT1x1x1x256 rfl) (.inl rfl)) fun _ => k
/-- Write an accumulator. -/
abbrev stA (c : Nat) (x : Vec F T1x1x64x256 .f32) (k : BProg nD τ sig Λ F α) : BProg nD τ sig Λ F α :=
  ldA B c fun _ => Prog.op (.store B.acc (rA c) x Finset.univ (View.stores_vmem_bits_univ posT1x1x64x256 rfl) (.inl rfl)) fun _ => k

/-- The first accumulators and suffixes go to the scratch. -/
def stores (e : Env F) (k : BProg nD τ sig Λ F α) : List Nat → BProg nD τ sig Λ F α
  | [] => k
  | c :: cs => stA B c (e.acc K t c) (stS B c (e.suf K c) (stores e k cs))

/-- A tile's four suffixes. -/
abbrev ldS4 (ti : Nat) (k : F .f32 → BProg nD τ sig Λ F α) : BProg nD τ sig Λ F α :=
  ldS B (4 * ti) fun s0 => ldS B (4 * ti + 1) fun s1 => ldS B (4 * ti + 2) fun s2 => ldS B (4 * ti + 3) fun s3 =>
    k (rowMin4 s0 s1 s2 s3)

/-- A tile: the loop over its earlier blocks, then its store. -/
def tile (loop : BitVec 32 → F .f32 → BProg nD τ sig Λ F (BitVec 32 × F .f32)) (ti : Nat)
    (hst : (B.out.access (rO ti)).Stores Finset.univ)
    (k : BProg nD τ sig Λ F α) : BProg nD τ sig Λ F α :=
  ldS4 B ti fun m => loop (Scalar.subi (ownJ t ti) 1#32) m >>= fun _ =>
    ldA B (4 * ti) fun a0 => ldA B (4 * ti + 1) fun a1 => ldA B (4 * ti + 2) fun a2 => ldA B (4 * ti + 3) fun a3 =>
    Prog.op (.load (B.out.slice (rO ti) (fun _ => rfl)) (Rect.unit (s := T1x256x256) ![0, 0, 0] T1x256x256.size inT1x256x256).toLoadRect
      (View.loadsAt_vmem posT1x256x256)) fun _ =>
    Prog.op (.store B.out (rO ti) (outTile a0 a1 a2 a3) Finset.univ hst (.inl rfl)) fun _ => k

/-- The tiles in order. -/
def tiles (loop : Nat → BitVec 32 → F .f32 → BProg nD τ sig Λ F (BitVec 32 × F .f32))
    (hst : ∀ ti, (B.out.access (rO ti)).Stores Finset.univ) : List Nat → BProg nD τ sig Λ F PUnit
  | [] => Prog.ret ⟨⟩
  | ti :: ts => tile B t (loop ti) ti (hst ti) (tiles loop hst ts)

/-- The whole body. `loop` is handed what it needs of the loads: a tile's four query blocks. -/
def body (e₀ : Env F) (loop : Nat → (Nat → FVec F T128x256 .bf16) → BitVec 32 → F .f32 →
      BProg nD τ sig Λ F (BitVec 32 × F .f32))
    (hst : ∀ ti, (B.out.access (rO ti)).Stores Finset.univ) : BProg nD τ sig Λ F PUnit :=
  loads B t allEv e₀ fun e => stores K B t e (tiles B t (fun ti => loop ti e.qm) hst (upFrom 0 8)) (upFrom 0 32)

/-! ### The loop over a tile's earlier blocks -/

/-- What the loop checks of a word before it reads with it. -/
structure Chk where
  chk : BitVec 32 → Prop
  dec : ∀ j, Decidable (chk j)
  inK : ∀ j, chk j → ∀ hh : Fin 4, ∀ a, offK (rowK j) hh.val a + T1x256x128.size a ≤ T1x4096x256.size a
  inV : ∀ j, chk j → ∀ hh : Fin 4, ∀ a, offV j hh.val a + T1x1x64x256.size a ≤ T1x16x256x256.size a

/-- One head's turn of the loop. -/
def farHead (C : Chk) (pos : IVec T256x256 32) (q : FVec F T128x256 .bf16) (ti : Nat) (j : BitVec 32) (hj : C.chk j) (hh : Fin 4)
    (k : BProg nD τ sig Λ F α) : BProg nD τ sig Λ F α :=
  Prog.op (.load B.ks (Rect.unit (s := T1x4096x256) (offK (rowK j) hh.val) T1x256x128.size (C.inK j hj hh)).toLoadRect
      (View.loadsAt_vmem posT1x256x128)) fun kb =>
  Prog.op (.load B.later (Rect.unit (s := T256x256) ![0, 0] T256x256.size inT256x256).toLoadRect (View.loadsAt_vmem posT256x256)) fun l =>
  ldS B (4 * ti + hh.val) fun s => ldA B (4 * ti + hh.val) fun a =>
  Prog.op (.load B.vt (Rect.unit (s := T1x16x256x256) (offV j hh.val) T1x1x64x256.size (C.inV j hj hh)).toLoadRect
      (View.loadsAt_vmem posT1x1x64x256)) fun v =>
  stA B (4 * ti + hh.val) (farAcc K (farZ K t ti pos j kb q) l s a v)
    (ldS B (4 * ti + hh.val) fun s' => stS B (4 * ti + hh.val) (farSuf K (farZ K t ti pos j kb q) l s') k)

/-- One turn of the loop, `again` the next, `ret` what it gives back. -/
def far {ρ : Type} (C : Chk) (pos : IVec T256x256 32) (q0 q1 q2 q3 : FVec F T128x256 .bf16) (ti : Nat) (ret : BitVec 32 → F .f32 → ρ)
    (j : BitVec 32) (m : F .f32) (again : BitVec 32 → F .f32 → BProg nD τ sig Λ F ρ) : BProg nD τ sig Λ F ρ :=
  if Scalar.andi (Scalar.cmpi .sge j 0#32) (Scalar.cmpf .ole m K.cutoff) = 1#1 then
    Prog.op (.assume (C.chk j) (C.dec j)) fun h =>
      farHead K B t C pos q0 ti j h.down 0 <| farHead K B t C pos q1 ti j h.down 1 <|
      farHead K B t C pos q2 ti j h.down 2 <| farHead K B t C pos q3 ti j h.down 3 <|
      ldS4 B ti fun m' => again (Scalar.subi j 1#32) m'
  else Prog.ret (ret j m)

end Program

end Cert.Stick
-- ==== Proof.Stick.Model.lean ====
module

public import proofs.«01_k».proof.Proof.Stick.Prog
public import Idealize.ShloMosaic.Lib.Pointwise

/-! # What the stick-breaking kernel leaves in its output block

The loads as functions of the five input blocks, the loop over a tile's earlier blocks as a recursive function of the
tile's four suffixes and accumulators, and the output block as a function of the input blocks. -/

@[expose] public section

noncomputable section

namespace Cert.Stick

open Idealize.ShloMosaic Idealize.SL.Sem

variable {F : FTy → Type} [FloatOps F]

/-- The five input blocks of one grid point. -/
structure In (F : FTy → Type) where
  later : Vec F T256x256 .bf16
  laterN : Vec F T192x192 .bf16
  qt : Vec F T1x256x2048 .bf16
  ks : Vec F T1x4096x256 .bf16
  vt : Vec F T1x16x256x256 .bf16

variable (K : Consts F) (I : In F) (t : Fin 2)

/-! ## The loads -/

/-- Unit `c`'s queries. -/
def In.q (c : Nat) : Vec F T1x128x256 .bf16 := fun x =>
  I.qt ((Rect.unit (s := T1x256x2048) (offQ c) T1x128x256.size (inQ c)).toLoadRect.idx x)
/-- Its tile's own keys. -/
def In.k0 (c : Nat) : Vec F T1x256x128 .bf16 := fun x =>
  I.ks ((Rect.unit (s := T1x4096x256) (offK (rowK (ownJ t (tl c))) (hd c)) T1x256x128.size (inK0 t c)).toLoadRect.idx x)
/-- The 192 keys before them. -/
def In.k1 (c : Nat) : Vec F T1x192x128 .bf16 := fun x =>
  I.ks ((Rect.unit (s := T1x4096x256) (offK (rowN (nearJ t (tl c))) (hd c)) T1x192x128.size (inK1 t c)).toLoadRect.idx x)
/-- The table of later keys. -/
def In.l : Vec F T256x256 .bf16 := fun x =>
  I.later ((Rect.unit (s := T256x256) ![0, 0] T256x256.size inT256x256).toLoadRect.idx x)
/-- The table of later keys among the 192. -/
def In.lN : Vec F T192x192 .bf16 := fun x =>
  I.laterN ((Rect.unit (s := T192x192) ![0, 0] T192x192.size inT192x192).toLoadRect.idx x)
/-- Unit `c`'s own values. -/
def In.v0 (c : Nat) : Vec F T1x1x64x256 .bf16 := fun x =>
  I.vt ((Rect.unit (s := T1x16x256x256) (offV (ownJ t (tl c)) (hd c)) T1x1x64x256.size (inV0 t c)).toLoadRect.idx x)
/-- The values of the block before. -/
def In.v1 (c : Nat) : Vec F T1x1x64x256 .bf16 := fun x =>
  I.vt ((Rect.unit (s := T1x16x256x256) (offV (nearJ t (tl c)) (hd c)) T1x1x64x256.size (inV1 t c)).toLoadRect.idx x)

/-- Everything the loads give. -/
def In.env : Env F := ⟨I.q, I.k0 t, I.k1 t, fun _ => I.l, fun _ => I.lN, I.v0 t, I.v1 t⟩

/-- What a list of loads leaves loaded. -/
def take : List Ev → Env F → Env F
  | [], e => e
  | .q c :: es, e => take es { e with q := upd e.q c (I.q c) }
  | .k0 c :: es, e => take es { e with k0 := upd e.k0 c (I.k0 t c) }
  | .k1 c :: es, e => take es { e with k1 := upd e.k1 c (I.k1 t c) }
  | .l0 c :: es, e => take es { e with l0 := upd e.l0 c I.l }
  | .l1 c :: es, e => take es { e with l1 := upd e.l1 c I.lN }
  | .v0 c :: es, e => take es { e with v0 := upd e.v0 c (I.v0 t c) }
  | .v1 c :: es, e => take es { e with v1 := upd e.v1 c (I.v1 t c) }

theorem upd_same {α : Type} (f : Nat → α) (n : Nat) (x : α) : upd f n x n = x := by simp [upd]
theorem upd_other {α : Type} (f : Nat → α) {n m : Nat} (x : α) (h : m ≠ n) : upd f n x m = f m := by
  have : Nat.beq n m = false := by rw [← Bool.not_eq_true, Nat.beq_eq]; exact fun e => h e.symm
  simp [upd, this]

/-- A member is right if it is loaded, or was right before. -/
theorem upd_right {α : Type} {f g : Nat → α} {n c : Nat} {P : Prop} (h : (c = n ∨ P) ∨ f c = g c) :
    P ∨ upd f n (g n) c = g c := by
  by_cases e : c = n
  · subst e; exact .inr (upd_same f c (g c))
  · rw [upd_other f _ e]; rcases h with (h | h) | h
    · exact absurd h e
    · exact .inl h
    · exact .inr h

theorem take_q (c : Nat) : ∀ (es : List Ev) (e : Env F), Ev.q c ∈ es ∨ e.q c = I.q c → (take I t es e).q c = I.q c
  | [], e, h => by simpa [take] using h
  | a :: es, e, h => by
    cases a <;> refine take_q c es _ ?_ <;> simp only [List.mem_cons, reduceCtorEq, false_or, Ev.q.injEq] at h ⊢
    · exact upd_right (f := e.q) (g := I.q) h
    all_goals exact h
theorem take_k0 (c : Nat) : ∀ (es : List Ev) (e : Env F), Ev.k0 c ∈ es ∨ e.k0 c = I.k0 t c → (take I t es e).k0 c = I.k0 t c
  | [], e, h => by simpa [take] using h
  | a :: es, e, h => by
    cases a <;> refine take_k0 c es _ ?_ <;> simp only [List.mem_cons, reduceCtorEq, false_or, Ev.k0.injEq] at h ⊢
    case k0 => exact upd_right (f := e.k0) (g := I.k0 t) h
    all_goals exact h
theorem take_k1 (c : Nat) : ∀ (es : List Ev) (e : Env F), Ev.k1 c ∈ es ∨ e.k1 c = I.k1 t c → (take I t es e).k1 c = I.k1 t c
  | [], e, h => by simpa [take] using h
  | a :: es, e, h => by
    cases a <;> refine take_k1 c es _ ?_ <;> simp only [List.mem_cons, reduceCtorEq, false_or, Ev.k1.injEq] at h ⊢
    case k1 => exact upd_right (f := e.k1) (g := I.k1 t) h
    all_goals exact h
theorem take_l0 (c : Nat) : ∀ (es : List Ev) (e : Env F), Ev.l0 c ∈ es ∨ e.l0 c = I.l → (take I t es e).l0 c = I.l
  | [], e, h => by simpa [take] using h
  | a :: es, e, h => by
    cases a <;> refine take_l0 c es _ ?_ <;> simp only [List.mem_cons, reduceCtorEq, false_or, Ev.l0.injEq] at h ⊢
    case l0 => exact upd_right (f := e.l0) (g := fun _ => I.l) h
    all_goals exact h
theorem take_l1 (c : Nat) : ∀ (es : List Ev) (e : Env F), Ev.l1 c ∈ es ∨ e.l1 c = I.lN → (take I t es e).l1 c = I.lN
  | [], e, h => by simpa [take] using h
  | a :: es, e, h => by
    cases a <;> refine take_l1 c es _ ?_ <;> simp only [List.mem_cons, reduceCtorEq, false_or, Ev.l1.injEq] at h ⊢
    case l1 => exact upd_right (f := e.l1) (g := fun _ => I.lN) h
    all_goals exact h
theorem take_v0 (c : Nat) : ∀ (es : List Ev) (e : Env F), Ev.v0 c ∈ es ∨ e.v0 c = I.v0 t c → (take I t es e).v0 c = I.v0 t c
  | [], e, h => by simpa [take] using h
  | a :: es, e, h => by
    cases a <;> refine take_v0 c es _ ?_ <;> simp only [List.mem_cons, reduceCtorEq, false_or, Ev.v0.injEq] at h ⊢
    case v0 => exact upd_right (f := e.v0) (g := I.v0 t) h
    all_goals exact h
theorem take_v1 (c : Nat) : ∀ (es : List Ev) (e : Env F), Ev.v1 c ∈ es ∨ e.v1 c = I.v1 t c → (take I t es e).v1 c = I.v1 t c
  | [], e, h => by simpa [take] using h
  | a :: es, e, h => by
    cases a <;> refine take_v1 c es _ ?_ <;> simp only [List.mem_cons, reduceCtorEq, false_or, Ev.v1.injEq] at h ⊢
    case v1 => exact upd_right (f := e.v1) (g := I.v1 t) h
    all_goals exact h

/-- Every unit's loads are among the body's. -/
theorem mem_allEv (c : Fin 32) : Ev.q c.val ∈ allEv ∧ Ev.k0 c.val ∈ allEv ∧ Ev.k1 c.val ∈ allEv ∧ Ev.l0 c.val ∈ allEv ∧
    Ev.l1 c.val ∈ allEv ∧ Ev.v0 c.val ∈ allEv ∧ Ev.v1 c.val ∈ allEv := by
  revert c; decide +kernel

theorem take_suf (e : Env F) {c : Nat} (hc : c < 32) : (take I t allEv e).suf K c = (I.env t).suf K c := by
  have h := mem_allEv ⟨c, hc⟩
  simp only [Env.suf, Env.qm, In.env, take_q I t c _ e (.inl h.1), take_k0 I t c _ e (.inl h.2.1), take_k1 I t c _ e (.inl h.2.2.1),
    take_l0 I t c _ e (.inl h.2.2.2.1), take_l1 I t c _ e (.inl h.2.2.2.2.1)]
theorem take_acc (e : Env F) {c : Nat} (hc : c < 32) : (take I t allEv e).acc K t c = (I.env t).acc K t c := by
  have h := mem_allEv ⟨c, hc⟩
  simp only [Env.acc, Env.qm, In.env, take_q I t c _ e (.inl h.1), take_k0 I t c _ e (.inl h.2.1), take_k1 I t c _ e (.inl h.2.2.1),
    take_l0 I t c _ e (.inl h.2.2.2.1), take_l1 I t c _ e (.inl h.2.2.2.2.1), take_v0 I t c _ e (.inl h.2.2.2.2.2.1),
    take_v1 I t c _ e (.inl h.2.2.2.2.2.2)]
theorem take_qm (e : Env F) {c : Nat} (hc : c < 32) : (take I t allEv e).qm c = (I.env t).qm c := by
  have h := mem_allEv ⟨c, hc⟩
  simp only [Env.qm, In.env, take_q I t c _ e (.inl h.1)]

/-! ## The loop -/

theorem inKF (n : Fin 16) (hh : Fin 4) : ∀ a, offK (rowK (BitVec.ofNat 32 n.val)) hh.val a + T1x256x128.size a ≤ T1x4096x256.size a := by
  revert n hh; decide +kernel
theorem inVF (n : Fin 16) (hh : Fin 4) : ∀ a, offV (BitVec.ofNat 32 n.val) hh.val a + T1x1x64x256.size a ≤ T1x16x256x256.size a := by
  revert n hh; decide +kernel

/-- Block `n`'s keys. -/
def In.kF (n : Fin 16) (hh : Fin 4) : Vec F T1x256x128 .bf16 := fun x =>
  I.ks ((Rect.unit (s := T1x4096x256) (offK (rowK (BitVec.ofNat 32 n.val)) hh.val) T1x256x128.size (inKF n hh)).toLoadRect.idx x)
/-- Block `n`'s values. -/
def In.vF (n : Fin 16) (hh : Fin 4) : Vec F T1x1x64x256 .bf16 := fun x =>
  I.vt ((Rect.unit (s := T1x16x256x256) (offV (BitVec.ofNat 32 n.val) hh.val) T1x1x64x256.size (inVF n hh)).toLoadRect.idx x)

/-- A head's running suffix and accumulator. -/
abbrev HSt (F : FTy → Type) := Vec F T1x1x1x256 .f32 × Vec F T1x1x64x256 .f32

/-- Block `n`'s scores in the loop. -/
def In.zF (ti : Nat) (n : Fin 16) (hh : Fin 4) : FVec F T256x256 .f32 :=
  farZ K t ti keyPos (BitVec.ofNat 32 n.val) (I.kF n hh) ((I.env t).qm (4 * ti + hh.val))

/-- One head's turn of the loop. -/
def hStep (ti : Nat) (n : Fin 16) (hh : Fin 4) (st : HSt F) : HSt F :=
  (farSuf K (I.zF K t ti n hh) I.l st.1, farAcc K (I.zF K t ti n hh) I.l st.1 st.2 (I.vF n hh))

/-- The loop's test at block `n`. -/
def goes (n : Nat) (m : F .f32) : Prop :=
  Scalar.andi (Scalar.cmpi .sge (BitVec.ofNat 32 n) 0#32) (Scalar.cmpf .ole m K.cutoff) = 1#1

instance (n : Nat) (m : F .f32) : Decidable (goes K n m) := by unfold goes; infer_instance

/-- The least suffix of a tile. -/
def least (L : Fin 4 → HSt F) : F .f32 := rowMin4 (L 0).1 (L 1).1 (L 2).1 (L 3).1

/-- The loop with `n` blocks to go. -/
def loopRun (ti : Nat) : Nat → F .f32 → (Fin 4 → HSt F) → (Fin 4 → HSt F)
  | 0, _, L => L
  | n + 1, m, L =>
    if goes K n m then
      let L' := fun hh => hStep K I t ti (Fin.ofNat 16 n) hh (L hh)
      loopRun ti n (least L') L'
    else L

/-- A tile before its loop. -/
def start (ti : Nat) : Fin 4 → HSt F := fun hh => ((I.env t).suf K (4 * ti + hh.val), (I.env t).acc K t (4 * ti + hh.val))
/-- A tile after it. -/
def final (ti : Nat) : Fin 4 → HSt F := loopRun K I t ti (8 * t.val + ti) (least (start K I t ti)) (start K I t ti)
/-- A tile of the output. -/
def outOf (ti : Nat) : FVec F T1x256x256 .bf16 :=
  outTile (final K I t ti 0).2 (final K I t ti 1).2 (final K I t ti 2).2 (final K I t ti 3).2

/-- The output block. -/
def outBlock : Vec F T1x2048x256 .bf16 := fun y =>
  outOf K I t ((y 1).val / 256) (ix3 (y 0) ⟨(y 1).val % 256, Nat.mod_lt _ (by decide)⟩ (y 2))

/-- The loop word with `n` blocks to go. -/
def jw (n : Nat) : BitVec 32 := Scalar.subi (BitVec.ofNat 32 n) 1#32

theorem jw_succ : ∀ n : Fin 16, jw (n.val + 1) = BitVec.ofNat 32 n.val := by decide +kernel
theorem jw_start : ∀ (t : Fin 2) (ti : Fin 8), Scalar.subi (ownJ t ti.val) 1#32 = jw (8 * t.val + ti.val) := by decide +kernel
theorem jw_zero : Scalar.cmpi .sge (jw 0) 0#32 = 0#1 := by decide +kernel

end Cert.Stick
-- ==== Proof.Stick.Wp.lean ====
module

public import proofs.«01_k».proof.Proof.Stick.Model
public import Idealize.ShloMosaic.Lib.Tactic

/-! # The stick-breaking body, run

Holding the five input blocks, the two scratch buffers and the output block, the body leaves the output block at
`outBlock` and the inputs as they were. -/

@[expose] public section

noncomputable section

namespace Cert.Stick

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable {nD : Nat} {τ : Topo} {sig : RefSig} {Λ : Labels} {U : Type} [URA U]

local notation "𝕄" => MT nD τ sig Unit (Elt F) ℕ U ℕ

variable {defs : Defs nD τ sig (Elt F) Λ} (𝒱 : Variants) (c : Dev nD) (bd : Option 𝒱.V) (E : Set ℕ)

/-! ## Loads and stores of a whole buffer's reading -/

section Basic

variable {α : Type} {cs : CoreSpace} {s : Shape} {e : EltTy} {Q : α → sProp (MT nD τ sig Unit (Elt F) ℕ U ℕ)}

theorem wp_load_owns {m : Memref sig .tc cs s e} {r : LoadRect s} {hl : m.view.LoadsAt r}
    {k : (r.shape.Idx → Elt F e) → BProg nD τ sig Λ F α} {X : s.Idx → Elt F e} :
    (owns (c : Thread nD τ) m fullShare X : sProp 𝕄)
      ⊢ iprop((owns (c : Thread nD τ) m fullShare X -∗ wp frame (wpE defs 𝒱 (c : Thread nD τ) bd) E (k fun x => X (r.idx x)) Q)
        -∗ wp frame (wpE defs 𝒱 (c : Thread nD τ) bd) E (Prog.op (.load m r hl) k) Q) := by
  unfold owns
  iintro ⟨%f, %hf, H⟩ Hk
  subst hf
  iapply (wp_load 𝒱 (c : Thread nD τ) bd E (m := m) (View.setOn_subset_set _ _)) $$ H
  iintro H
  iapply Hk
  iexists f
  isplitr
  · ipureintro; rfl
  iexact H

theorem wp_load_dead {m : Memref sig .tc cs s e} {R : Rect s} {hR : ∀ a, R.stride a = 1} {r : LoadRect R.shape} {hl : (m.slice R hR).view.LoadsAt r}
    {k : (r.shape.Idx → Elt F e) → BProg nD τ sig Λ F α} {X : s.Idx → Elt F e} :
    (owns (c : Thread nD τ) m fullShare X : sProp 𝕄)
      ⊢ iprop((∀ w, owns (c : Thread nD τ) m fullShare X -∗ wp frame (wpE defs 𝒱 (c : Thread nD τ) bd) E (k w) Q)
        -∗ wp frame (wpE defs 𝒱 (c : Thread nD τ) bd) E (Prog.op (.load (m.slice R hR) r hl) k) Q) := by
  unfold owns
  iintro ⟨%f, %hf, H⟩ Hk
  subst hf
  iapply (wp_load 𝒱 (c : Thread nD τ) bd E (m := m.slice R hR) (S := m.view.set) (f := f)
    ((View.setOn_subset_set _ _).trans (View.set_slice_subset _ _))) $$ H
  iintro H
  iapply Hk
  iexists f
  isplitr
  · ipureintro; rfl
  iexact H

theorem wp_store_owns {m : Memref sig .tc cs s e} {r : Rect s} {w : r.shape.Idx → Elt F e} {hx : (m.access r).Stores Finset.univ} {hm}
    {k : PUnit → BProg nD τ sig Λ F α} {X : s.Idx → Elt F e} :
    (owns (c : Thread nD τ) m fullShare X : sProp 𝕄)
      ⊢ iprop((∀ Y : s.Idx → Elt F e, ⌜∀ x, Y (r.emb x) = w x⌝ -∗ ⌜∀ y, (∀ x, r.emb x ≠ y) → Y y = X y⌝ -∗ owns (c : Thread nD τ) m fullShare Y
          -∗ wp frame (wpE defs 𝒱 (c : Thread nD τ) bd) E (k ⟨⟩) Q)
        -∗ wp frame (wpE defs 𝒱 (c : Thread nD τ) bd) E (Prog.op (.store m r w Finset.univ hx hm) k) Q) := by
  unfold owns
  iintro ⟨%f, %hf, H⟩ Hk
  subst hf
  iapply (wp_store 𝒱 (c : Thread nD τ) bd E (m := m) (r := r) (Mk := Finset.univ) (S := m.view.set) (f := f)
    (View.set_slice_subset _ _)) $$ H
  iintro H
  iapply Hk $$ %(m.view.read (Elt F) ((m.access r).write (Elt F) f w Finset.univ))
  · ipureintro
    exact fun x => View.read_slice_write_emb r f w (Finset.mem_univ x)
  · ipureintro
    exact fun y hy => View.read_slice_write_of_not_mem r f w _ (by
      intro h; obtain ⟨x, -, hx⟩ := Finset.mem_map.mp h; exact hy x hx)
  iexists _
  isplitr
  · ipureintro; rfl
  iexact H

end Basic

/-! ## The scratch buffers by unit -/

variable (B : Bufs sig)

/-- The suffixes. -/
def sufHeld (S : Nat → Vec F T1x1x1x256 .f32) : sProp 𝕄 :=
  iprop(∃ X, ⌜∀ n, n < 32 → ∀ x, X ((rS n).toLoadRect.idx x) = S n x⌝ ∗ owns (c : Thread nD τ) B.suf fullShare X)
/-- The accumulators. -/
def accHeld (A : Nat → Vec F T1x1x64x256 .f32) : sProp 𝕄 :=
  iprop(∃ X, ⌜∀ n, n < 32 → ∀ x, X ((rA n).toLoadRect.idx x) = A n x⌝ ∗ owns (c : Thread nD τ) B.acc fullShare X)
/-- The first `n` tiles of the output. -/
def outHeld (n : Nat) (G : Nat → FVec F T1x256x256 .bf16) : sProp 𝕄 :=
  iprop(∃ X, ⌜∀ ti, ti < n → ∀ x, X ((rO ti).emb x) = G ti x⌝ ∗ owns (c : Thread nD τ) B.out fullShare X)

theorem rS_ne {n m : Nat} (hn : n < 32) (hm : m < 32) (h : n ≠ m) (x : T1x1x1x256.Idx) (y : T1x1x1x256.Idx) :
    (rS m).emb x ≠ (rS n).toLoadRect.idx y := by
  intro e
  have e0 : tl m + 1 * (x 0).val = tl n + 1 * (y 0).val := congrArg (fun z => (z 0).val) e
  have e1 : hd m + 1 * (x 1).val = hd n + 1 * (y 1).val := congrArg (fun z => (z 1).val) e
  have h0 : (x 0).val < 1 := (x 0).isLt
  have h1 : (y 0).val < 1 := (y 0).isLt
  have h2 : (x 1).val < 1 := (x 1).isLt
  have h3 : (y 1).val < 1 := (y 1).isLt
  unfold tl at e0; unfold hd at e1; omega

theorem rA_ne {n m : Nat} (hn : n < 32) (hm : m < 32) (h : n ≠ m) (x : T1x1x64x256.Idx) (y : T1x1x64x256.Idx) :
    (rA m).emb x ≠ (rA n).toLoadRect.idx y := by
  intro e
  have e0 : tl m + 1 * (x 0).val = tl n + 1 * (y 0).val := congrArg (fun z => (z 0).val) e
  have e1 : hd m + 1 * (x 1).val = hd n + 1 * (y 1).val := congrArg (fun z => (z 1).val) e
  have h0 : (x 0).val < 1 := (x 0).isLt
  have h1 : (y 0).val < 1 := (y 0).isLt
  have h2 : (x 1).val < 1 := (x 1).isLt
  have h3 : (y 1).val < 1 := (y 1).isLt
  unfold tl at e0; unfold hd at e1; omega

theorem rO_ne {n m : Nat} (hn : n < 8) (hm : m < 8) (h : n ≠ m) (x : T1x256x256.Idx) (y : T1x256x256.Idx) :
    (rO m).emb x ≠ (rO n).emb y := by
  intro e
  have e1 : 256 * (m % 8) + 1 * (x 1).val = 256 * (n % 8) + 1 * (y 1).val := congrArg (fun z => (z 1).val) e
  have h2 : (x 1).val < 256 := (x 1).isLt
  have h3 : (y 1).val < 256 := (y 1).isLt
  omega

section Scratch

variable {α : Type} {Q : α → sProp (MT nD τ sig Unit (Elt F) ℕ U ℕ)}

theorem wp_ldS {n : Nat} (hn : n < 32) {S : Nat → Vec F T1x1x1x256 .f32} {k : Vec F T1x1x1x256 .f32 → BProg nD τ sig Λ F α} :
    (sufHeld c B S : sProp 𝕄) ⊢ iprop((sufHeld c B S -∗ wp frame (wpE defs 𝒱 (c : Thread nD τ) bd) E (k (S n)) Q)
        -∗ wp frame (wpE defs 𝒱 (c : Thread nD τ) bd) E (ldS B n k) Q) := by
  unfold sufHeld
  iintro ⟨%X, %hX, H⟩ Hk
  rw [← (funext (hX n hn) : (fun x => X ((rS n).toLoadRect.idx x)) = S n)]
  iapply (wp_load_owns 𝒱 c bd E) $$ H
  iintro H
  iapply Hk
  iexists X
  isplitr
  · ipureintro; exact hX
  iexact H

theorem wp_ldA {n : Nat} (hn : n < 32) {A : Nat → Vec F T1x1x64x256 .f32} {k : Vec F T1x1x64x256 .f32 → BProg nD τ sig Λ F α} :
    (accHeld c B A : sProp 𝕄) ⊢ iprop((accHeld c B A -∗ wp frame (wpE defs 𝒱 (c : Thread nD τ) bd) E (k (A n)) Q)
        -∗ wp frame (wpE defs 𝒱 (c : Thread nD τ) bd) E (ldA B n k) Q) := by
  unfold accHeld
  iintro ⟨%X, %hX, H⟩ Hk
  rw [← (funext (hX n hn) : (fun x => X ((rA n).toLoadRect.idx x)) = A n)]
  iapply (wp_load_owns 𝒱 c bd E) $$ H
  iintro H
  iapply Hk
  iexists X
  isplitr
  · ipureintro; exact hX
  iexact H

theorem wp_stS {n : Nat} (hn : n < 32) {S : Nat → Vec F T1x1x1x256 .f32} {w : Vec F T1x1x1x256 .f32} {k : BProg nD τ sig Λ F α} :
    (sufHeld c B S : sProp 𝕄) ⊢ iprop((sufHeld c B (upd S n w) -∗ wp frame (wpE defs 𝒱 (c : Thread nD τ) bd) E k Q)
        -∗ wp frame (wpE defs 𝒱 (c : Thread nD τ) bd) E (stS B n w k) Q) := by
  iintro H Hk
  iapply (wp_ldS 𝒱 c bd E B hn) $$ H
  unfold sufHeld
  iintro ⟨%X, %hX, H⟩
  iapply (wp_store_owns 𝒱 c bd E) $$ H
  iintro %Y %h1 %h2 H
  iapply Hk
  iexists Y
  isplitr
  · ipureintro
    intro m hm x
    by_cases h : m = n
    · subst h; rw [upd_same]; exact h1 x
    · rw [upd_other _ _ h, ← hX m hm x]
      exact h2 _ fun y => rS_ne hm hn h y x
  iexact H

theorem wp_stA {n : Nat} (hn : n < 32) {A : Nat → Vec F T1x1x64x256 .f32} {w : Vec F T1x1x64x256 .f32} {k : BProg nD τ sig Λ F α} :
    (accHeld c B A : sProp 𝕄) ⊢ iprop((accHeld c B (upd A n w) -∗ wp frame (wpE defs 𝒱 (c : Thread nD τ) bd) E k Q)
        -∗ wp frame (wpE defs 𝒱 (c : Thread nD τ) bd) E (stA B n w k) Q) := by
  iintro H Hk
  iapply (wp_ldA 𝒱 c bd E B hn) $$ H
  unfold accHeld
  iintro ⟨%X, %hX, H⟩
  iapply (wp_store_owns 𝒱 c bd E) $$ H
  iintro %Y %h1 %h2 H
  iapply Hk
  iexists Y
  isplitr
  · ipureintro
    intro m hm x
    by_cases h : m = n
    · subst h; rw [upd_same]; exact h1 x
    · rw [upd_other _ _ h, ← hX m hm x]
      exact h2 _ fun y => rA_ne hm hn h y x
  iexact H

end Scratch

/-! ## The loads -/

/-- The five input blocks, held. -/
def inHeld (I : In F) : sProp 𝕄 :=
  iprop(owns (c : Thread nD τ) B.later fullShare I.later ∗ owns (c : Thread nD τ) B.laterN fullShare I.laterN
    ∗ owns (c : Thread nD τ) B.qt fullShare I.qt ∗ owns (c : Thread nD τ) B.ks fullShare I.ks
    ∗ owns (c : Thread nD τ) B.vt fullShare I.vt)

variable (I : In F) (t : Fin 2) (K : Consts F)

section Loads

variable {α : Type} {Q : α → sProp (MT nD τ sig Unit (Elt F) ℕ U ℕ)}

theorem acc_later : (inHeld c B I : sProp 𝕄) ⊢ iprop(owns (c : Thread nD τ) B.later fullShare I.later
    ∗ (owns (c : Thread nD τ) B.later fullShare I.later -∗ inHeld c B I)) := by
  unfold inHeld
  iintro ⟨Hl, Hn, Hq, Hk, Hv⟩
  isplitl [Hl]; · iexact Hl
  iintro Hl
  isplitl [Hl]; · iexact Hl
  isplitl [Hn]; · iexact Hn
  isplitl [Hq]; · iexact Hq
  isplitl [Hk]; · iexact Hk
  iexact Hv

theorem acc_laterN : (inHeld c B I : sProp 𝕄) ⊢ iprop(owns (c : Thread nD τ) B.laterN fullShare I.laterN
    ∗ (owns (c : Thread nD τ) B.laterN fullShare I.laterN -∗ inHeld c B I)) := by
  unfold inHeld
  iintro ⟨Hl, Hn, Hq, Hk, Hv⟩
  isplitl [Hn]; · iexact Hn
  iintro Hn
  isplitl [Hl]; · iexact Hl
  isplitl [Hn]; · iexact Hn
  isplitl [Hq]; · iexact Hq
  isplitl [Hk]; · iexact Hk
  iexact Hv

theorem acc_qt : (inHeld c B I : sProp 𝕄) ⊢ iprop(owns (c : Thread nD τ) B.qt fullShare I.qt
    ∗ (owns (c : Thread nD τ) B.qt fullShare I.qt -∗ inHeld c B I)) := by
  unfold inHeld
  iintro ⟨Hl, Hn, Hq, Hk, Hv⟩
  isplitl [Hq]; · iexact Hq
  iintro Hq
  isplitl [Hl]; · iexact Hl
  isplitl [Hn]; · iexact Hn
  isplitl [Hq]; · iexact Hq
  isplitl [Hk]; · iexact Hk
  iexact Hv

theorem acc_ks : (inHeld c B I : sProp 𝕄) ⊢ iprop(owns (c : Thread nD τ) B.ks fullShare I.ks
    ∗ (owns (c : Thread nD τ) B.ks fullShare I.ks -∗ inHeld c B I)) := by
  unfold inHeld
  iintro ⟨Hl, Hn, Hq, Hk, Hv⟩
  isplitl [Hk]; · iexact Hk
  iintro Hk
  isplitl [Hl]; · iexact Hl
  isplitl [Hn]; · iexact Hn
  isplitl [Hq]; · iexact Hq
  isplitl [Hk]; · iexact Hk
  iexact Hv

theorem acc_vt : (inHeld c B I : sProp 𝕄) ⊢ iprop(owns (c : Thread nD τ) B.vt fullShare I.vt
    ∗ (owns (c : Thread nD τ) B.vt fullShare I.vt -∗ inHeld c B I)) := by
  unfold inHeld
  iintro ⟨Hl, Hn, Hq, Hk, Hv⟩
  isplitl [Hv]; · iexact Hv
  iintro Hv
  isplitl [Hl]; · iexact Hl
  isplitl [Hn]; · iexact Hn
  isplitl [Hq]; · iexact Hq
  isplitl [Hk]; · iexact Hk
  iexact Hv

/-- A load from an input block. -/
theorem wp_load_in {s : Shape} {e : EltTy} {m : Memref sig .tc .vmem s e} {r : LoadRect s} {hl : m.view.LoadsAt r}
    {k : (r.shape.Idx → Elt F e) → BProg nD τ sig Λ F α} {X : s.Idx → Elt F e}
    (acc : (inHeld c B I : sProp 𝕄) ⊢ iprop(owns (c : Thread nD τ) m fullShare X ∗ (owns (c : Thread nD τ) m fullShare X -∗ inHeld c B I))) :
    (inHeld c B I : sProp 𝕄)
      ⊢ iprop((inHeld c B I -∗ wp frame (wpE defs 𝒱 (c : Thread nD τ) bd) E (k fun x => X (r.idx x)) Q)
        -∗ wp frame (wpE defs 𝒱 (c : Thread nD τ) bd) E (Prog.op (.load m r hl) k) Q) := by
  refine acc.trans ?_
  iintro ⟨H, Hb⟩ Hk
  iapply (wp_load_owns 𝒱 c bd E) $$ H
  iintro H
  iapply Hk
  iapply Hb
  iexact H

theorem wp_loads {k : Env F → BProg nD τ sig Λ F α} : ∀ (es : List Ev) (e : Env F),
    (inHeld c B I : sProp 𝕄) ⊢ iprop((inHeld c B I -∗ wp frame (wpE defs 𝒱 (c : Thread nD τ) bd) E (k (take I t es e)) Q)
        -∗ wp frame (wpE defs 𝒱 (c : Thread nD τ) bd) E (loads B t es e k) Q)
  | [], e => by
    iintro H Hk
    unfold loads take
    iapply Hk; iexact H
  | .q d :: es, e => by
    unfold loads take
    iintro H Hk
    iapply (wp_load_in 𝒱 c bd E B I (acc_qt c B I)) $$ H
    iintro H
    iapply (wp_loads es _) $$ H
    iexact Hk
  | .k0 d :: es, e => by
    unfold loads take
    iintro H Hk
    iapply (wp_load_in 𝒱 c bd E B I (acc_ks c B I)) $$ H
    iintro H
    iapply (wp_loads es _) $$ H
    iexact Hk
  | .k1 d :: es, e => by
    unfold loads take
    iintro H Hk
    iapply (wp_load_in 𝒱 c bd E B I (acc_ks c B I)) $$ H
    iintro H
    iapply (wp_loads es _) $$ H
    iexact Hk
  | .l0 d :: es, e => by
    unfold loads take
    iintro H Hk
    iapply (wp_load_in 𝒱 c bd E B I (acc_later c B I)) $$ H
    iintro H
    iapply (wp_loads es _) $$ H
    iexact Hk
  | .l1 d :: es, e => by
    unfold loads take
    iintro H Hk
    iapply (wp_load_in 𝒱 c bd E B I (acc_laterN c B I)) $$ H
    iintro H
    iapply (wp_loads es _) $$ H
    iexact Hk
  | .v0 d :: es, e => by
    unfold loads take
    iintro H Hk
    iapply (wp_load_in 𝒱 c bd E B I (acc_vt c B I)) $$ H
    iintro H
    iapply (wp_loads es _) $$ H
    iexact Hk
  | .v1 d :: es, e => by
    unfold loads take
    iintro H Hk
    iapply (wp_load_in 𝒱 c bd E B I (acc_vt c B I)) $$ H
    iintro H
    iapply (wp_loads es _) $$ H
    iexact Hk

end Loads

end Cert.Stick
-- ==== Proof.Stick.Run.lean ====
module

public import proofs.«01_k».proof.Proof.Stick.Wp

/-! # The stick-breaking body, run: stores, loops and tiles -/

@[expose] public section

noncomputable section

namespace Cert.Stick

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable {nD : Nat} {τ : Topo} {sig : RefSig} {Λ : Labels} {U : Type} [URA U]

local notation "𝕄" => MT nD τ sig Unit (Elt F) ℕ U ℕ

variable {defs : Defs nD τ sig (Elt F) Λ} (𝒱 : Variants) (c : Dev nD) (bd : Option 𝒱.V) (E : Set ℕ)
variable (B : Bufs sig) (I : In F) (t : Fin 2) (K : Consts F)

/-! ## The first stores -/

/-- A family with the members of a list replaced. -/
def putAll {α : Type} (f : Nat → α) : List Nat → (Nat → α) → Nat → α
  | [], S => S
  | c :: cs, S => putAll f cs (upd S c (f c))

theorem putAll_mem {α : Type} (f : Nat → α) (c : Nat) : ∀ (cs : List Nat) (S : Nat → α), c ∈ cs ∨ S c = f c → putAll f cs S c = f c
  | [], S, h => by simpa [putAll] using h
  | a :: cs, S, h => putAll_mem f c cs _ (upd_right (f := S) (g := f) (by simpa [List.mem_cons] using h))

section Body

variable {α : Type} {Q : α → sProp (MT nD τ sig Unit (Elt F) ℕ U ℕ)}

theorem wp_stores (e : Env F) {k : BProg nD τ sig Λ F α} : ∀ (cs : List Nat) (S A), (∀ n ∈ cs, n < 32) →
    ((sufHeld c B S : sProp 𝕄) ⊢ iprop(accHeld c B A
      -∗ (sufHeld c B (putAll (e.suf K) cs S) -∗ accHeld c B (putAll (e.acc K t) cs A) -∗ wp frame (wpE defs 𝒱 (c : Thread nD τ) bd) E k Q)
      -∗ wp frame (wpE defs 𝒱 (c : Thread nD τ) bd) E (stores K B t e k cs) Q))
  | [], S, A, h => by
    unfold stores putAll
    iintro HS HA Hk
    iapply Hk $$ HS HA
  | n :: cs, S, A, h => by
    unfold stores putAll
    iintro HS HA Hk
    iapply (wp_stA 𝒱 c bd E B (h n (List.mem_cons_self ..))) $$ HA
    iintro HA
    iapply (wp_stS 𝒱 c bd E B (h n (List.mem_cons_self ..))) $$ HS
    iintro HS
    iapply (wp_stores e cs _ _ (fun n hn => h n (List.mem_cons_of_mem _ hn))) $$ HS HA
    iexact Hk

/-! ## The loop -/

theorem wp_farHead (C : Chk) (n : Fin 16) (hj : C.chk (BitVec.ofNat 32 n.val)) (hh : Fin 4) {ti : Nat} (hti : ti < 8)
    {st : HSt F} {S A} (hS : S (4 * ti + hh.val) = st.1) (hA : A (4 * ti + hh.val) = st.2) {k : BProg nD τ sig Λ F α} :
    (inHeld c B I : sProp 𝕄) ⊢ iprop(sufHeld c B S -∗ accHeld c B A
      -∗ (inHeld c B I
        -∗ sufHeld c B (upd S (4 * ti + hh.val) (hStep K I t ti n hh st).1)
        -∗ accHeld c B (upd A (4 * ti + hh.val) (hStep K I t ti n hh st).2)
        -∗ wp frame (wpE defs 𝒱 (c : Thread nD τ) bd) E k Q)
      -∗ wp frame (wpE defs 𝒱 (c : Thread nD τ) bd) E (farHead K B t C keyPos ((I.env t).qm (4 * ti + hh.val)) ti (BitVec.ofNat 32 n.val) hj hh k) Q) := by
  have hu : 4 * ti + hh.val < 32 := by have := hh.isLt; omega
  unfold farHead hStep
  rw [← hS, ← hA]
  iintro H HS HA Hk
  iapply (wp_load_in 𝒱 c bd E B I (acc_ks c B I)) $$ H
  iintro H
  iapply (wp_load_in 𝒱 c bd E B I (acc_later c B I)) $$ H
  iintro H
  iapply (wp_ldS 𝒱 c bd E B hu) $$ HS
  iintro HS
  iapply (wp_ldA 𝒱 c bd E B hu) $$ HA
  iintro HA
  iapply (wp_load_in 𝒱 c bd E B I (acc_vt c B I)) $$ H
  iintro H
  iapply (wp_stA 𝒱 c bd E B hu) $$ HA
  iintro HA
  iapply (wp_ldS 𝒱 c bd E B hu) $$ HS
  iintro HS
  iapply (wp_stS 𝒱 c bd E B hu) $$ HS
  iintro HS
  iapply Hk $$ H [HS] [HA]
  · iexact HS
  iexact HA

/-- A tile's suffixes and accumulators are `L`. -/
def Rel (ti : Nat) (L : Fin 4 → HSt F) (S : Nat → Vec F T1x1x1x256 .f32) (A : Nat → Vec F T1x1x64x256 .f32) : Prop :=
  ∀ hh : Fin 4, S (4 * ti + hh.val) = (L hh).1 ∧ A (4 * ti + hh.val) = (L hh).2

/-- Nothing outside tile `ti` changed. -/
def Same {β : Type} (ti : Nat) (S S' : Nat → β) : Prop := ∀ n, n / 4 ≠ ti → S' n = S n

theorem Same.trans {β : Type} {ti : Nat} {S S' S'' : Nat → β} (h : Same ti S S') (h' : Same ti S' S'') : Same ti S S'' :=
  fun n hn => (h' n hn).trans (h n hn)

/-- Four members replaced. -/
def upd4 {β : Type} (S : Nat → β) (ti : Nat) (x : Fin 4 → β) : Nat → β :=
  upd (upd (upd (upd S (4 * ti + (0 : Fin 4).val) (x 0)) (4 * ti + (1 : Fin 4).val) (x 1)) (4 * ti + (2 : Fin 4).val) (x 2))
    (4 * ti + (3 : Fin 4).val) (x 3)

theorem upd4_same {β : Type} (S : Nat → β) (ti : Nat) (x : Fin 4 → β) : Same ti S (upd4 S ti x) := by
  intro n hn
  unfold upd4
  rw [upd_other _ _ (by simp; omega), upd_other _ _ (by simp; omega), upd_other _ _ (by simp; omega), upd_other _ _ (by simp; omega)]

theorem upd4_at {β : Type} (S : Nat → β) (ti : Nat) (x : Fin 4 → β) (hh : Fin 4) : upd4 S ti x (4 * ti + hh.val) = x hh := by
  unfold upd4
  match hh with
  | 0 => rw [upd_other _ _ (by simp), upd_other _ _ (by simp), upd_other _ _ (by simp), upd_same]
  | 1 => rw [upd_other _ _ (by simp), upd_other _ _ (by simp), upd_same]
  | 2 => rw [upd_other _ _ (by simp), upd_same]
  | 3 => rw [upd_same]

end Body

theorem wp_ldS4 {α : Type} {Q : α → sProp (MT nD τ sig Unit (Elt F) ℕ U ℕ)} {ti : Nat} (hti : ti < 8) {S A} {L : Fin 4 → HSt F}
    (hL : Rel ti L S A) {k : F .f32 → BProg nD τ sig Λ F α} :
    (sufHeld c B S : sProp 𝕄) ⊢ iprop((sufHeld c B S -∗ wp frame (wpE defs 𝒱 (c : Thread nD τ) bd) E (k (least L)) Q)
      -∗ wp frame (wpE defs 𝒱 (c : Thread nD τ) bd) E (ldS4 B ti k) Q) := by
  have h0 := (hL 0).1; have h1 := (hL 1).1; have h2 := (hL 2).1; have h3 := (hL 3).1
  unfold least
  rw [← h0, ← h1, ← h2, ← h3]
  iintro HS Hk
  iapply (wp_ldS 𝒱 c bd E B (n := 4 * ti) (by omega)) $$ HS
  iintro HS
  iapply (wp_ldS 𝒱 c bd E B (n := 4 * ti + 1) (by omega)) $$ HS
  iintro HS
  iapply (wp_ldS 𝒱 c bd E B (n := 4 * ti + 2) (by omega)) $$ HS
  iintro HS
  iapply (wp_ldS 𝒱 c bd E B (n := 4 * ti + 3) (by omega)) $$ HS
  iintro HS
  iapply Hk; iexact HS

theorem goes_jw_zero (m : F .f32) : ¬ Scalar.andi (Scalar.cmpi .sge (jw 0) 0#32) (Scalar.cmpf .ole m K.cutoff) = 1#1 := by
  rw [jw_zero]
  have h : ∀ x : BitVec 1, ¬ Scalar.andi 0#1 x = 1#1 := by decide
  exact h _

/-- The label of a tile's loop, entered with `n` blocks to go. -/
theorem loop_le {ℓ : Λ.Label} (mk : BitVec 32 → F .f32 → Λ.Args ℓ) (ret : BitVec 32 → F .f32 → Λ.Result ℓ) (C : Chk) {ti : Nat} (hti : ti < 8)
    (q : Nat → FVec F T128x256 .bf16) (hq : ∀ hh : Fin 4, q (4 * ti + hh.val) = (I.env t).qm (4 * ti + hh.val))
    (hdef : ∀ j m, defs .tc ℓ (mk j m) = far K B t C keyPos (q (4 * ti)) (q (4 * ti + 1)) (q (4 * ti + 2)) (q (4 * ti + 3)) ti ret j m
      (fun j m => Prog.lift (.call ℓ (mk j m))))
    (hchk : ∀ n : Fin 16, C.chk (BitVec.ofNat 32 n.val)) :
    ∀ n, n ≤ 16 → ∀ (m : F .f32) (L : Fin 4 → HSt F) S A (Q : Λ.Result ℓ → sProp (MT nD τ sig Unit (Elt F) ℕ U ℕ)), Rel ti L S A →
    ((inHeld c B I : sProp 𝕄) ⊢ iprop(sufHeld c B S -∗ accHeld c B A
      -∗ (∀ r S' A', ⌜Rel ti (loopRun K I t ti n m L) S' A' ∧ Same ti S S' ∧ Same ti A A'⌝ -∗ inHeld c B I -∗ sufHeld c B S' -∗ accHeld c B A' -∗ Q r)
      -∗ wp frame (wpE defs Variants.nat (c : Thread nD τ) (some n)) E (defs .tc ℓ (mk (jw n) m)) Q)) := by
  intro n
  induction n with
  | zero =>
    intro _ m L S A Q hL
    rw [hdef]; unfold far
    rw [if_neg (goes_jw_zero K m)]
    iintro H HS HA Hk
    rw [wp_ret]; imodintro
    iapply Hk $$ %_ %S %A %(⟨hL, fun _ _ => rfl, fun _ _ => rfl⟩) H HS
    iexact HA
  | succ n ih =>
    intro hn m L S A Q hL
    rw [hdef]; unfold far
    rw [jw_succ ⟨n, by omega⟩]
    by_cases hg : goes K n m
    · rw [if_pos (show Scalar.andi (Scalar.cmpi .sge (BitVec.ofNat 32 (⟨n, by omega⟩ : Fin 16).val) 0#32) (Scalar.cmpf .ole m K.cutoff) = 1#1
        from hg)]
      let N : Fin 16 := ⟨n, by omega⟩
      have hN : Fin.ofNat 16 n = N := Fin.ext (Nat.mod_eq_of_lt (by omega))
      let L' : Fin 4 → HSt F := fun hh => hStep K I t ti N hh (L hh)
      have hrun : loopRun K I t ti (n + 1) m L = loopRun K I t ti n (least L') L' := by
        rw [loopRun, if_pos hg, hN]
      rw [hrun]
      have e0 : q (4 * ti) = (I.env t).qm (4 * ti + (0 : Fin 4).val) := hq 0
      have e1 : q (4 * ti + 1) = (I.env t).qm (4 * ti + (1 : Fin 4).val) := hq 1
      have e2 : q (4 * ti + 2) = (I.env t).qm (4 * ti + (2 : Fin 4).val) := hq 2
      have e3 : q (4 * ti + 3) = (I.env t).qm (4 * ti + (3 : Fin 4).val) := hq 3
      rw [e0, e1, e2, e3]
      have hL' : Rel ti L' (upd4 S ti fun hh => (L' hh).1) (upd4 A ti fun hh => (L' hh).2) :=
        fun hh => ⟨upd4_at _ _ _ hh, upd4_at _ _ _ hh⟩
      iintro H HS HA Hk
      iapply (wp_assume Variants.nat (c : Thread nD τ) (some (n + 1)) E (hchk N))
      iapply (wp_farHead Variants.nat c (some (n + 1)) E B I t K C N (hchk N) 0 hti (hL 0).1 (hL 0).2) $$ H HS HA
      iintro H HS HA
      iapply (wp_farHead Variants.nat c (some (n + 1)) E B I t K C N (hchk N) 1 hti (st := L 1)
        ((upd_other _ _ (by simp)).trans (hL 1).1) ((upd_other _ _ (by simp)).trans (hL 1).2)) $$ H HS HA
      iintro H HS HA
      iapply (wp_farHead Variants.nat c (some (n + 1)) E B I t K C N (hchk N) 2 hti (st := L 2)
        ((upd_other _ _ (by simp)).trans ((upd_other _ _ (by simp)).trans (hL 2).1))
        ((upd_other _ _ (by simp)).trans ((upd_other _ _ (by simp)).trans (hL 2).2))) $$ H HS HA
      iintro H HS HA
      iapply (wp_farHead Variants.nat c (some (n + 1)) E B I t K C N (hchk N) 3 hti (st := L 3)
        ((upd_other _ _ (by simp)).trans ((upd_other _ _ (by simp)).trans ((upd_other _ _ (by simp)).trans (hL 3).1)))
        ((upd_other _ _ (by simp)).trans ((upd_other _ _ (by simp)).trans ((upd_other _ _ (by simp)).trans (hL 3).2)))) $$ H HS HA
      iintro H HS HA
      iapply (wp_ldS4 Variants.nat c (some (n + 1)) E B hti hL') $$ [HS]
      · iexact HS
      iintro HS
      iapply (wp_call Variants.nat (c : Thread nD τ) (some (n + 1)) E n (fun u hu => by cases hu; exact Nat.lt_succ_self n))
      iapply (ih (by omega) (least L') L' _ _ _ hL') $$ H HS [HA]
      · iexact HA
      iintro %r %S' %A' %h H HS HA
      rw [wp_ret]; imodintro
      iapply Hk $$ %r %S' %A' %(⟨h.1, (upd4_same _ _ _).trans h.2.1, (upd4_same _ _ _).trans h.2.2⟩) H HS
      iexact HA
    · rw [if_neg (show ¬ Scalar.andi (Scalar.cmpi .sge (BitVec.ofNat 32 (⟨n, by omega⟩ : Fin 16).val) 0#32) (Scalar.cmpf .ole m K.cutoff) = 1#1
        from hg)]
      have hrun : loopRun K I t ti (n + 1) m L = L := by rw [loopRun, if_neg hg]
      rw [hrun]
      iintro H HS HA Hk
      rw [wp_ret]; imodintro
      iapply Hk $$ %_ %S %A %(⟨hL, fun _ _ => rfl, fun _ _ => rfl⟩) H HS
      iexact HA

end Cert.Stick
-- ==== Proof.Stick.Body.lean ====
module

public import proofs.«01_k».proof.Proof.Stick.Run

/-! # The stick-breaking body, run: the tiles and the whole -/

@[expose] public section

noncomputable section

namespace Cert.Stick

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable {nD : Nat} {τ : Topo} {sig : RefSig} {Λ : Labels} {U : Type} [URA U]

local notation "𝕄" => MT nD τ sig Unit (Elt F) ℕ U ℕ

variable (defs : Defs nD τ sig (Elt F) Λ) (𝒱 : Variants) (c : Dev nD) (bd : Option 𝒱.V) (E : Set ℕ)
variable (B : Bufs sig) (I : In F) (t : Fin 2) (K : Consts F)

/-- A tile's loop does what `loopRun` says. -/
def LoopOk (U : Type) [URA U] (ti : Nat) (loop : BitVec 32 → F .f32 → BProg nD τ sig Λ F (BitVec 32 × F .f32)) : Prop :=
  ∀ (m : F .f32) (L : Fin 4 → HSt F) S A (Q : BitVec 32 × F .f32 → sProp (MT nD τ sig Unit (Elt F) ℕ U ℕ)), Rel ti L S A →
    ((inHeld c B I : sProp (MT nD τ sig Unit (Elt F) ℕ U ℕ)) ⊢ iprop(sufHeld c B S -∗ accHeld c B A
      -∗ (∀ r S' A', ⌜Rel ti (loopRun K I t ti (8 * t.val + ti) m L) S' A' ∧ Same ti S S' ∧ Same ti A A'⌝
        -∗ inHeld c B I -∗ sufHeld c B S' -∗ accHeld c B A' -∗ Q r)
      -∗ wp frame (wpE defs 𝒱 (c : Thread nD τ) bd) E (loop (jw (8 * t.val + ti)) m) Q))

variable {defs 𝒱 c bd E B I t K}

theorem wp_tile {α : Type} {Q : α → sProp (MT nD τ sig Unit (Elt F) ℕ U ℕ)} {ti : Nat} (hti : ti < 8)
    {loop : BitVec 32 → F .f32 → BProg nD τ sig Λ F (BitVec 32 × F .f32)} (hloop : LoopOk defs 𝒱 c bd E B I t K U ti loop)
    {hst : (B.out.access (rO ti)).Stores Finset.univ} {S A} (hL : Rel ti (start K I t ti) S A) {k : BProg nD τ sig Λ F α} :
    (inHeld c B I : sProp 𝕄) ⊢ iprop(sufHeld c B S -∗ accHeld c B A -∗ outHeld c B ti (outOf K I t)
      -∗ (∀ S' A', ⌜Same ti S S' ∧ Same ti A A'⌝ -∗ inHeld c B I -∗ sufHeld c B S' -∗ accHeld c B A'
        -∗ outHeld c B (ti + 1) (outOf K I t) -∗ wp frame (wpE defs 𝒱 (c : Thread nD τ) bd) E k Q)
      -∗ wp frame (wpE defs 𝒱 (c : Thread nD τ) bd) E (tile B t loop ti hst k) Q) := by
  unfold tile
  iintro H HS HA HO Hk
  iapply (wp_ldS4 𝒱 c bd E B hti hL) $$ HS
  iintro HS
  rw [wp_bind, jw_start t ⟨ti, hti⟩]
  iapply (hloop (least (start K I t ti)) _ _ _ _ hL) $$ H HS HA
  iintro %r %S' %A' %h H HS HA
  obtain ⟨hR, hS, hA⟩ := h
  iapply (wp_ldA 𝒱 c bd E B (n := 4 * ti) (by omega)) $$ HA
  iintro HA
  iapply (wp_ldA 𝒱 c bd E B (n := 4 * ti + 1) (by omega)) $$ HA
  iintro HA
  iapply (wp_ldA 𝒱 c bd E B (n := 4 * ti + 2) (by omega)) $$ HA
  iintro HA
  iapply (wp_ldA 𝒱 c bd E B (n := 4 * ti + 3) (by omega)) $$ HA
  iintro HA
  unfold outHeld
  icases HO with ⟨%X, %hX, HO⟩
  iapply (wp_load_dead 𝒱 c bd E (R := rO ti)) $$ HO
  iintro %w HO
  iapply (wp_store_owns 𝒱 c bd E) $$ HO
  iintro %Y %h1 %h2 HO
  iapply Hk $$ %S' %A' %(⟨hS, hA⟩) H HS HA
  iexists Y
  isplitr
  · ipureintro
    intro u hu x
    by_cases e : u = ti
    · subst e
      rw [h1 x]
      have a0 : A' (4 * u) = (final K I t u 0).2 := (hR 0).2
      have a1 : A' (4 * u + 1) = (final K I t u 1).2 := (hR 1).2
      have a2 : A' (4 * u + 2) = (final K I t u 2).2 := (hR 2).2
      have a3 : A' (4 * u + 3) = (final K I t u 3).2 := (hR 3).2
      rw [a0, a1, a2, a3]; rfl
    · rw [h2 _ fun y => rO_ne (by omega) hti e y x]
      exact hX u (by omega) x
  iexact HO

theorem wp_tiles {Q : PUnit → sProp (MT nD τ sig Unit (Elt F) ℕ U ℕ)}
    {loop : Nat → BitVec 32 → F .f32 → BProg nD τ sig Λ F (BitVec 32 × F .f32)}
    (hloop : ∀ ti, ti < 8 → LoopOk defs 𝒱 c bd E B I t K U ti (loop ti))
    {hst : ∀ ti, (B.out.access (rO ti)).Stores Finset.univ} : ∀ (k ti : Nat), ti + k = 8 → ∀ S A,
    (∀ u, ti ≤ u → Rel u (start K I t u) S A ∨ 8 ≤ u) →
    ((inHeld c B I : sProp 𝕄) ⊢ iprop(sufHeld c B S -∗ accHeld c B A -∗ outHeld c B ti (outOf K I t)
      -∗ (∀ S' A', inHeld c B I -∗ sufHeld c B S' -∗ accHeld c B A' -∗ outHeld c B 8 (outOf K I t) -∗ Q ⟨⟩)
      -∗ wp frame (wpE defs 𝒱 (c : Thread nD τ) bd) E (tiles B t loop hst (upFrom ti k)) Q))
  | 0, ti, h, S, A, hR => by
    have : ti = 8 := by omega
    subst this
    unfold upFrom tiles
    iintro H HS HA HO Hk
    rw [wp_ret]; imodintro
    iapply Hk $$ %S %A H HS HA HO
  | k + 1, ti, h, S, A, hR => by
    unfold upFrom tiles
    have hti : ti < 8 := by omega
    iintro H HS HA HO Hk
    iapply (wp_tile hti (hloop ti hti) ((hR ti le_rfl).resolve_right (by omega))) $$ H HS HA HO
    iintro %S' %A' %h' H HS HA HO
    iapply (wp_tiles hloop k (ti + 1) (by omega) S' A' (fun u hu => by
      by_cases h8 : 8 ≤ u
      · exact .inr h8
      refine .inl fun hh => ?_
      have := (hR u (by omega)).resolve_right h8 hh
      have hne : (4 * u + hh.val) / 4 ≠ ti := by have := hh.isLt; omega
      exact ⟨(h'.1 _ hne).trans this.1, (h'.2 _ hne).trans this.2⟩)) $$ H HS HA HO
    iexact Hk

theorem mem_upFrom (m : Nat) : ∀ k n, m ∈ upFrom n k ↔ n ≤ m ∧ m < n + k
  | 0, n => by simp [upFrom]
  | k + 1, n => by simp only [upFrom, List.mem_cons, mem_upFrom m k (n + 1)]; omega

theorem outBlock_of {X : Vec F T1x2048x256 .bf16} (h : ∀ ti, ti < 8 → ∀ x, X ((rO ti).emb x) = outOf K I t ti x) : X = outBlock K I t := by
  funext y
  have h0 : (y 0).val < 1 := (y 0).isLt
  have h1 : (y 1).val < 2048 := (y 1).isLt
  have hd : (y 1).val / 256 < 8 := by omega
  unfold outBlock
  rw [← h _ hd]
  congr 1
  funext a
  apply Fin.ext
  match a with
  | 0 => show (y 0).val = 0 + 1 * (y 0).val; omega
  | 1 => show (y 1).val = 256 * ((y 1).val / 256 % 8) + 1 * ((y 1).val % 256); omega
  | 2 => show (y 2).val = 0 + 1 * (y 2).val; omega

theorem owns_suf (X : Vec F T8x4x1x256 .f32) : (owns (c : Thread nD τ) B.suf fullShare X : sProp 𝕄) ⊢
    sufHeld c B fun n x => X ((rS n).toLoadRect.idx x) := by
  unfold sufHeld
  iintro H
  iexists X
  isplitr
  · ipureintro; intros; rfl
  iexact H
theorem owns_acc (X : Vec F T8x4x64x256 .f32) : (owns (c : Thread nD τ) B.acc fullShare X : sProp 𝕄) ⊢
    accHeld c B fun n x => X ((rA n).toLoadRect.idx x) := by
  unfold accHeld
  iintro H
  iexists X
  isplitr
  · ipureintro; intros; rfl
  iexact H

theorem wp_body {Q : PUnit → sProp (MT nD τ sig Unit (Elt F) ℕ U ℕ)} {e₀ : Env F}
    {loop : Nat → (Nat → FVec F T128x256 .bf16) → BitVec 32 → F .f32 → BProg nD τ sig Λ F (BitVec 32 × F .f32)}
    {hst : ∀ ti, (B.out.access (rO ti)).Stores Finset.univ}
    (hloop : ∀ q : Nat → FVec F T128x256 .bf16, (∀ n, n < 32 → q n = (I.env t).qm n) → ∀ ti, ti < 8 →
      LoopOk defs 𝒱 c bd E B I t K U ti (loop ti q)) (X0 X1 X2) :
    ((inHeld c B I : sProp 𝕄) ⊢ iprop(owns (c : Thread nD τ) B.suf fullShare X0 -∗ owns (c : Thread nD τ) B.acc fullShare X1
      -∗ owns (c : Thread nD τ) B.out fullShare X2
      -∗ (∀ Y0 Y1, inHeld c B I -∗ owns (c : Thread nD τ) B.suf fullShare Y0 -∗ owns (c : Thread nD τ) B.acc fullShare Y1
        -∗ owns (c : Thread nD τ) B.out fullShare (outBlock K I t) -∗ Q ⟨⟩)
      -∗ wp frame (wpE defs 𝒱 (c : Thread nD τ) bd) E (body K B t e₀ loop hst) Q)) := by
  unfold body
  iintro H HS HA HO Hk
  iapply (wp_loads 𝒱 c bd E B I t allEv e₀) $$ H
  iintro H
  ihave HS := (owns_suf (c := c) (B := B) X0) $$ HS
  ihave HA := (owns_acc (c := c) (B := B) X1) $$ HA
  iapply (wp_stores 𝒱 c bd E B t K (take I t allEv e₀) (upFrom 0 32) _ _ (fun n hn => by
    have := (mem_upFrom n 32 0).mp hn; omega)) $$ HS HA
  iintro HS HA
  iapply (wp_tiles (K := K) (I := I) (U := U) (hloop _ fun n hn => take_qm I t e₀ hn) 8 0 rfl _ _ ?_) $$ H HS HA [HO]
  · intro u _
    by_cases h8 : 8 ≤ u
    · exact .inr h8
    refine .inl fun hh => ?_
    have hu : 4 * u + hh.val < 32 := by have := hh.isLt; omega
    have hm : 4 * u + hh.val ∈ upFrom 0 32 := (mem_upFrom _ 32 0).mpr ⟨Nat.zero_le _, by omega⟩
    exact ⟨(putAll_mem _ _ _ _ (.inl hm)).trans (take_suf K I t e₀ hu), (putAll_mem _ _ _ _ (.inl hm)).trans (take_acc K I t e₀ hu)⟩
  · unfold outHeld
    iexists X2
    isplitr
    · ipureintro; intro ti h; exact absurd h (Nat.not_lt_zero _)
    iexact HO
  iintro %S' %A' H HS HA HO
  unfold sufHeld accHeld outHeld
  icases HS with ⟨%Y0, -, HS⟩
  icases HA with ⟨%Y1, -, HA⟩
  icases HO with ⟨%Y2, %h2, HO⟩
  rw [outBlock_of h2]
  iapply Hk $$ %Y0 %Y1 H HS HA HO

end Cert.Stick
-- ==== Proof.Ide.Text.lean ====
module

public import proofs.«01_k».proof.Proof.Gen.KernelIdeal.Skeleton
public import proofs.«01_k».proof.Proof.Stick.Prog

/-! # The printed `KernelIdeal` is the stick-breaking program

The body and its eight loops, each equal to its recursive form. -/

@[expose] public section

noncomputable section

namespace Cert.KernelIdeal

open Idealize.ShloMosaic Idealize.SL.Sem
open Cert.KernelIdeal.Gen

variable {F : FTy → Type} [FloatOps F] [Named F]

/-- The constants of this program. -/
def consts : Stick.Consts F :=
  ⟨Named.named κ "mask" 0xF149F2CA#32, Named.named κ "no_block" 0x7149F2CA#32, Named.named κ "exp2_arg_max" 0x42FC0000#32,
    Named.named κ "suffix_cutoff" 0x43180000#32, Named.named κ "log2e" 0x3FB8AA3B#32⟩

/-- Nothing loaded yet. -/
def env₀ : Stick.Env F :=
  let z := Scalar.ofBits (F := F) .bf16 0x0000#16
  ⟨fun _ _ => z, fun _ _ => z, fun _ _ => z, fun _ _ => z, fun _ _ => z, fun _ _ => z, fun _ _ => z⟩

theorem inK1 (j : BitVec 32) (h : k0_chk1 j) :
    ∀ hh : Fin 4, ∀ a, Stick.offK (Stick.rowK j) hh.val a + Stick.T1x256x128.size a ≤ Stick.T1x4096x256.size a
  | 0 => h.2.1
  | 1 => h.2.1
  | 2 => h.2.2.2.2.2.2.1
  | 3 => h.2.2.2.2.2.2.1
theorem inV1 (j : BitVec 32) (h : k0_chk1 j) :
    ∀ hh : Fin 4, ∀ a, Stick.offV j hh.val a + Stick.T1x1x64x256.size a ≤ Stick.T1x16x256x256.size a
  | 0 => h.2.2.1
  | 1 => h.2.2.2.2.1
  | 2 => h.2.2.2.2.2.2.2.1
  | 3 => h.2.2.2.2.2.2.2.2.2
/-- What loop 1 checks. -/
def chk1 : Stick.Chk := ⟨k0_chk1, k0_chk1.dec, inK1, inV1⟩

theorem inK2 (j : BitVec 32) (h : k0_chk2 j) :
    ∀ hh : Fin 4, ∀ a, Stick.offK (Stick.rowK j) hh.val a + Stick.T1x256x128.size a ≤ Stick.T1x4096x256.size a
  | 0 => h.2.1
  | 1 => h.2.1
  | 2 => h.2.2.2.2.2.2.1
  | 3 => h.2.2.2.2.2.2.1
theorem inV2 (j : BitVec 32) (h : k0_chk2 j) :
    ∀ hh : Fin 4, ∀ a, Stick.offV j hh.val a + Stick.T1x1x64x256.size a ≤ Stick.T1x16x256x256.size a
  | 0 => h.2.2.1
  | 1 => h.2.2.2.2.1
  | 2 => h.2.2.2.2.2.2.2.1
  | 3 => h.2.2.2.2.2.2.2.2.2
/-- What loop 2 checks. -/
def chk2 : Stick.Chk := ⟨k0_chk2, k0_chk2.dec, inK2, inV2⟩

theorem inK3 (j : BitVec 32) (h : k0_chk3 j) :
    ∀ hh : Fin 4, ∀ a, Stick.offK (Stick.rowK j) hh.val a + Stick.T1x256x128.size a ≤ Stick.T1x4096x256.size a
  | 0 => h.2.1
  | 1 => h.2.1
  | 2 => h.2.2.2.2.2.2.1
  | 3 => h.2.2.2.2.2.2.1
theorem inV3 (j : BitVec 32) (h : k0_chk3 j) :
    ∀ hh : Fin 4, ∀ a, Stick.offV j hh.val a + Stick.T1x1x64x256.size a ≤ Stick.T1x16x256x256.size a
  | 0 => h.2.2.1
  | 1 => h.2.2.2.2.1
  | 2 => h.2.2.2.2.2.2.2.1
  | 3 => h.2.2.2.2.2.2.2.2.2
/-- What loop 3 checks. -/
def chk3 : Stick.Chk := ⟨k0_chk3, k0_chk3.dec, inK3, inV3⟩

theorem inK4 (j : BitVec 32) (h : k0_chk4 j) :
    ∀ hh : Fin 4, ∀ a, Stick.offK (Stick.rowK j) hh.val a + Stick.T1x256x128.size a ≤ Stick.T1x4096x256.size a
  | 0 => h.2.1
  | 1 => h.2.1
  | 2 => h.2.2.2.2.2.2.1
  | 3 => h.2.2.2.2.2.2.1
theorem inV4 (j : BitVec 32) (h : k0_chk4 j) :
    ∀ hh : Fin 4, ∀ a, Stick.offV j hh.val a + Stick.T1x1x64x256.size a ≤ Stick.T1x16x256x256.size a
  | 0 => h.2.2.1
  | 1 => h.2.2.2.2.1
  | 2 => h.2.2.2.2.2.2.2.1
  | 3 => h.2.2.2.2.2.2.2.2.2
/-- What loop 4 checks. -/
def chk4 : Stick.Chk := ⟨k0_chk4, k0_chk4.dec, inK4, inV4⟩

theorem inK5 (j : BitVec 32) (h : k0_chk5 j) :
    ∀ hh : Fin 4, ∀ a, Stick.offK (Stick.rowK j) hh.val a + Stick.T1x256x128.size a ≤ Stick.T1x4096x256.size a
  | 0 => h.2.1
  | 1 => h.2.1
  | 2 => h.2.2.2.2.2.2.1
  | 3 => h.2.2.2.2.2.2.1
theorem inV5 (j : BitVec 32) (h : k0_chk5 j) :
    ∀ hh : Fin 4, ∀ a, Stick.offV j hh.val a + Stick.T1x1x64x256.size a ≤ Stick.T1x16x256x256.size a
  | 0 => h.2.2.1
  | 1 => h.2.2.2.2.1
  | 2 => h.2.2.2.2.2.2.2.1
  | 3 => h.2.2.2.2.2.2.2.2.2
/-- What loop 5 checks. -/
def chk5 : Stick.Chk := ⟨k0_chk5, k0_chk5.dec, inK5, inV5⟩

theorem inK6 (j : BitVec 32) (h : k0_chk6 j) :
    ∀ hh : Fin 4, ∀ a, Stick.offK (Stick.rowK j) hh.val a + Stick.T1x256x128.size a ≤ Stick.T1x4096x256.size a
  | 0 => h.2.1
  | 1 => h.2.1
  | 2 => h.2.2.2.2.2.2.1
  | 3 => h.2.2.2.2.2.2.1
theorem inV6 (j : BitVec 32) (h : k0_chk6 j) :
    ∀ hh : Fin 4, ∀ a, Stick.offV j hh.val a + Stick.T1x1x64x256.size a ≤ Stick.T1x16x256x256.size a
  | 0 => h.2.2.1
  | 1 => h.2.2.2.2.1
  | 2 => h.2.2.2.2.2.2.2.1
  | 3 => h.2.2.2.2.2.2.2.2.2
/-- What loop 6 checks. -/
def chk6 : Stick.Chk := ⟨k0_chk6, k0_chk6.dec, inK6, inV6⟩

theorem inK7 (j : BitVec 32) (h : k0_chk7 j) :
    ∀ hh : Fin 4, ∀ a, Stick.offK (Stick.rowK j) hh.val a + Stick.T1x256x128.size a ≤ Stick.T1x4096x256.size a
  | 0 => h.2.1
  | 1 => h.2.1
  | 2 => h.2.2.2.2.2.2.1
  | 3 => h.2.2.2.2.2.2.1
theorem inV7 (j : BitVec 32) (h : k0_chk7 j) :
    ∀ hh : Fin 4, ∀ a, Stick.offV j hh.val a + Stick.T1x1x64x256.size a ≤ Stick.T1x16x256x256.size a
  | 0 => h.2.2.1
  | 1 => h.2.2.2.2.1
  | 2 => h.2.2.2.2.2.2.2.1
  | 3 => h.2.2.2.2.2.2.2.2.2
/-- What loop 7 checks. -/
def chk7 : Stick.Chk := ⟨k0_chk7, k0_chk7.dec, inK7, inV7⟩

theorem inK8 (j : BitVec 32) (h : k0_chk8 j) :
    ∀ hh : Fin 4, ∀ a, Stick.offK (Stick.rowK j) hh.val a + Stick.T1x256x128.size a ≤ Stick.T1x4096x256.size a
  | 0 => h.2.1
  | 1 => h.2.1
  | 2 => h.2.2.2.2.2.2.1
  | 3 => h.2.2.2.2.2.2.1
theorem inV8 (j : BitVec 32) (h : k0_chk8 j) :
    ∀ hh : Fin 4, ∀ a, Stick.offV j hh.val a + Stick.T1x1x64x256.size a ≤ Stick.T1x16x256x256.size a
  | 0 => h.2.2.1
  | 1 => h.2.2.2.2.1
  | 2 => h.2.2.2.2.2.2.2.1
  | 3 => h.2.2.2.2.2.2.2.2.2
/-- What loop 8 checks. -/
def chk8 : Stick.Chk := ⟨k0_chk8, k0_chk8.dec, inK8, inV8⟩

set_option maxRecDepth 65536 in
/-- Loop 1 is a tile's loop. -/
theorem loop1_eq (i : grid0.Coords) (v : IVec S256x256 32) (arg3 : Memref sig .tc .vmem S256x256 .bf16) (harg3 : arg3.IsWhole)
    (arg4 : Memref sig .tc .vmem S192x192 .bf16) (harg4 : arg4.IsWhole)
    (arg5 : Memref sig .tc .vmem S1x256x2048 .bf16) (harg5 : arg5.IsWhole)
    (arg6 : Memref sig .tc .vmem S1x4096x256 .bf16) (harg6 : arg6.IsWhole)
    (arg7 : Memref sig .tc .vmem S1x16x256x256 .bf16) (harg7 : arg7.IsWhole)
    (arg8 : Memref sig .tc .vmem S1x2048x256 .bf16) (harg8 : arg8.IsWhole)
    (arg9 : Memref sig .tc .vmem S8x4x1x256 .f32) (harg9 : arg9.IsWhole)
    (arg10 : Memref sig .tc .vmem S8x4x64x256 .f32) (harg10 : arg10.IsWhole)
    (q0 q1 q2 q3 : FVec F S128x256 .bf16) (j : BitVec 32) (m : F .f32) :
    cc0_while1 (F := F) i v arg6 harg6 q0 arg3 harg3 arg9 harg9 arg10 harg10 arg7 harg7 q1 q2 q3 j m =
      Stick.far (nD := nD) (τ := τ) (Λ := Λ₀ F) consts ⟨arg3, arg4, arg5, arg6, arg7, arg8, arg9, arg10⟩ (i 2) chk1 v q0 q1 q2 q3
        0 (fun j m => (j, m)) j m (fun j' m' => Prog.lift (.call (1 : (Λ₀ F).Label)
          ⟨i, v, arg6, harg6, q0, arg3, harg3, arg9, harg9, arg10, harg10, arg7, harg7, q1, q2, q3, j', m'⟩)) := by
  chain_rfl

set_option maxRecDepth 65536 in
/-- Loop 2 is a tile's loop. -/
theorem loop2_eq (i : grid0.Coords) (v : IVec S256x256 32) (arg3 : Memref sig .tc .vmem S256x256 .bf16) (harg3 : arg3.IsWhole)
    (arg4 : Memref sig .tc .vmem S192x192 .bf16) (harg4 : arg4.IsWhole)
    (arg5 : Memref sig .tc .vmem S1x256x2048 .bf16) (harg5 : arg5.IsWhole)
    (arg6 : Memref sig .tc .vmem S1x4096x256 .bf16) (harg6 : arg6.IsWhole)
    (arg7 : Memref sig .tc .vmem S1x16x256x256 .bf16) (harg7 : arg7.IsWhole)
    (arg8 : Memref sig .tc .vmem S1x2048x256 .bf16) (harg8 : arg8.IsWhole)
    (arg9 : Memref sig .tc .vmem S8x4x1x256 .f32) (harg9 : arg9.IsWhole)
    (arg10 : Memref sig .tc .vmem S8x4x64x256 .f32) (harg10 : arg10.IsWhole)
    (q0 q1 q2 q3 : FVec F S128x256 .bf16) (j : BitVec 32) (m : F .f32) :
    cc0_while2 (F := F) i v arg6 harg6 q0 arg3 harg3 arg9 harg9 arg10 harg10 arg7 harg7 q1 q2 q3 j m =
      Stick.far (nD := nD) (τ := τ) (Λ := Λ₀ F) consts ⟨arg3, arg4, arg5, arg6, arg7, arg8, arg9, arg10⟩ (i 2) chk2 v q0 q1 q2 q3
        1 (fun j m => (j, m)) j m (fun j' m' => Prog.lift (.call (2 : (Λ₀ F).Label)
          ⟨i, v, arg6, harg6, q0, arg3, harg3, arg9, harg9, arg10, harg10, arg7, harg7, q1, q2, q3, j', m'⟩)) := by
  chain_rfl

set_option maxRecDepth 65536 in
/-- Loop 3 is a tile's loop. -/
theorem loop3_eq (i : grid0.Coords) (v : IVec S256x256 32) (arg3 : Memref sig .tc .vmem S256x256 .bf16) (harg3 : arg3.IsWhole)
    (arg4 : Memref sig .tc .vmem S192x192 .bf16) (harg4 : arg4.IsWhole)
    (arg5 : Memref sig .tc .vmem S1x256x2048 .bf16) (harg5 : arg5.IsWhole)
    (arg6 : Memref sig .tc .vmem S1x4096x256 .bf16) (harg6 : arg6.IsWhole)
    (arg7 : Memref sig .tc .vmem S1x16x256x256 .bf16) (harg7 : arg7.IsWhole)
    (arg8 : Memref sig .tc .vmem S1x2048x256 .bf16) (harg8 : arg8.IsWhole)
    (arg9 : Memref sig .tc .vmem S8x4x1x256 .f32) (harg9 : arg9.IsWhole)
    (arg10 : Memref sig .tc .vmem S8x4x64x256 .f32) (harg10 : arg10.IsWhole)
    (q0 q1 q2 q3 : FVec F S128x256 .bf16) (j : BitVec 32) (m : F .f32) :
    cc0_while3 (F := F) i v arg6 harg6 q0 arg3 harg3 arg9 harg9 arg10 harg10 arg7 harg7 q1 q2 q3 j m =
      Stick.far (nD := nD) (τ := τ) (Λ := Λ₀ F) consts ⟨arg3, arg4, arg5, arg6, arg7, arg8, arg9, arg10⟩ (i 2) chk3 v q0 q1 q2 q3
        2 (fun j m => (j, m)) j m (fun j' m' => Prog.lift (.call (3 : (Λ₀ F).Label)
          ⟨i, v, arg6, harg6, q0, arg3, harg3, arg9, harg9, arg10, harg10, arg7, harg7, q1, q2, q3, j', m'⟩)) := by
  chain_rfl

set_option maxRecDepth 65536 in
/-- Loop 4 is a tile's loop. -/
theorem loop4_eq (i : grid0.Coords) (v : IVec S256x256 32) (arg3 : Memref sig .tc .vmem S256x256 .bf16) (harg3 : arg3.IsWhole)
    (arg4 : Memref sig .tc .vmem S192x192 .bf16) (harg4 : arg4.IsWhole)
    (arg5 : Memref sig .tc .vmem S1x256x2048 .bf16) (harg5 : arg5.IsWhole)
    (arg6 : Memref sig .tc .vmem S1x4096x256 .bf16) (harg6 : arg6.IsWhole)
    (arg7 : Memref sig .tc .vmem S1x16x256x256 .bf16) (harg7 : arg7.IsWhole)
    (arg8 : Memref sig .tc .vmem S1x2048x256 .bf16) (harg8 : arg8.IsWhole)
    (arg9 : Memref sig .tc .vmem S8x4x1x256 .f32) (harg9 : arg9.IsWhole)
    (arg10 : Memref sig .tc .vmem S8x4x64x256 .f32) (harg10 : arg10.IsWhole)
    (q0 q1 q2 q3 : FVec F S128x256 .bf16) (j : BitVec 32) (m : F .f32) :
    cc0_while4 (F := F) i v arg6 harg6 q0 arg3 harg3 arg9 harg9 arg10 harg10 arg7 harg7 q1 q2 q3 j m =
      Stick.far (nD := nD) (τ := τ) (Λ := Λ₀ F) consts ⟨arg3, arg4, arg5, arg6, arg7, arg8, arg9, arg10⟩ (i 2) chk4 v q0 q1 q2 q3
        3 (fun j m => (j, m)) j m (fun j' m' => Prog.lift (.call (4 : (Λ₀ F).Label)
          ⟨i, v, arg6, harg6, q0, arg3, harg3, arg9, harg9, arg10, harg10, arg7, harg7, q1, q2, q3, j', m'⟩)) := by
  chain_rfl

set_option maxRecDepth 65536 in
/-- Loop 5 is a tile's loop. -/
theorem loop5_eq (i : grid0.Coords) (v : IVec S256x256 32) (arg3 : Memref sig .tc .vmem S256x256 .bf16) (harg3 : arg3.IsWhole)
    (arg4 : Memref sig .tc .vmem S192x192 .bf16) (harg4 : arg4.IsWhole)
    (arg5 : Memref sig .tc .vmem S1x256x2048 .bf16) (harg5 : arg5.IsWhole)
    (arg6 : Memref sig .tc .vmem S1x4096x256 .bf16) (harg6 : arg6.IsWhole)
    (arg7 : Memref sig .tc .vmem S1x16x256x256 .bf16) (harg7 : arg7.IsWhole)
    (arg8 : Memref sig .tc .vmem S1x2048x256 .bf16) (harg8 : arg8.IsWhole)
    (arg9 : Memref sig .tc .vmem S8x4x1x256 .f32) (harg9 : arg9.IsWhole)
    (arg10 : Memref sig .tc .vmem S8x4x64x256 .f32) (harg10 : arg10.IsWhole)
    (q0 q1 q2 q3 : FVec F S128x256 .bf16) (j : BitVec 32) (m : F .f32) :
    cc0_while5 (F := F) i v arg6 harg6 q0 arg3 harg3 arg9 harg9 arg10 harg10 arg7 harg7 q1 q2 q3 j m =
      Stick.far (nD := nD) (τ := τ) (Λ := Λ₀ F) consts ⟨arg3, arg4, arg5, arg6, arg7, arg8, arg9, arg10⟩ (i 2) chk5 v q0 q1 q2 q3
        4 (fun j m => (j, m)) j m (fun j' m' => Prog.lift (.call (5 : (Λ₀ F).Label)
          ⟨i, v, arg6, harg6, q0, arg3, harg3, arg9, harg9, arg10, harg10, arg7, harg7, q1, q2, q3, j', m'⟩)) := by
  chain_rfl

set_option maxRecDepth 65536 in
/-- Loop 6 is a tile's loop. -/
theorem loop6_eq (i : grid0.Coords) (v : IVec S256x256 32) (arg3 : Memref sig .tc .vmem S256x256 .bf16) (harg3 : arg3.IsWhole)
    (arg4 : Memref sig .tc .vmem S192x192 .bf16) (harg4 : arg4.IsWhole)
    (arg5 : Memref sig .tc .vmem S1x256x2048 .bf16) (harg5 : arg5.IsWhole)
    (arg6 : Memref sig .tc .vmem S1x4096x256 .bf16) (harg6 : arg6.IsWhole)
    (arg7 : Memref sig .tc .vmem S1x16x256x256 .bf16) (harg7 : arg7.IsWhole)
    (arg8 : Memref sig .tc .vmem S1x2048x256 .bf16) (harg8 : arg8.IsWhole)
    (arg9 : Memref sig .tc .vmem S8x4x1x256 .f32) (harg9 : arg9.IsWhole)
    (arg10 : Memref sig .tc .vmem S8x4x64x256 .f32) (harg10 : arg10.IsWhole)
    (q0 q1 q2 q3 : FVec F S128x256 .bf16) (j : BitVec 32) (m : F .f32) :
    cc0_while6 (F := F) i v arg6 harg6 q0 arg3 harg3 arg9 harg9 arg10 harg10 arg7 harg7 q1 q2 q3 j m =
      Stick.far (nD := nD) (τ := τ) (Λ := Λ₀ F) consts ⟨arg3, arg4, arg5, arg6, arg7, arg8, arg9, arg10⟩ (i 2) chk6 v q0 q1 q2 q3
        5 (fun j m => (j, m)) j m (fun j' m' => Prog.lift (.call (6 : (Λ₀ F).Label)
          ⟨i, v, arg6, harg6, q0, arg3, harg3, arg9, harg9, arg10, harg10, arg7, harg7, q1, q2, q3, j', m'⟩)) := by
  chain_rfl

set_option maxRecDepth 65536 in
/-- Loop 7 is a tile's loop. -/
theorem loop7_eq (i : grid0.Coords) (v : IVec S256x256 32) (arg3 : Memref sig .tc .vmem S256x256 .bf16) (harg3 : arg3.IsWhole)
    (arg4 : Memref sig .tc .vmem S192x192 .bf16) (harg4 : arg4.IsWhole)
    (arg5 : Memref sig .tc .vmem S1x256x2048 .bf16) (harg5 : arg5.IsWhole)
    (arg6 : Memref sig .tc .vmem S1x4096x256 .bf16) (harg6 : arg6.IsWhole)
    (arg7 : Memref sig .tc .vmem S1x16x256x256 .bf16) (harg7 : arg7.IsWhole)
    (arg8 : Memref sig .tc .vmem S1x2048x256 .bf16) (harg8 : arg8.IsWhole)
    (arg9 : Memref sig .tc .vmem S8x4x1x256 .f32) (harg9 : arg9.IsWhole)
    (arg10 : Memref sig .tc .vmem S8x4x64x256 .f32) (harg10 : arg10.IsWhole)
    (q0 q1 q2 q3 : FVec F S128x256 .bf16) (j : BitVec 32) (m : F .f32) :
    cc0_while7 (F := F) i v arg6 harg6 q0 arg3 harg3 arg9 harg9 arg10 harg10 arg7 harg7 q1 q2 q3 j m =
      Stick.far (nD := nD) (τ := τ) (Λ := Λ₀ F) consts ⟨arg3, arg4, arg5, arg6, arg7, arg8, arg9, arg10⟩ (i 2) chk7 v q0 q1 q2 q3
        6 (fun j m => (j, m)) j m (fun j' m' => Prog.lift (.call (7 : (Λ₀ F).Label)
          ⟨i, v, arg6, harg6, q0, arg3, harg3, arg9, harg9, arg10, harg10, arg7, harg7, q1, q2, q3, j', m'⟩)) := by
  chain_rfl

set_option maxRecDepth 65536 in
/-- Loop 8 is a tile's loop. -/
theorem loop8_eq (i : grid0.Coords) (v : IVec S256x256 32) (arg3 : Memref sig .tc .vmem S256x256 .bf16) (harg3 : arg3.IsWhole)
    (arg4 : Memref sig .tc .vmem S192x192 .bf16) (harg4 : arg4.IsWhole)
    (arg5 : Memref sig .tc .vmem S1x256x2048 .bf16) (harg5 : arg5.IsWhole)
    (arg6 : Memref sig .tc .vmem S1x4096x256 .bf16) (harg6 : arg6.IsWhole)
    (arg7 : Memref sig .tc .vmem S1x16x256x256 .bf16) (harg7 : arg7.IsWhole)
    (arg8 : Memref sig .tc .vmem S1x2048x256 .bf16) (harg8 : arg8.IsWhole)
    (arg9 : Memref sig .tc .vmem S8x4x1x256 .f32) (harg9 : arg9.IsWhole)
    (arg10 : Memref sig .tc .vmem S8x4x64x256 .f32) (harg10 : arg10.IsWhole)
    (q0 q1 q2 q3 : FVec F S128x256 .bf16) (j : BitVec 32) (m : F .f32) :
    cc0_while8 (F := F) i v arg6 harg6 q0 arg3 harg3 arg9 harg9 arg10 harg10 arg7 harg7 q1 q2 q3 j m =
      Stick.far (nD := nD) (τ := τ) (Λ := Λ₀ F) consts ⟨arg3, arg4, arg5, arg6, arg7, arg8, arg9, arg10⟩ (i 2) chk8 v q0 q1 q2 q3
        7 (fun j m => (j, m)) j m (fun j' m' => Prog.lift (.call (8 : (Λ₀ F).Label)
          ⟨i, v, arg6, harg6, q0, arg3, harg3, arg9, harg9, arg10, harg10, arg7, harg7, q1, q2, q3, j', m'⟩)) := by
  chain_rfl

/-- A tile's loop, entered. -/
def loopCall (i : grid0.Coords) (arg3 : Memref sig .tc .vmem S256x256 .bf16) (harg3 : arg3.IsWhole)
    (arg4 : Memref sig .tc .vmem S192x192 .bf16) (harg4 : arg4.IsWhole)
    (arg5 : Memref sig .tc .vmem S1x256x2048 .bf16) (harg5 : arg5.IsWhole)
    (arg6 : Memref sig .tc .vmem S1x4096x256 .bf16) (harg6 : arg6.IsWhole)
    (arg7 : Memref sig .tc .vmem S1x16x256x256 .bf16) (harg7 : arg7.IsWhole)
    (arg8 : Memref sig .tc .vmem S1x2048x256 .bf16) (harg8 : arg8.IsWhole)
    (arg9 : Memref sig .tc .vmem S8x4x1x256 .f32) (harg9 : arg9.IsWhole)
    (arg10 : Memref sig .tc .vmem S8x4x64x256 .f32) (harg10 : arg10.IsWhole) (ti : Nat) (q : Nat → FVec F S128x256 .bf16) (j : BitVec 32) (m : F .f32) :
    Stick.BProg nD τ sig (Λ₀ F) F (BitVec 32 × F .f32) :=
  match ti with
  | 0 => Prog.lift (.call (1 : (Λ₀ F).Label) ⟨i, Stick.keyPos, arg6, harg6, q 0, arg3, harg3, arg9, harg9, arg10, harg10, arg7, harg7,
      q 1, q 2, q 3, j, m⟩)
  | 1 => Prog.lift (.call (2 : (Λ₀ F).Label) ⟨i, Stick.keyPos, arg6, harg6, q 4, arg3, harg3, arg9, harg9, arg10, harg10, arg7, harg7,
      q 5, q 6, q 7, j, m⟩)
  | 2 => Prog.lift (.call (3 : (Λ₀ F).Label) ⟨i, Stick.keyPos, arg6, harg6, q 8, arg3, harg3, arg9, harg9, arg10, harg10, arg7, harg7,
      q 9, q 10, q 11, j, m⟩)
  | 3 => Prog.lift (.call (4 : (Λ₀ F).Label) ⟨i, Stick.keyPos, arg6, harg6, q 12, arg3, harg3, arg9, harg9, arg10, harg10, arg7, harg7,
      q 13, q 14, q 15, j, m⟩)
  | 4 => Prog.lift (.call (5 : (Λ₀ F).Label) ⟨i, Stick.keyPos, arg6, harg6, q 16, arg3, harg3, arg9, harg9, arg10, harg10, arg7, harg7,
      q 17, q 18, q 19, j, m⟩)
  | 5 => Prog.lift (.call (6 : (Λ₀ F).Label) ⟨i, Stick.keyPos, arg6, harg6, q 20, arg3, harg3, arg9, harg9, arg10, harg10, arg7, harg7,
      q 21, q 22, q 23, j, m⟩)
  | 6 => Prog.lift (.call (7 : (Λ₀ F).Label) ⟨i, Stick.keyPos, arg6, harg6, q 24, arg3, harg3, arg9, harg9, arg10, harg10, arg7, harg7,
      q 25, q 26, q 27, j, m⟩)
  | _ => Prog.lift (.call (8 : (Λ₀ F).Label) ⟨i, Stick.keyPos, arg6, harg6, q 28, arg3, harg3, arg9, harg9, arg10, harg10, arg7, harg7,
      q 29, q 30, q 31, j, m⟩)

theorem packedRows (ti : Fin 8) : (Stick.rO ti.val).PackedRows (EltTy.packing .bf16) := by
  revert ti; decide

/-- Each tile's store is of whole words. -/
theorem storesTile {arg8 : Memref sig .tc .vmem S1x2048x256 .bf16} (harg8 : arg8.IsWhole) (ti : Nat) :
    (arg8.access (Stick.rO ti)).Stores Finset.univ := by
  have h := packedRows ⟨ti % 8, Nat.mod_lt _ (by decide)⟩
  have e : Stick.rO (ti % 8) = Stick.rO ti := by
    simp only [Stick.rO, Stick.offO, Nat.mod_mod]
  exact View.stores_vmem Stick.posT1x256x256 (harg8.storeExact_slice rfl _ (e ▸ h)) (fun _ => rfl)

set_option maxRecDepth 65536 in
/-- The printed body is the stick-breaking body. -/
theorem body_eq (i : grid0.Coords) (arg3 : Memref sig .tc .vmem S256x256 .bf16) (harg3 : arg3.IsWhole)
    (arg4 : Memref sig .tc .vmem S192x192 .bf16) (harg4 : arg4.IsWhole)
    (arg5 : Memref sig .tc .vmem S1x256x2048 .bf16) (harg5 : arg5.IsWhole)
    (arg6 : Memref sig .tc .vmem S1x4096x256 .bf16) (harg6 : arg6.IsWhole)
    (arg7 : Memref sig .tc .vmem S1x16x256x256 .bf16) (harg7 : arg7.IsWhole)
    (arg8 : Memref sig .tc .vmem S1x2048x256 .bf16) (harg8 : arg8.IsWhole)
    (arg9 : Memref sig .tc .vmem S8x4x1x256 .f32) (harg9 : arg9.IsWhole)
    (arg10 : Memref sig .tc .vmem S8x4x64x256 .f32) (harg10 : arg10.IsWhole) :
    cc0_stick_breaking_attention (F := F) i arg3 harg3 arg4 harg4 arg5 harg5 arg6 harg6 arg7 harg7 arg8 harg8 arg9 harg9 arg10 harg10 =
      Stick.body (nD := nD) (τ := τ) (Λ := Λ₀ F) consts ⟨arg3, arg4, arg5, arg6, arg7, arg8, arg9, arg10⟩ (i 2) env₀
        (loopCall i arg3 harg3 arg4 harg4 arg5 harg5 arg6 harg6 arg7 harg7 arg8 harg8 arg9 harg9 arg10 harg10) (storesTile harg8) := by
  chain_rfl

end Cert.KernelIdeal
-- ==== Proof.Ide.Loops.lean ====
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Ide.Text
public import proofs.«01_k».proof.Proof.Stick.Body
public import Idealize.ShloMosaic.Lib.Pipeline.Frame
public import Idealize.ShloMosaic.Lib.Tactic

/-! # The loops of `KernelIdeal`

The eight loops terminate and compute `Stick.loopRun`. -/

@[expose] public section

noncomputable section

namespace Cert.KernelIdeal

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)
open Cert.KernelIdeal.Gen

variable {F : FTy → Type} [FloatOps F] [Named F]

local notation "𝕄" => MT nD τ sig Unit (Elt F) ℕ (UR sig nD τ) ℕ

/-! ## The loops -/

theorem checked1 : ∀ n : Fin 16, (chk1).chk (BitVec.ofNat 32 n.val) := by
  show ∀ n : Fin 16, k0_chk1 (BitVec.ofNat 32 n.val)
  decide +kernel

theorem checked2 : ∀ n : Fin 16, (chk2).chk (BitVec.ofNat 32 n.val) := by
  show ∀ n : Fin 16, k0_chk2 (BitVec.ofNat 32 n.val)
  decide +kernel

theorem checked3 : ∀ n : Fin 16, (chk3).chk (BitVec.ofNat 32 n.val) := by
  show ∀ n : Fin 16, k0_chk3 (BitVec.ofNat 32 n.val)
  decide +kernel

theorem checked4 : ∀ n : Fin 16, (chk4).chk (BitVec.ofNat 32 n.val) := by
  show ∀ n : Fin 16, k0_chk4 (BitVec.ofNat 32 n.val)
  decide +kernel

theorem checked5 : ∀ n : Fin 16, (chk5).chk (BitVec.ofNat 32 n.val) := by
  show ∀ n : Fin 16, k0_chk5 (BitVec.ofNat 32 n.val)
  decide +kernel

theorem checked6 : ∀ n : Fin 16, (chk6).chk (BitVec.ofNat 32 n.val) := by
  show ∀ n : Fin 16, k0_chk6 (BitVec.ofNat 32 n.val)
  decide +kernel

theorem checked7 : ∀ n : Fin 16, (chk7).chk (BitVec.ofNat 32 n.val) := by
  show ∀ n : Fin 16, k0_chk7 (BitVec.ofNat 32 n.val)
  decide +kernel

theorem checked8 : ∀ n : Fin 16, (chk8).chk (BitVec.ofNat 32 n.val) := by
  show ∀ n : Fin 16, k0_chk8 (BitVec.ofNat 32 n.val)
  decide +kernel

theorem loopOk1 (i : grid0.Coords) (arg3 : Memref sig .tc .vmem S256x256 .bf16) (harg3 : arg3.IsWhole)
    (arg4 : Memref sig .tc .vmem S192x192 .bf16) (harg4 : arg4.IsWhole)
    (arg5 : Memref sig .tc .vmem S1x256x2048 .bf16) (harg5 : arg5.IsWhole)
    (arg6 : Memref sig .tc .vmem S1x4096x256 .bf16) (harg6 : arg6.IsWhole)
    (arg7 : Memref sig .tc .vmem S1x16x256x256 .bf16) (harg7 : arg7.IsWhole)
    (arg8 : Memref sig .tc .vmem S1x2048x256 .bf16) (harg8 : arg8.IsWhole)
    (arg9 : Memref sig .tc .vmem S8x4x1x256 .f32) (harg9 : arg9.IsWhole)
    (arg10 : Memref sig .tc .vmem S8x4x64x256 .f32) (harg10 : arg10.IsWhole)
    (c : Dev nD) (E : Set ℕ) (I : Stick.In F) (q : Nat → FVec F S128x256 .bf16) (hq : ∀ n, n < 32 → q n = (I.env (i 2)).qm n) :
    Stick.LoopOk (defs₀ (F := F)) Variants.nat c none E ⟨arg3, arg4, arg5, arg6, arg7, arg8, arg9, arg10⟩ I (i 2) consts (UR sig nD τ) 0
      (loopCall i arg3 harg3 arg4 harg4 arg5 harg5 arg6 harg6 arg7 harg7 arg8 harg8 arg9 harg9 arg10 harg10 0 q) := by
  intro m L S A Q hR
  have hi : (i 2).val < 2 := (i 2).isLt
  unfold loopCall
  iintro H HS HA Hk
  unfold Prog.lift
  iapply (wp_call Variants.nat (c : Thread nD τ) none E (8 * (i 2).val + 0) (fun u hu => nomatch hu))
  iapply (Stick.loop_le (defs := defs₀ (F := F)) (ℓ := (1 : (Λ₀ F).Label)) c E ⟨arg3, arg4, arg5, arg6, arg7, arg8, arg9, arg10⟩ I (i 2) consts
    (mk := fun j m => ⟨i, Stick.keyPos, arg6, harg6, q 0, arg3, harg3, arg9, harg9, arg10, harg10, arg7, harg7, q 1, q 2, q 3, j, m⟩)
    (ret := fun j m => (j, m)) chk1 (ti := 0) (by decide) q (fun hh => hq _ (by have := hh.isLt; omega))
    (fun j m => loop1_eq i Stick.keyPos arg3 harg3 arg4 harg4 arg5 harg5 arg6 harg6 arg7 harg7 arg8 harg8 arg9 harg9 arg10 harg10 (q 0) (q 1) (q 2) (q 3) j m)
    checked1 (8 * (i 2).val + 0) (by omega) m L S A _ hR) $$ H HS HA
  iintro %r %S' %A' %h H HS HA
  rw [wp_ret]
  imodintro
  iapply Hk $$ %r %S' %A' %h H HS HA

theorem loopOk2 (i : grid0.Coords) (arg3 : Memref sig .tc .vmem S256x256 .bf16) (harg3 : arg3.IsWhole)
    (arg4 : Memref sig .tc .vmem S192x192 .bf16) (harg4 : arg4.IsWhole)
    (arg5 : Memref sig .tc .vmem S1x256x2048 .bf16) (harg5 : arg5.IsWhole)
    (arg6 : Memref sig .tc .vmem S1x4096x256 .bf16) (harg6 : arg6.IsWhole)
    (arg7 : Memref sig .tc .vmem S1x16x256x256 .bf16) (harg7 : arg7.IsWhole)
    (arg8 : Memref sig .tc .vmem S1x2048x256 .bf16) (harg8 : arg8.IsWhole)
    (arg9 : Memref sig .tc .vmem S8x4x1x256 .f32) (harg9 : arg9.IsWhole)
    (arg10 : Memref sig .tc .vmem S8x4x64x256 .f32) (harg10 : arg10.IsWhole)
    (c : Dev nD) (E : Set ℕ) (I : Stick.In F) (q : Nat → FVec F S128x256 .bf16) (hq : ∀ n, n < 32 → q n = (I.env (i 2)).qm n) :
    Stick.LoopOk (defs₀ (F := F)) Variants.nat c none E ⟨arg3, arg4, arg5, arg6, arg7, arg8, arg9, arg10⟩ I (i 2) consts (UR sig nD τ) 1
      (loopCall i arg3 harg3 arg4 harg4 arg5 harg5 arg6 harg6 arg7 harg7 arg8 harg8 arg9 harg9 arg10 harg10 1 q) := by
  intro m L S A Q hR
  have hi : (i 2).val < 2 := (i 2).isLt
  unfold loopCall
  iintro H HS HA Hk
  unfold Prog.lift
  iapply (wp_call Variants.nat (c : Thread nD τ) none E (8 * (i 2).val + 1) (fun u hu => nomatch hu))
  iapply (Stick.loop_le (defs := defs₀ (F := F)) (ℓ := (2 : (Λ₀ F).Label)) c E ⟨arg3, arg4, arg5, arg6, arg7, arg8, arg9, arg10⟩ I (i 2) consts
    (mk := fun j m => ⟨i, Stick.keyPos, arg6, harg6, q 4, arg3, harg3, arg9, harg9, arg10, harg10, arg7, harg7, q 5, q 6, q 7, j, m⟩)
    (ret := fun j m => (j, m)) chk2 (ti := 1) (by decide) q (fun hh => hq _ (by have := hh.isLt; omega))
    (fun j m => loop2_eq i Stick.keyPos arg3 harg3 arg4 harg4 arg5 harg5 arg6 harg6 arg7 harg7 arg8 harg8 arg9 harg9 arg10 harg10 (q 4) (q 5) (q 6) (q 7) j m)
    checked2 (8 * (i 2).val + 1) (by omega) m L S A _ hR) $$ H HS HA
  iintro %r %S' %A' %h H HS HA
  rw [wp_ret]
  imodintro
  iapply Hk $$ %r %S' %A' %h H HS HA

theorem loopOk3 (i : grid0.Coords) (arg3 : Memref sig .tc .vmem S256x256 .bf16) (harg3 : arg3.IsWhole)
    (arg4 : Memref sig .tc .vmem S192x192 .bf16) (harg4 : arg4.IsWhole)
    (arg5 : Memref sig .tc .vmem S1x256x2048 .bf16) (harg5 : arg5.IsWhole)
    (arg6 : Memref sig .tc .vmem S1x4096x256 .bf16) (harg6 : arg6.IsWhole)
    (arg7 : Memref sig .tc .vmem S1x16x256x256 .bf16) (harg7 : arg7.IsWhole)
    (arg8 : Memref sig .tc .vmem S1x2048x256 .bf16) (harg8 : arg8.IsWhole)
    (arg9 : Memref sig .tc .vmem S8x4x1x256 .f32) (harg9 : arg9.IsWhole)
    (arg10 : Memref sig .tc .vmem S8x4x64x256 .f32) (harg10 : arg10.IsWhole)
    (c : Dev nD) (E : Set ℕ) (I : Stick.In F) (q : Nat → FVec F S128x256 .bf16) (hq : ∀ n, n < 32 → q n = (I.env (i 2)).qm n) :
    Stick.LoopOk (defs₀ (F := F)) Variants.nat c none E ⟨arg3, arg4, arg5, arg6, arg7, arg8, arg9, arg10⟩ I (i 2) consts (UR sig nD τ) 2
      (loopCall i arg3 harg3 arg4 harg4 arg5 harg5 arg6 harg6 arg7 harg7 arg8 harg8 arg9 harg9 arg10 harg10 2 q) := by
  intro m L S A Q hR
  have hi : (i 2).val < 2 := (i 2).isLt
  unfold loopCall
  iintro H HS HA Hk
  unfold Prog.lift
  iapply (wp_call Variants.nat (c : Thread nD τ) none E (8 * (i 2).val + 2) (fun u hu => nomatch hu))
  iapply (Stick.loop_le (defs := defs₀ (F := F)) (ℓ := (3 : (Λ₀ F).Label)) c E ⟨arg3, arg4, arg5, arg6, arg7, arg8, arg9, arg10⟩ I (i 2) consts
    (mk := fun j m => ⟨i, Stick.keyPos, arg6, harg6, q 8, arg3, harg3, arg9, harg9, arg10, harg10, arg7, harg7, q 9, q 10, q 11, j, m⟩)
    (ret := fun j m => (j, m)) chk3 (ti := 2) (by decide) q (fun hh => hq _ (by have := hh.isLt; omega))
    (fun j m => loop3_eq i Stick.keyPos arg3 harg3 arg4 harg4 arg5 harg5 arg6 harg6 arg7 harg7 arg8 harg8 arg9 harg9 arg10 harg10 (q 8) (q 9) (q 10) (q 11) j m)
    checked3 (8 * (i 2).val + 2) (by omega) m L S A _ hR) $$ H HS HA
  iintro %r %S' %A' %h H HS HA
  rw [wp_ret]
  imodintro
  iapply Hk $$ %r %S' %A' %h H HS HA

theorem loopOk4 (i : grid0.Coords) (arg3 : Memref sig .tc .vmem S256x256 .bf16) (harg3 : arg3.IsWhole)
    (arg4 : Memref sig .tc .vmem S192x192 .bf16) (harg4 : arg4.IsWhole)
    (arg5 : Memref sig .tc .vmem S1x256x2048 .bf16) (harg5 : arg5.IsWhole)
    (arg6 : Memref sig .tc .vmem S1x4096x256 .bf16) (harg6 : arg6.IsWhole)
    (arg7 : Memref sig .tc .vmem S1x16x256x256 .bf16) (harg7 : arg7.IsWhole)
    (arg8 : Memref sig .tc .vmem S1x2048x256 .bf16) (harg8 : arg8.IsWhole)
    (arg9 : Memref sig .tc .vmem S8x4x1x256 .f32) (harg9 : arg9.IsWhole)
    (arg10 : Memref sig .tc .vmem S8x4x64x256 .f32) (harg10 : arg10.IsWhole)
    (c : Dev nD) (E : Set ℕ) (I : Stick.In F) (q : Nat → FVec F S128x256 .bf16) (hq : ∀ n, n < 32 → q n = (I.env (i 2)).qm n) :
    Stick.LoopOk (defs₀ (F := F)) Variants.nat c none E ⟨arg3, arg4, arg5, arg6, arg7, arg8, arg9, arg10⟩ I (i 2) consts (UR sig nD τ) 3
      (loopCall i arg3 harg3 arg4 harg4 arg5 harg5 arg6 harg6 arg7 harg7 arg8 harg8 arg9 harg9 arg10 harg10 3 q) := by
  intro m L S A Q hR
  have hi : (i 2).val < 2 := (i 2).isLt
  unfold loopCall
  iintro H HS HA Hk
  unfold Prog.lift
  iapply (wp_call Variants.nat (c : Thread nD τ) none E (8 * (i 2).val + 3) (fun u hu => nomatch hu))
  iapply (Stick.loop_le (defs := defs₀ (F := F)) (ℓ := (4 : (Λ₀ F).Label)) c E ⟨arg3, arg4, arg5, arg6, arg7, arg8, arg9, arg10⟩ I (i 2) consts
    (mk := fun j m => ⟨i, Stick.keyPos, arg6, harg6, q 12, arg3, harg3, arg9, harg9, arg10, harg10, arg7, harg7, q 13, q 14, q 15, j, m⟩)
    (ret := fun j m => (j, m)) chk4 (ti := 3) (by decide) q (fun hh => hq _ (by have := hh.isLt; omega))
    (fun j m => loop4_eq i Stick.keyPos arg3 harg3 arg4 harg4 arg5 harg5 arg6 harg6 arg7 harg7 arg8 harg8 arg9 harg9 arg10 harg10 (q 12) (q 13) (q 14) (q 15) j m)
    checked4 (8 * (i 2).val + 3) (by omega) m L S A _ hR) $$ H HS HA
  iintro %r %S' %A' %h H HS HA
  rw [wp_ret]
  imodintro
  iapply Hk $$ %r %S' %A' %h H HS HA

theorem loopOk5 (i : grid0.Coords) (arg3 : Memref sig .tc .vmem S256x256 .bf16) (harg3 : arg3.IsWhole)
    (arg4 : Memref sig .tc .vmem S192x192 .bf16) (harg4 : arg4.IsWhole)
    (arg5 : Memref sig .tc .vmem S1x256x2048 .bf16) (harg5 : arg5.IsWhole)
    (arg6 : Memref sig .tc .vmem S1x4096x256 .bf16) (harg6 : arg6.IsWhole)
    (arg7 : Memref sig .tc .vmem S1x16x256x256 .bf16) (harg7 : arg7.IsWhole)
    (arg8 : Memref sig .tc .vmem S1x2048x256 .bf16) (harg8 : arg8.IsWhole)
    (arg9 : Memref sig .tc .vmem S8x4x1x256 .f32) (harg9 : arg9.IsWhole)
    (arg10 : Memref sig .tc .vmem S8x4x64x256 .f32) (harg10 : arg10.IsWhole)
    (c : Dev nD) (E : Set ℕ) (I : Stick.In F) (q : Nat → FVec F S128x256 .bf16) (hq : ∀ n, n < 32 → q n = (I.env (i 2)).qm n) :
    Stick.LoopOk (defs₀ (F := F)) Variants.nat c none E ⟨arg3, arg4, arg5, arg6, arg7, arg8, arg9, arg10⟩ I (i 2) consts (UR sig nD τ) 4
      (loopCall i arg3 harg3 arg4 harg4 arg5 harg5 arg6 harg6 arg7 harg7 arg8 harg8 arg9 harg9 arg10 harg10 4 q) := by
  intro m L S A Q hR
  have hi : (i 2).val < 2 := (i 2).isLt
  unfold loopCall
  iintro H HS HA Hk
  unfold Prog.lift
  iapply (wp_call Variants.nat (c : Thread nD τ) none E (8 * (i 2).val + 4) (fun u hu => nomatch hu))
  iapply (Stick.loop_le (defs := defs₀ (F := F)) (ℓ := (5 : (Λ₀ F).Label)) c E ⟨arg3, arg4, arg5, arg6, arg7, arg8, arg9, arg10⟩ I (i 2) consts
    (mk := fun j m => ⟨i, Stick.keyPos, arg6, harg6, q 16, arg3, harg3, arg9, harg9, arg10, harg10, arg7, harg7, q 17, q 18, q 19, j, m⟩)
    (ret := fun j m => (j, m)) chk5 (ti := 4) (by decide) q (fun hh => hq _ (by have := hh.isLt; omega))
    (fun j m => loop5_eq i Stick.keyPos arg3 harg3 arg4 harg4 arg5 harg5 arg6 harg6 arg7 harg7 arg8 harg8 arg9 harg9 arg10 harg10 (q 16) (q 17) (q 18) (q 19) j m)
    checked5 (8 * (i 2).val + 4) (by omega) m L S A _ hR) $$ H HS HA
  iintro %r %S' %A' %h H HS HA
  rw [wp_ret]
  imodintro
  iapply Hk $$ %r %S' %A' %h H HS HA

theorem loopOk6 (i : grid0.Coords) (arg3 : Memref sig .tc .vmem S256x256 .bf16) (harg3 : arg3.IsWhole)
    (arg4 : Memref sig .tc .vmem S192x192 .bf16) (harg4 : arg4.IsWhole)
    (arg5 : Memref sig .tc .vmem S1x256x2048 .bf16) (harg5 : arg5.IsWhole)
    (arg6 : Memref sig .tc .vmem S1x4096x256 .bf16) (harg6 : arg6.IsWhole)
    (arg7 : Memref sig .tc .vmem S1x16x256x256 .bf16) (harg7 : arg7.IsWhole)
    (arg8 : Memref sig .tc .vmem S1x2048x256 .bf16) (harg8 : arg8.IsWhole)
    (arg9 : Memref sig .tc .vmem S8x4x1x256 .f32) (harg9 : arg9.IsWhole)
    (arg10 : Memref sig .tc .vmem S8x4x64x256 .f32) (harg10 : arg10.IsWhole)
    (c : Dev nD) (E : Set ℕ) (I : Stick.In F) (q : Nat → FVec F S128x256 .bf16) (hq : ∀ n, n < 32 → q n = (I.env (i 2)).qm n) :
    Stick.LoopOk (defs₀ (F := F)) Variants.nat c none E ⟨arg3, arg4, arg5, arg6, arg7, arg8, arg9, arg10⟩ I (i 2) consts (UR sig nD τ) 5
      (loopCall i arg3 harg3 arg4 harg4 arg5 harg5 arg6 harg6 arg7 harg7 arg8 harg8 arg9 harg9 arg10 harg10 5 q) := by
  intro m L S A Q hR
  have hi : (i 2).val < 2 := (i 2).isLt
  unfold loopCall
  iintro H HS HA Hk
  unfold Prog.lift
  iapply (wp_call Variants.nat (c : Thread nD τ) none E (8 * (i 2).val + 5) (fun u hu => nomatch hu))
  iapply (Stick.loop_le (defs := defs₀ (F := F)) (ℓ := (6 : (Λ₀ F).Label)) c E ⟨arg3, arg4, arg5, arg6, arg7, arg8, arg9, arg10⟩ I (i 2) consts
    (mk := fun j m => ⟨i, Stick.keyPos, arg6, harg6, q 20, arg3, harg3, arg9, harg9, arg10, harg10, arg7, harg7, q 21, q 22, q 23, j, m⟩)
    (ret := fun j m => (j, m)) chk6 (ti := 5) (by decide) q (fun hh => hq _ (by have := hh.isLt; omega))
    (fun j m => loop6_eq i Stick.keyPos arg3 harg3 arg4 harg4 arg5 harg5 arg6 harg6 arg7 harg7 arg8 harg8 arg9 harg9 arg10 harg10 (q 20) (q 21) (q 22) (q 23) j m)
    checked6 (8 * (i 2).val + 5) (by omega) m L S A _ hR) $$ H HS HA
  iintro %r %S' %A' %h H HS HA
  rw [wp_ret]
  imodintro
  iapply Hk $$ %r %S' %A' %h H HS HA

theorem loopOk7 (i : grid0.Coords) (arg3 : Memref sig .tc .vmem S256x256 .bf16) (harg3 : arg3.IsWhole)
    (arg4 : Memref sig .tc .vmem S192x192 .bf16) (harg4 : arg4.IsWhole)
    (arg5 : Memref sig .tc .vmem S1x256x2048 .bf16) (harg5 : arg5.IsWhole)
    (arg6 : Memref sig .tc .vmem S1x4096x256 .bf16) (harg6 : arg6.IsWhole)
    (arg7 : Memref sig .tc .vmem S1x16x256x256 .bf16) (harg7 : arg7.IsWhole)
    (arg8 : Memref sig .tc .vmem S1x2048x256 .bf16) (harg8 : arg8.IsWhole)
    (arg9 : Memref sig .tc .vmem S8x4x1x256 .f32) (harg9 : arg9.IsWhole)
    (arg10 : Memref sig .tc .vmem S8x4x64x256 .f32) (harg10 : arg10.IsWhole)
    (c : Dev nD) (E : Set ℕ) (I : Stick.In F) (q : Nat → FVec F S128x256 .bf16) (hq : ∀ n, n < 32 → q n = (I.env (i 2)).qm n) :
    Stick.LoopOk (defs₀ (F := F)) Variants.nat c none E ⟨arg3, arg4, arg5, arg6, arg7, arg8, arg9, arg10⟩ I (i 2) consts (UR sig nD τ) 6
      (loopCall i arg3 harg3 arg4 harg4 arg5 harg5 arg6 harg6 arg7 harg7 arg8 harg8 arg9 harg9 arg10 harg10 6 q) := by
  intro m L S A Q hR
  have hi : (i 2).val < 2 := (i 2).isLt
  unfold loopCall
  iintro H HS HA Hk
  unfold Prog.lift
  iapply (wp_call Variants.nat (c : Thread nD τ) none E (8 * (i 2).val + 6) (fun u hu => nomatch hu))
  iapply (Stick.loop_le (defs := defs₀ (F := F)) (ℓ := (7 : (Λ₀ F).Label)) c E ⟨arg3, arg4, arg5, arg6, arg7, arg8, arg9, arg10⟩ I (i 2) consts
    (mk := fun j m => ⟨i, Stick.keyPos, arg6, harg6, q 24, arg3, harg3, arg9, harg9, arg10, harg10, arg7, harg7, q 25, q 26, q 27, j, m⟩)
    (ret := fun j m => (j, m)) chk7 (ti := 6) (by decide) q (fun hh => hq _ (by have := hh.isLt; omega))
    (fun j m => loop7_eq i Stick.keyPos arg3 harg3 arg4 harg4 arg5 harg5 arg6 harg6 arg7 harg7 arg8 harg8 arg9 harg9 arg10 harg10 (q 24) (q 25) (q 26) (q 27) j m)
    checked7 (8 * (i 2).val + 6) (by omega) m L S A _ hR) $$ H HS HA
  iintro %r %S' %A' %h H HS HA
  rw [wp_ret]
  imodintro
  iapply Hk $$ %r %S' %A' %h H HS HA

theorem loopOk8 (i : grid0.Coords) (arg3 : Memref sig .tc .vmem S256x256 .bf16) (harg3 : arg3.IsWhole)
    (arg4 : Memref sig .tc .vmem S192x192 .bf16) (harg4 : arg4.IsWhole)
    (arg5 : Memref sig .tc .vmem S1x256x2048 .bf16) (harg5 : arg5.IsWhole)
    (arg6 : Memref sig .tc .vmem S1x4096x256 .bf16) (harg6 : arg6.IsWhole)
    (arg7 : Memref sig .tc .vmem S1x16x256x256 .bf16) (harg7 : arg7.IsWhole)
    (arg8 : Memref sig .tc .vmem S1x2048x256 .bf16) (harg8 : arg8.IsWhole)
    (arg9 : Memref sig .tc .vmem S8x4x1x256 .f32) (harg9 : arg9.IsWhole)
    (arg10 : Memref sig .tc .vmem S8x4x64x256 .f32) (harg10 : arg10.IsWhole)
    (c : Dev nD) (E : Set ℕ) (I : Stick.In F) (q : Nat → FVec F S128x256 .bf16) (hq : ∀ n, n < 32 → q n = (I.env (i 2)).qm n) :
    Stick.LoopOk (defs₀ (F := F)) Variants.nat c none E ⟨arg3, arg4, arg5, arg6, arg7, arg8, arg9, arg10⟩ I (i 2) consts (UR sig nD τ) 7
      (loopCall i arg3 harg3 arg4 harg4 arg5 harg5 arg6 harg6 arg7 harg7 arg8 harg8 arg9 harg9 arg10 harg10 7 q) := by
  intro m L S A Q hR
  have hi : (i 2).val < 2 := (i 2).isLt
  unfold loopCall
  iintro H HS HA Hk
  unfold Prog.lift
  iapply (wp_call Variants.nat (c : Thread nD τ) none E (8 * (i 2).val + 7) (fun u hu => nomatch hu))
  iapply (Stick.loop_le (defs := defs₀ (F := F)) (ℓ := (8 : (Λ₀ F).Label)) c E ⟨arg3, arg4, arg5, arg6, arg7, arg8, arg9, arg10⟩ I (i 2) consts
    (mk := fun j m => ⟨i, Stick.keyPos, arg6, harg6, q 28, arg3, harg3, arg9, harg9, arg10, harg10, arg7, harg7, q 29, q 30, q 31, j, m⟩)
    (ret := fun j m => (j, m)) chk8 (ti := 7) (by decide) q (fun hh => hq _ (by have := hh.isLt; omega))
    (fun j m => loop8_eq i Stick.keyPos arg3 harg3 arg4 harg4 arg5 harg5 arg6 harg6 arg7 harg7 arg8 harg8 arg9 harg9 arg10 harg10 (q 28) (q 29) (q 30) (q 31) j m)
    checked8 (8 * (i 2).val + 7) (by omega) m L S A _ hR) $$ H HS HA
  iintro %r %S' %A' %h H HS HA
  rw [wp_ret]
  imodintro
  iapply Hk $$ %r %S' %A' %h H HS HA

theorem loopOk (i : grid0.Coords) (arg3 : Memref sig .tc .vmem S256x256 .bf16) (harg3 : arg3.IsWhole)
    (arg4 : Memref sig .tc .vmem S192x192 .bf16) (harg4 : arg4.IsWhole)
    (arg5 : Memref sig .tc .vmem S1x256x2048 .bf16) (harg5 : arg5.IsWhole)
    (arg6 : Memref sig .tc .vmem S1x4096x256 .bf16) (harg6 : arg6.IsWhole)
    (arg7 : Memref sig .tc .vmem S1x16x256x256 .bf16) (harg7 : arg7.IsWhole)
    (arg8 : Memref sig .tc .vmem S1x2048x256 .bf16) (harg8 : arg8.IsWhole)
    (arg9 : Memref sig .tc .vmem S8x4x1x256 .f32) (harg9 : arg9.IsWhole)
    (arg10 : Memref sig .tc .vmem S8x4x64x256 .f32) (harg10 : arg10.IsWhole)
    (c : Dev nD) (E : Set ℕ) (I : Stick.In F) (q : Nat → FVec F S128x256 .bf16) (hq : ∀ n, n < 32 → q n = (I.env (i 2)).qm n) :
    ∀ ti, ti < 8 → Stick.LoopOk (defs₀ (F := F)) Variants.nat c none E ⟨arg3, arg4, arg5, arg6, arg7, arg8, arg9, arg10⟩ I (i 2) consts (UR sig nD τ) ti
      (fun j m => loopCall i arg3 harg3 arg4 harg4 arg5 harg5 arg6 harg6 arg7 harg7 arg8 harg8 arg9 harg9 arg10 harg10 ti q j m)
  | 0, _ => loopOk1 i arg3 harg3 arg4 harg4 arg5 harg5 arg6 harg6 arg7 harg7 arg8 harg8 arg9 harg9 arg10 harg10 c E I q hq
  | 1, _ => loopOk2 i arg3 harg3 arg4 harg4 arg5 harg5 arg6 harg6 arg7 harg7 arg8 harg8 arg9 harg9 arg10 harg10 c E I q hq
  | 2, _ => loopOk3 i arg3 harg3 arg4 harg4 arg5 harg5 arg6 harg6 arg7 harg7 arg8 harg8 arg9 harg9 arg10 harg10 c E I q hq
  | 3, _ => loopOk4 i arg3 harg3 arg4 harg4 arg5 harg5 arg6 harg6 arg7 harg7 arg8 harg8 arg9 harg9 arg10 harg10 c E I q hq
  | 4, _ => loopOk5 i arg3 harg3 arg4 harg4 arg5 harg5 arg6 harg6 arg7 harg7 arg8 harg8 arg9 harg9 arg10 harg10 c E I q hq
  | 5, _ => loopOk6 i arg3 harg3 arg4 harg4 arg5 harg5 arg6 harg6 arg7 harg7 arg8 harg8 arg9 harg9 arg10 harg10 c E I q hq
  | 6, _ => loopOk7 i arg3 harg3 arg4 harg4 arg5 harg5 arg6 harg6 arg7 harg7 arg8 harg8 arg9 harg9 arg10 harg10 c E I q hq
  | 7, _ => loopOk8 i arg3 harg3 arg4 harg4 arg5 harg5 arg6 harg6 arg7 harg7 arg8 harg8 arg9 harg9 arg10 harg10 c E I q hq
  | _ + 8, h => absurd h (by omega)

end Cert.KernelIdeal
-- ==== Proof.Ide.Run.lean ====
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Ide.Loops
public import proofs.«01_k».proof.Proof.Stick.Body
public import Idealize.ShloMosaic.Lib.Pipeline.Frame
public import Idealize.ShloMosaic.Lib.Tactic

/-! # `KernelIdeal`, run

The body at every grid point leaves `Stick.outBlock` of the
point's blocks; the whole program's run is the pipeline library's. -/

@[expose] public section

noncomputable section

namespace Cert.KernelIdeal

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main up to the region -/

/-- The variants: a loop's trips left. -/
abbrev 𝒱₀ : Variants := Variants.nat

/-- Core `c`'s buffers when the region is entered: after the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region: the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes `main_arg0`. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, Finset.mem_singleton]
    repeat' apply And.intro
    all_goals exact StableHlo.devRef_ne_of_ne (by decide)))

/-- No host operation writes `main_arg1`. -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, Finset.mem_singleton]
    repeat' apply And.intro
    all_goals exact StableHlo.devRef_ne_of_ne (by decide)))

/-- No host operation writes `main_arg2`. -/
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.ternary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The blocks the body reads at point `t`. -/
def ins (c : Dev nD) (t : Fin (cfg0 (F := F)).N) : Stick.In F :=
  ⟨iblk m c 0 t, iblk m c 1 t, iblk m c 2 t, iblk m c 3 t, iblk m c 4 t⟩

/-- What the body leaves in the result's buffer at point `t`. -/
def outsAt (c : Dev nD) (t : Fin (cfg0 (F := F)).N) : Vec F S1x2048x256 .bf16 :=
  Stick.outBlock consts (ins m c t) (grid0.coords t 2)

/-- The arrays as the region finds them; after the body each input's buffer at its block, the result's at `outsAt`. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outsAt m c t
  Φ _ := Pipeline.ΦA spec0 c
  q _ := fullShare
  owed _ := 0

theorem A_eq (c : Dev nD) (w : Fin (cfg0 (F := F)).W) : (dats m 0 c).A w = V m c (Pipeline.arrRef spec0 w) := rfl

theorem after0_0 (c : Dev nD) (t : Fin (cfg0 (F := F)).N) : (dats m 0 c).after 0 t = iblk m c 0 t := rfl
theorem after0_1 (c : Dev nD) (t : Fin (cfg0 (F := F)).N) : (dats m 0 c).after 1 t = iblk m c 1 t := rfl
theorem after0_2 (c : Dev nD) (t : Fin (cfg0 (F := F)).N) : (dats m 0 c).after 2 t = iblk m c 2 t := rfl
theorem after0_3 (c : Dev nD) (t : Fin (cfg0 (F := F)).N) : (dats m 0 c).after 3 t = iblk m c 3 t := rfl
theorem after0_4 (c : Dev nD) (t : Fin (cfg0 (F := F)).N) : (dats m 0 c).after 4 t = iblk m c 4 t := rfl
theorem after0_5 (c : Dev nD) (t : Fin (cfg0 (F := F)).N) : (dats m 0 c).after 5 t = outsAt m c t := rfl

/-- Window 0's buffer holds its block when the body runs, fetched there or not. -/
theorem before0_0 (c : Dev nD) (t : Fin (cfg0 (F := F)).N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)

/-- Window 1's buffer holds its block when the body runs, fetched there or not. -/
theorem before0_1 (c : Dev nD) (t : Fin (cfg0 (F := F)).N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)

/-- Window 2's buffer holds its block when the body runs, fetched there or not. -/
theorem before0_2 (c : Dev nD) (t : Fin (cfg0 (F := F)).N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)

/-- Window 3's buffer holds its block when the body runs, fetched there or not. -/
theorem before0_3 (c : Dev nD) (t : Fin (cfg0 (F := F)).N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

/-- Window 4's buffer holds its block when the body runs, fetched there or not. -/
theorem before0_4 (c : Dev nD) (t : Fin (cfg0 (F := F)).N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)

/-! ## The body at a grid point -/

set_option maxRecDepth 65536 in
theorem body_runs (i : grid0.Coords) (arg3 : Memref sig .tc .vmem S256x256 .bf16) (harg3 : arg3.IsWhole)
    (arg4 : Memref sig .tc .vmem S192x192 .bf16) (harg4 : arg4.IsWhole)
    (arg5 : Memref sig .tc .vmem S1x256x2048 .bf16) (harg5 : arg5.IsWhole)
    (arg6 : Memref sig .tc .vmem S1x4096x256 .bf16) (harg6 : arg6.IsWhole)
    (arg7 : Memref sig .tc .vmem S1x16x256x256 .bf16) (harg7 : arg7.IsWhole)
    (arg8 : Memref sig .tc .vmem S1x2048x256 .bf16) (harg8 : arg8.IsWhole)
    (arg9 : Memref sig .tc .vmem S8x4x1x256 .f32) (harg9 : arg9.IsWhole)
    (arg10 : Memref sig .tc .vmem S8x4x64x256 .f32) (harg10 : arg10.IsWhole)
    (p : Stick.BProg nD τ sig (Λ₀ F) F PUnit)
    (hp : p = Stick.body consts ⟨arg3, arg4, arg5, arg6, arg7, arg8, arg9, arg10⟩ (i 2) env₀ (loopCall i arg3 harg3 arg4 harg4 arg5 harg5 arg6 harg6 arg7 harg7 arg8 harg8 arg9 harg9 arg10 harg10) (storesTile harg8))
    (c : Dev nD) (I : Stick.In F) (X0 X1 X2) (Q : PUnit → sProp (MT nD τ sig Unit (Elt F) ℕ (UR sig nD τ) ℕ)) :
    (Stick.inHeld c ⟨arg3, arg4, arg5, arg6, arg7, arg8, arg9, arg10⟩ I : sProp 𝕄) ⊢ iprop(owns (c : Thread nD τ) arg9 fullShare X0
      -∗ owns (c : Thread nD τ) arg10 fullShare X1 -∗ owns (c : Thread nD τ) arg8 fullShare X2
      -∗ (∀ Y0 Y1, Stick.inHeld c ⟨arg3, arg4, arg5, arg6, arg7, arg8, arg9, arg10⟩ I -∗ owns (c : Thread nD τ) arg9 fullShare Y0
        -∗ owns (c : Thread nD τ) arg10 fullShare Y1 -∗ owns (c : Thread nD τ) arg8 fullShare (Stick.outBlock consts I (i 2)) -∗ Q ⟨⟩)
      -∗ wp frame (wpE (defs₀ (F := F)) Variants.nat (c : Thread nD τ) none) Set.univ
        p Q) := by
  subst hp
  exact Stick.wp_body (loop := loopCall i arg3 harg3 arg4 harg4 arg5 harg5 arg6 harg6 arg7 harg7 arg8 harg8 arg9 harg9 arg10 harg10) (hst := storesTile harg8) (e₀ := env₀) (fun q hq => loopOk i arg3 harg3 arg4 harg4 arg5 harg5 arg6 harg6 arg7 harg7 arg8 harg8 arg9 harg9 arg10 harg10 c Set.univ I q hq) X0 X1 X2

/-- A whole buffer at known contents is owned at them, -/
theorem whole_mk (c : Dev nD) (b : Ref sig .tc) (f : Buf (Elt F) ((c : Thread nD τ).loc b)) :
    (((c : Thread nD τ).loc b ↦{fullShare} f : sProp 𝕄)) ⊢ owns (c : Thread nD τ) (Memref.whole b) fullShare f := by
  rw [owns_whole_eq]
  iintro H
  iexists f
  isplitr; · ipureintro; rfl
  iexact H

/-- and the other way round. -/
theorem whole_out (c : Dev nD) (b : Ref sig .tc) (X) :
    (owns (c : Thread nD τ) (Memref.whole b) fullShare X : sProp 𝕄) ⊢ iprop(∃ f : Buf (Elt F) ((c : Thread nD τ).loc b), (c : Thread nD τ).loc b ↦{fullShare} f) := by
  rw [owns_whole_eq]
  iintro ⟨%f, -, H⟩
  iexists f
  iexact H

/-- The same, buffer by buffer. -/
theorem body_runs' (i : grid0.Coords) (arg3 : Memref sig .tc .vmem S256x256 .bf16) (harg3 : arg3.IsWhole)
    (arg4 : Memref sig .tc .vmem S192x192 .bf16) (harg4 : arg4.IsWhole)
    (arg5 : Memref sig .tc .vmem S1x256x2048 .bf16) (harg5 : arg5.IsWhole)
    (arg6 : Memref sig .tc .vmem S1x4096x256 .bf16) (harg6 : arg6.IsWhole)
    (arg7 : Memref sig .tc .vmem S1x16x256x256 .bf16) (harg7 : arg7.IsWhole)
    (arg8 : Memref sig .tc .vmem S1x2048x256 .bf16) (harg8 : arg8.IsWhole)
    (arg9 : Memref sig .tc .vmem S8x4x1x256 .f32) (harg9 : arg9.IsWhole)
    (arg10 : Memref sig .tc .vmem S8x4x64x256 .f32) (harg10 : arg10.IsWhole)
    (p : Stick.BProg nD τ sig (Λ₀ F) F PUnit)
    (hp : p = Stick.body consts ⟨arg3, arg4, arg5, arg6, arg7, arg8, arg9, arg10⟩ (i 2) env₀ (loopCall i arg3 harg3 arg4 harg4 arg5 harg5 arg6 harg6 arg7 harg7 arg8 harg8 arg9 harg9 arg10 harg10) (storesTile harg8))
    (c : Dev nD) (x0 x1 x2 x3 x4 X0 X1 X2) (Q : PUnit → sProp (MT nD τ sig Unit (Elt F) ℕ (UR sig nD τ) ℕ)) :
    (owns (c : Thread nD τ) arg3 fullShare x0 : sProp 𝕄) ⊢ iprop(owns (c : Thread nD τ) arg4 fullShare x1
      -∗ owns (c : Thread nD τ) arg5 fullShare x2 -∗ owns (c : Thread nD τ) arg6 fullShare x3 -∗ owns (c : Thread nD τ) arg7 fullShare x4
      -∗ owns (c : Thread nD τ) arg9 fullShare X0
      -∗ owns (c : Thread nD τ) arg10 fullShare X1 -∗ owns (c : Thread nD τ) arg8 fullShare X2
      -∗ (∀ Y0 Y1, owns (c : Thread nD τ) arg3 fullShare x0 -∗ owns (c : Thread nD τ) arg4 fullShare x1
        -∗ owns (c : Thread nD τ) arg5 fullShare x2 -∗ owns (c : Thread nD τ) arg6 fullShare x3 -∗ owns (c : Thread nD τ) arg7 fullShare x4
        -∗ owns (c : Thread nD τ) arg9 fullShare Y0
        -∗ owns (c : Thread nD τ) arg10 fullShare Y1
        -∗ owns (c : Thread nD τ) arg8 fullShare (Stick.outBlock consts ⟨x0, x1, x2, x3, x4⟩ (i 2)) -∗ Q ⟨⟩)
      -∗ wp frame (wpE (defs₀ (F := F)) Variants.nat (c : Thread nD τ) none) Set.univ p Q) := by
  have h := body_runs i arg3 harg3 arg4 harg4 arg5 harg5 arg6 harg6 arg7 harg7 arg8 harg8 arg9 harg9 arg10 harg10 p hp c ⟨x0, x1, x2, x3, x4⟩ X0 X1 X2 Q
  unfold Stick.inHeld at h
  dsimp only at h
  iintro H0 H1 H2 H3 H4 Hs0 Hs1 H5 Hk
  iapply h $$ [H0 H1 H2 H3 H4] [Hs0] [Hs1] [H5]
  · isplitl [H0]; · iexact H0
    isplitl [H1]; · iexact H1
    isplitl [H2]; · iexact H2
    isplitl [H3]; · iexact H3
    iexact H4
  · iexact Hs0
  · iexact Hs1
  · iexact H5
  iintro %Y0 %Y1 ⟨H0, H1, H2, H3, H4⟩ Hs0 Hs1 H5
  iapply Hk $$ %Y0 %Y1 H0 H1 H2 H3 H4 Hs0 Hs1 H5

set_option maxHeartbeats 1000000 in
theorem body_obligation (c : Dev nD) : BodyObligation (dats (F := F) m 0 c) (defs₀ (F := F)) 𝒱₀ () Set.univ := fun t => by
  rw [bigSep_W0, bigSep_W0]
  sl_whnfR [defs₀, Defs.onTc]
  have e0 : ∀ d, (dats m 0 c).before (0 : Fin 6) t d = iblk m c 0 t := fun d => before0_0 m c t d
  have e1 : ∀ d, (dats m 0 c).before (1 : Fin 6) t d = iblk m c 1 t := fun d => before0_1 m c t d
  have e2 : ∀ d, (dats m 0 c).before (2 : Fin 6) t d = iblk m c 2 t := fun d => before0_2 m c t d
  have e3 : ∀ d, (dats m 0 c).before (3 : Fin 6) t d = iblk m c 3 t := fun d => before0_3 m c t d
  have e4 : ∀ d, (dats m 0 c).before (4 : Fin 6) t d = iblk m c 4 t := fun d => before0_4 m c t d
  simp only [e0, e1, e2, e3, e4]
  clear e0 e1 e2 e3 e4
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl]
  unfold Pipeline.ΦA outsAt ins
  rw [scopedRest0_eq]
  iintro ⟨⟨⟨⟨%f0, Hs0⟩, ⟨%f1, Hs1⟩⟩, Hp⟩, Ho, ⟨%d0, H0⟩, ⟨%d1, H1⟩, ⟨%d2, H2⟩, ⟨%d3, H3⟩, ⟨%d4, H4⟩, ⟨%d5, H5⟩⟩
  ihave Hs0 := (whole_mk c cc0_scratch0 f0) $$ Hs0
  ihave Hs1 := (whole_mk c cc0_scratch1 f1) $$ Hs1
  iapply (body_runs' (grid0.coords t) (win0_0.stage ((cfg0 (F := F)).slots t 0)) (hstage0_0 (((cfg0 (F := F)).slots t 0).cast nbuf0_0)) (win0_1.stage ((cfg0 (F := F)).slots t 1)) (hstage0_1 (((cfg0 (F := F)).slots t 1).cast nbuf0_1)) (win0_2.stage ((cfg0 (F := F)).slots t 2)) (hstage0_2 (((cfg0 (F := F)).slots t 2).cast nbuf0_2)) (win0_3.stage ((cfg0 (F := F)).slots t 3)) (hstage0_3 (((cfg0 (F := F)).slots t 3).cast nbuf0_3)) (win0_4.stage ((cfg0 (F := F)).slots t 4)) (hstage0_4 (((cfg0 (F := F)).slots t 4).cast nbuf0_4)) (win0_5.stage ((cfg0 (F := F)).slots t 5)) (hstage0_5 (((cfg0 (F := F)).slots t 5).cast nbuf0_5))
    (Memref.whole cc0_scratch0) (Memref.isWhole_whole _) (Memref.whole cc0_scratch1) (Memref.isWhole_whole _) _
    (body_eq (grid0.coords t) _ _ _ _ _ _ _ _ _ _ _ _ _ _ _ _) c (iblk m c 0 t) (iblk m c 1 t) (iblk m c 2 t) (iblk m c 3 t) (iblk m c 4 t)
    f0 f1 ((dats m 0 c).before 5 t d5) _) $$ [H0] [H1] [H2] [H3] [H4] [Hs0] [Hs1] [H5]
  · iexact H0
  · iexact H1
  · iexact H2
  · iexact H3
  · iexact H4
  · iexact Hs0
  · iexact Hs1
  · iexact H5
  iintro %Y0 %Y1 H0 H1 H2 H3 H4 Hs0 Hs1 H5
  ihave Hs0 := (whole_out c cc0_scratch0 Y0) $$ Hs0
  ihave Hs1 := (whole_out c cc0_scratch1 Y1) $$ Hs1
  isplitl [Hs0 Hs1 Hp]
  · isplitl [Hs0 Hs1]
    · isplitl [Hs0]
      · iexact Hs0
      iexact Hs1
    iexact Hp
  isplitl [Ho]; · iexact Ho
  isplitl [H0]; · iexact H0
  isplitl [H1]; · iexact H1
  isplitl [H2]; · iexact H2
  isplitl [H3]; · iexact H3
  isplitl [H4]; · iexact H4
  iexact H5

/-! ## The run -/

set_option backward.isDefEq.respectTransparency.types false in
/-- Every weakly fair execution of @main terminates; every final state has every array of the pipeline at what the
    library computes from the proof data, and every semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- The argument arrays, unchanged. -/
theorem args_of (r) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).1 2).trans (((dats m 0 c).arrAt_in 2 rfl _).trans ((A_eq m c 2).trans (V_arg0 m c))),
   ((h c).1 3).trans (((dats m 0 c).arrAt_in 3 rfl _).trans ((A_eq m c 3).trans (V_arg1 m c))),
   ((h c).1 4).trans (((dats m 0 c).arrAt_in 4 rfl _).trans ((A_eq m c 4).trans (V_arg2 m c)))⟩

/-- The program runs, its arguments unchanged, the machine quiescent. -/
theorem framed : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨args_of m r h.1, h.2⟩) (run_main m ρ)

end Cert.KernelIdeal
-- ==== Proof.Frames.lean ====
module

public import proofs.«01_k».proof.Defs
public import proofs.«01_k».proof.Proof.Ker.Run
public import proofs.«01_k».proof.Proof.Ide.Run
public import proofs.«01_k».proof.Proof.Gen.ReferenceIdeal
public import proofs.«01_k».proof.Proof.Gen.ReferenceIdeal.Run
public import Idealize.ShloMosaic.Adequacy
public import Idealize.ShloMosaic.Init

/-! # The frames, and the table of names -/

@[expose] public section

noncomputable section

namespace Cert.Proof

open Idealize.ShloMosaic Idealize.SL.Sem

/-- Each printed constant's name is in the table at its value. -/
theorem names : Cert.preserves_Kernel_KernelIdeal :=
  ⟨IdealRules.named_const.statement _ _ _ _ _ (by simp [Cert.KernelIdeal.κ]),
   IdealRules.named_const.statement _ _ _ _ _ (by simp [Cert.KernelIdeal.κ]),
   IdealRules.named_const.statement _ _ _ _ _ (by simp [Cert.KernelIdeal.κ]),
   IdealRules.named_const.statement _ _ _ _ _ (by simp [Cert.KernelIdeal.κ]),
   IdealRules.named_const.statement _ _ _ _ _ (by simp [Cert.KernelIdeal.κ])⟩

theorem kernel_frame : Cert.quiescent_Kernel (hKernel := Cert.Kernel.Gen.facts) :=
  fun m g _ => Cert.Kernel.framed (F := Bits) m g

theorem ideal_frame : Cert.quiescent_KernelIdeal (hKernelIdeal := Cert.KernelIdeal.Gen.facts) :=
  fun m g _ => Cert.KernelIdeal.framed (F := Ideal) m g

theorem reference_frame : Cert.quiescent_ReferenceIdeal (hReferenceIdeal := Cert.ReferenceIdeal.Gen.facts) :=
  fun m g _ => (θ_run _ _ _).mono (fun r h => ⟨fun c => (h c).2, sem_eq_zero_of_no_sems (by decide) r.2⟩)
    (Cert.ReferenceIdeal.Value.run (F := Ideal) m g)

end Cert.Proof

end
-- ==== Proof.Val.Scalar.lean ====
module

public import Idealize.ShloMosaic.PureOps.Ideal

/-! # One block of keys of one query, over the extended reals

A query meets its keys from the last to the first. Below `z s` is the score of key `s` in base-2 units, `p s` its
base-2 softplus, `Q` the number of keys the query may see. -/

@[expose] public section

noncomputable section

namespace Cert.Val

open Idealize.ShloMosaic
open scoped BigOperators

/-- The base-2 softplus of a real. -/
def sp (z : ℝ) : ℝ := Real.log (1 + (2 : ℝ) ^ z) * (Real.log 2)⁻¹

/-- The base-2 softplus as the kernel computes it. -/
def spE (z : EReal) : EReal := max z (Ideal.log (1 + Ideal.exp2 z) * (((Real.log 2)⁻¹ : ℝ) : EReal))

theorem le_sp (z : ℝ) : z ≤ sp z := by
  have h2 : 0 < Real.log 2 := Real.log_pos one_lt_two
  have h : z * Real.log 2 ≤ Real.log (1 + (2 : ℝ) ^ z) := by
    rw [← Real.log_rpow two_pos]
    exact Real.log_le_log (Real.rpow_pos_of_pos two_pos z) (by linarith)
  unfold sp
  calc z = z * Real.log 2 * (Real.log 2)⁻¹ := by field_simp
    _ ≤ _ := mul_le_mul_of_nonneg_right h (inv_nonneg.mpr h2.le)

theorem spE_coe (z : ℝ) : spE (z : EReal) = (sp z : EReal) := by
  have hp : (0 : ℝ) < 1 + (2 : ℝ) ^ z := by have := Real.rpow_pos_of_pos two_pos z; linarith
  have e : Ideal.log (1 + Ideal.exp2 (z : EReal)) * (((Real.log 2)⁻¹ : ℝ) : EReal) = (sp z : EReal) := by
    rw [Ideal.exp2_coe, ← EReal.coe_one, ← EReal.coe_add, Ideal.log_coe]
    change (if 1 + (2 : ℝ) ^ z ≤ 0 then (⊥ : EReal) else _) * _ = _
    rw [if_neg (not_le.mpr hp), ← EReal.coe_mul]; rfl
  rw [spE, e]; exact max_eq_right (EReal.coe_le_coe_iff.mpr (le_sp z))

theorem spE_bot : spE ⊥ = 0 := by
  have e : Ideal.log (1 + Ideal.exp2 (⊥ : EReal)) = 0 := by
    rw [Ideal.exp2_bot, add_zero, ← EReal.coe_one, Ideal.log_coe]
    simp
  rw [spE, e, zero_mul]; exact max_eq_right bot_le

/-- A sum over the rows of a block, where only rows from `r₀` whose key comes before `e` count. -/
theorem sum_rows {M : Type} [AddCommMonoid M] (N b e r₀ : ℕ) (hbe : b ≤ e) (he : e ≤ b + N) (f : ℕ → M) :
    (∑ r : Fin N, if r₀ ≤ r.val ∧ b + r.val < e then f (b + r.val) else 0) = ∑ s ∈ Finset.Ico (b + r₀) e, f s := by
  rw [Fin.sum_univ_eq_sum_range (fun r => if r₀ ≤ r ∧ b + r < e then f (b + r) else 0) N, ← Finset.sum_filter]
  refine Finset.sum_nbij' (fun r => b + r) (fun s => s - b) ?_ ?_ ?_ ?_ ?_
  · intro r hr; simp only [Finset.mem_filter, Finset.mem_range, Finset.mem_Ico] at hr ⊢; omega
  · intro r hr; simp only [Finset.mem_filter, Finset.mem_range, Finset.mem_Ico] at hr ⊢; omega
  · intro r hr; simp
  · intro s hs; simp only [Finset.mem_Ico] at hs; omega
  · intro r hr; rfl

/-! ## Extended reals that are not negative -/

theorem ne_bot_of_nonneg {a : EReal} (h : 0 ≤ a) : a ≠ ⊥ := fun e => by subst e; exact absurd h (by simp)

theorem neg_add_nonneg {a b : EReal} (ha : 0 ≤ a) (hb : 0 ≤ b) : -(a + b) = -a - b :=
  EReal.neg_add (Or.inl (ne_bot_of_nonneg ha)) (Or.inr (ne_bot_of_nonneg hb))

theorem sub_sub_nonneg {a b : EReal} (x : EReal) (ha : 0 ≤ a) (hb : 0 ≤ b) : x - a - b = x - (a + b) := by
  rw [sub_eq_add_neg x (a + b), neg_add_nonneg ha hb]
  simp only [sub_eq_add_neg, add_assoc]

theorem sp_nonneg (z : ℝ) : 0 ≤ sp z := by
  have := Real.rpow_pos_of_pos two_pos z
  exact mul_nonneg (Real.log_nonneg (by linarith)) (inv_nonneg.mpr (Real.log_pos one_lt_two).le)

theorem spE_top : spE ⊤ = ⊤ := by rw [spE]; exact max_eq_left le_top

theorem spE_nonneg (z : EReal) : 0 ≤ spE z := by
  induction z using EReal.rec with
  | bot => rw [spE_bot]
  | top => rw [spE_top]; exact le_top
  | coe z => rw [spE_coe]; exact EReal.coe_nonneg.mpr (sp_nonneg z)

section Block

variable (z : ℕ → EReal) (Q : ℕ)

/-- What a key's weight loses to the keys between it and the query. -/
def rest (s : ℕ) : EReal := ∑ s' ∈ Finset.Ico (s + 1) Q, spE (z s')
/-- A key's weight. -/
def weight (s : ℕ) : EReal := Ideal.exp2 (z s - spE (z s) - rest z Q s)

theorem sum_nonneg_spE (s : Finset ℕ) : 0 ≤ ∑ i ∈ s, spE (z i) := Finset.sum_nonneg fun i _ => spE_nonneg (z i)

variable (N b e : ℕ) (hbe : b ≤ e) (he : e ≤ b + N) (heQ : e ≤ Q) (y : Fin N → EReal)
  (hy : ∀ r : Fin N, y r = if b + r.val < e then z (b + r.val) else ⊥)

include hy in
theorem spE_row (r : Fin N) : spE (y r) = if b + r.val < e then spE (z (b + r.val)) else 0 := by
  rw [hy r]; split
  · rfl
  · exact spE_bot

include hy hbe he in
/-- The sum over the later rows. -/
theorem inner_row (r : Fin N) :
    (∑ r' : Fin N, (if r.val < r'.val then (1 : EReal) else 0) * spE (y r'))
      = ∑ s ∈ Finset.Ico (b + (r.val + 1)) e, spE (z s) := by
  rw [← sum_rows N b e (r.val + 1) hbe he (fun s => spE (z s))]
  refine Finset.sum_congr rfl fun r' _ => ?_
  rw [spE_row z N b e y hy r']
  by_cases h1 : r.val < r'.val <;> by_cases h2 : b + r'.val < e <;> simp [h1, h2, Nat.succ_le_iff]

include hy hbe he in
/-- The sum over all rows. -/
theorem total_row (h0 : 0 < N) :
    (∑ r' : Fin N, (if (⟨0, h0⟩ : Fin N).val < r'.val then (1 : EReal) else 0) * spE (y r')) + spE (y ⟨0, h0⟩)
      = ∑ s ∈ Finset.Ico b e, spE (z s) := by
  rw [inner_row z N b e hbe he y hy, spE_row z N b e y hy]
  by_cases h : b < e
  · rw [if_pos (by simpa using h), Finset.sum_eq_sum_Ico_succ_bot h]
    simp [add_comm]
  · have : e = b := by omega
    subst this; simp

include hy hbe he heQ in
/-- A row's weight. -/
theorem weight_row (r : Fin N) :
    Ideal.exp2 (y r - spE (y r) - (∑ r' : Fin N, (if r.val < r'.val then (1 : EReal) else 0) * spE (y r'))
        - ∑ s ∈ Finset.Ico e Q, spE (z s))
      = if b + r.val < e then weight z Q (b + r.val) else 0 := by
  rw [inner_row z N b e hbe he y hy, spE_row z N b e y hy, hy r]
  by_cases h : b + r.val < e
  · rw [if_pos h, if_pos h, if_pos h, sub_sub_nonneg _ (sum_nonneg_spE z _) (sum_nonneg_spE z _), weight, rest,
      ← Finset.sum_Ico_consecutive _ (show b + r.val + 1 ≤ e by omega) heQ, add_assoc]
  · rw [if_neg h, if_neg h, if_neg h]; simp

include hbe he in
/-- The block's weighted values. -/
theorem values_row (v : ℕ → EReal) (w : Fin N → EReal) (W : ℕ → EReal)
    (hw : ∀ r : Fin N, w r = if b + r.val < e then W (b + r.val) else 0) :
    ∑ r : Fin N, v (b + r.val) * w r = ∑ s ∈ Finset.Ico b e, v s * W s := by
  rw [← Nat.add_zero b, ← sum_rows N b e 0 hbe he (fun s => v s * W s)]
  refine Finset.sum_congr rfl fun r _ => ?_
  rw [hw r]; by_cases h : b + r.val < e <;> simp [h]

end Block

end Cert.Val
-- ==== Proof.Val.Ops.lean ====
module

public import proofs.«01_k».proof.Proof.Val.Scalar
public import proofs.«01_k».proof.Proof.Stick.Model
public import Idealize.ShloMosaic.Lib.IdealHost
public import Idealize.ShloMosaic.Lib.WordCmp

/-! # The kernel's tensor operations over the extended reals, read at an index -/

@[expose] public section

noncomputable section

namespace Cert.Val

open Idealize.ShloMosaic Idealize.SL.Sem Cert.Stick
open scoped BigOperators

/-- The five constants at their named values. -/
def KI : Consts Ideal := ⟨⊥, ⊤, ⊤, ⊤, (((Real.log 2)⁻¹ : ℝ) : EReal)⟩

theorem and_one : ∀ a b : BitVec 1, IntOp.andi a b = 1 ↔ a = 1 ∧ b = 1 := by decide

theorem beq_one {w : Nat} (a b : BitVec w) : BitVec.ofBool (a == b) = 1#1 ↔ a = b := by
  cases h : a == b
  · exact ⟨fun e => absurd e (by decide), fun e => by simp [e] at h⟩
  · exact ⟨fun _ => by simpa using h, fun _ => rfl⟩

theorem sel_def {α : Type} (c : BitVec 1) (u v : α) : Scalar.select c u v = if c = 1 then u else v := rfl

/-- A select by a signed comparison of two small numbers. -/
theorem select_lt {α : Type} {a b : ℕ} (ha : a < 2 ^ 31) (hb : b < 2 ^ 31) (u v : α) :
    Scalar.select (IntOp.cmpi .slt (BitVec.ofNat 32 a) (BitVec.ofNat 32 b)) u v = if a < b then u else v := by
  rw [sel_def]; exact if_congr (WordCmp.cmpi_slt_ofNat_eq_one_iff ha hb) rfl rfl

theorem sp2_apply {s : Shape} (z : FVec Ideal s .f32) (j : s.Idx) : sp2 KI z j = spE (z j) := by
  unfold sp2 spE KI
  pointwise
  simp
  rfl

theorem score_apply (k : Vec Ideal T1x256x128 .bf16) (q : FVec Ideal T128x256 .bf16) (r : Fin 256) (x : Fin 256) :
    score k q (ix2 r x) = ∑ c : Fin 128, k (ix3 0 r c) * q (ix2 c x) := by
  unfold score
  pointwise

theorem scoreNear_apply (k : Vec Ideal T1x192x128 .bf16) (q : FVec Ideal T128x256 .bf16) (r : Fin 192) (x : Fin 256) :
    scoreNear k q (ix2 r x) = ∑ c : Fin 128, k (ix3 0 r c) * q (ix2 c x) := by
  unfold scoreNear
  pointwise

theorem inner_apply (l : Vec Ideal T256x256 .bf16) (s : FVec Ideal T256x256 .bf16) (r : Fin 256) (x : Fin 256) :
    Stick.inner l s (ix2 r x) = ∑ r' : Fin 256, l (ix2 r r') * s (ix2 r' x) := by
  unfold Stick.inner
  pointwise

theorem innerNear_apply (l : Vec Ideal T192x192 .bf16) (s : FVec Ideal T192x256 .bf16) (r : Fin 192) (x : Fin 256) :
    innerNear l s (ix2 r x) = ∑ r' : Fin 192, l (ix2 r r') * s (ix2 r' x) := by
  unfold innerNear
  pointwise

theorem qm_apply (hh : Nat) (q : Vec Ideal T1x128x256 .bf16) (c : Fin 128) (x : Fin 256) :
    qm hh q (ix2 c x) = if 64 * (hh % 2) ≤ c.val ∧ c.val < 64 * (hh % 2) + 64 then q (ix3 0 c x) else 0 := by
  unfold qm
  pointwise
  rw [sel_def]
  refine if_congr ?_ rfl rfl
  rw [and_one, show (1 : BitVec 1) = 1#1 from rfl, WordCmp.cmpi_sge_ofNat_eq_one_iff (by omega) (by omega), WordCmp.cmpi_slt_ofNat_eq_one_iff (by omega) (by omega)]

theorem fullTile_apply (a : FVec Ideal T128x256 .bf16) (b : FVec Ideal T128x128 .bf16) (r x : Fin 256) :
    fullTile a b (ix2 r x) = if h : r.val < 128 then a (ix2 ⟨r.val, h⟩ x)
      else if h' : x.val < 128 then 0 else b (ix2 ⟨r.val - 128, by omega⟩ ⟨x.val - 128, by omega⟩) := by
  unfold fullTile
  pointwise

theorem ownTop_apply (k : Vec Ideal T1x256x128 .bf16) (q : FVec Ideal T128x256 .bf16) (r : Fin 128) (x : Fin 256) :
    ownTop KI k q (ix2 r x) = if r.val < x.val then score k q (ix2 ⟨r.val, by omega⟩ x) else ⊥ := by
  unfold ownTop strict keyPos
  pointwise
  exact select_lt (by omega) (by omega) _ _

theorem ownBot_apply (k : Vec Ideal T1x256x128 .bf16) (q : FVec Ideal T128x256 .bf16) (r : Fin 128) (x : Fin 128) :
    ownBot KI k q (ix2 r x) = if r.val < x.val then score k q (ix2 ⟨128 + r.val, by omega⟩ ⟨128 + x.val, by omega⟩) else ⊥ := by
  unfold ownBot strict keyPos
  pointwise
  rw [select_lt (by omega) (by omega)]
  exact if_congr (by omega) rfl rfl

theorem farZ_apply (t : Fin 2) (ti : Nat) (j : BitVec 32) (k : Vec Ideal T1x256x128 .bf16) (q : FVec Ideal T128x256 .bf16) (r x : Fin 256) :
    farZ KI t ti keyPos j k q (ix2 r x) = if j = Scalar.subi (ownJ t ti) 1#32 ∧ 64 ≤ r.val then ⊥ else score k q (ix2 r x) := by
  unfold farZ keyPos
  pointwise
  rw [sel_def]
  refine if_congr ?_ rfl rfl
  rw [and_one, show (1 : BitVec 1) = 1#1 from rfl, WordCmp.cmpi_sge_ofNat_eq_one_iff (by omega) (by omega)]
  refine and_congr ?_ Iff.rfl
  show BitVec.ofBool (j == Scalar.subi (ownJ t ti) 1#32) = 1#1 ↔ _
  exact beq_one j _

/-! ## The diagonal block -/

section Own

variable (k : Vec Ideal T1x256x128 .bf16) (l : Vec Ideal T256x256 .bf16) (q : FVec Ideal T128x256 .bf16)

/-- The diagonal block's scores, a key that does not count at minus infinity. -/
def ownY (r x : Fin 256) : EReal := if r.val < x.val then score k q (ix2 r x) else ⊥

/-- Something of the two parts, put together, is that of the whole. -/
theorem own_full (f : Fin 256 → Fin 256 → EReal → EReal) (hf : ∀ r x, f r x ⊥ = 0) (r x : Fin 256)
    (a : FVec Ideal T128x256 .bf16) (b : FVec Ideal T128x128 .bf16)
    (ha : ∀ r x, a (ix2 r x) = f ⟨r.val, by omega⟩ x (ownTop KI k q (ix2 r x)))
    (hb : ∀ r x, b (ix2 r x) = f ⟨128 + r.val, by omega⟩ ⟨128 + x.val, by omega⟩ (ownBot KI k q (ix2 r x))) :
    fullTile a b (ix2 r x) = f r x (ownY k q r x) := by
  rw [fullTile_apply]
  split
  next h => rw [ha, ownTop_apply]; rfl
  next h =>
    split
    next h' => rw [ownY, if_neg (by omega), hf]
    next h' =>
      rw [hb, ownBot_apply, ownY]
      have e1 : (⟨128 + (r.val - 128), by omega⟩ : Fin 256) = r := Fin.ext (by show 128 + (r.val - 128) = r.val; omega)
      have e2 : (⟨128 + (x.val - 128), by omega⟩ : Fin 256) = x := Fin.ext (by show 128 + (x.val - 128) = x.val; omega)
      simp only [e1, e2]
      congr 1
      exact if_congr (by omega) rfl rfl

theorem ownInner_apply (r x : Fin 256) :
    ownInner KI k l q (ix2 r x) = ∑ r' : Fin 256, l (ix2 r r') * spE (ownY k q r' x) := by
  rw [ownInner, inner_apply]
  refine Finset.sum_congr rfl fun r' _ => ?_
  congr 1
  exact own_full k q (fun _ _ => spE) (fun _ _ => spE_bot) r' x _ _ (fun _ _ => sp2_apply _ _) (fun _ _ => sp2_apply _ _)

theorem ownTotal_apply (x : Fin 256) :
    ownTotal KI k l q (ix2 0 x) = (∑ r' : Fin 256, l (ix2 0 r') * spE (ownY k q r' x)) + spE (ownY k q 0 x) := by
  unfold ownTotal
  pointwise
  rw [sp2_apply, ownTop_apply]
  congr 1
  exact ownInner_apply k l q 0 x

theorem ownOut_apply (v : Vec Ideal T1x1x64x256 .bf16) (d : Fin 64) (x : Fin 256) :
    ownOut KI k l v q (ix2 d x) = ∑ r : Fin 256, v (ix4 0 0 d r) *
      Ideal.exp2 (ownY k q r x - spE (ownY k q r x) - ∑ r' : Fin 256, l (ix2 r r') * spE (ownY k q r' x)) := by
  unfold ownOut
  pointwise
  refine Finset.sum_congr rfl fun r _ => ?_
  congr 1
  refine own_full k q (fun r x y => Ideal.exp2 (y - spE y - ∑ r' : Fin 256, l (ix2 r r') * spE (ownY k q r' x)))
    (fun r x => by rw [EReal.bot_sub, EReal.bot_sub, Ideal.exp2_bot]) r x _ _ ?_ ?_
  · intro r x
    pointwise
    rw [sp2_apply, ← ownInner_apply]
    rfl
  · intro r x
    pointwise
    rw [sp2_apply, ← ownInner_apply]
    rfl

end Own

/-! ## The 192 keys before it -/

section Near

variable (k : Vec Ideal T1x192x128 .bf16) (l : Vec Ideal T192x192 .bf16) (q : FVec Ideal T128x256 .bf16)

theorem nearInner_apply (r : Fin 192) (x : Fin 256) :
    nearInner KI k l q (ix2 r x) = ∑ r' : Fin 192, l (ix2 r r') * spE (scoreNear k q (ix2 r' x)) := by
  rw [nearInner, innerNear_apply]
  refine Finset.sum_congr rfl fun r' _ => ?_
  congr 1
  exact sp2_apply _ _

theorem nearTotal_apply (x : Fin 256) :
    nearTotal KI k l q (ix2 0 x) = (∑ r' : Fin 192, l (ix2 0 r') * spE (scoreNear k q (ix2 r' x))) + spE (scoreNear k q (ix2 0 x)) := by
  unfold nearTotal
  pointwise
  rw [sp2_apply]
  congr 1
  exact nearInner_apply k l q 0 x

theorem own_pos : ∀ (t : Fin 2) (ti : Fin 8), Scalar.cmpi .sgt (ownJ t ti.val) 0#32 = 1 ↔ 0 < 8 * t.val + ti.val := by decide +kernel

theorem nearOut_apply (t : Fin 2) (ti : Fin 8) (v : Vec Ideal T1x1x64x256 .bf16) (s : FVec Ideal T1x256 .f32) (d : Fin 64) (x : Fin 256) :
    nearOut KI t ti.val k l v q s (ix2 d x) = ∑ r : Fin 192, v (ix4 0 0 d ⟨64 + r.val, by omega⟩) *
      Ideal.exp2 (scoreNear k q (ix2 r x) - spE (scoreNear k q (ix2 r x))
        - (∑ r' : Fin 192, l (ix2 r r') * spE (scoreNear k q (ix2 r' x)))
        - (if 0 < 8 * t.val + ti.val then s (ix2 0 x) else ⊤)) := by
  unfold nearOut
  pointwise
  refine Finset.sum_congr rfl fun r _ => ?_
  rw [sp2_apply, nearInner_apply, sel_def, if_congr (own_pos t ti) rfl rfl]
  rfl

end Near

/-! ## An earlier block -/

section Far

variable (z : FVec Ideal T256x256 .f32) (l : Vec Ideal T256x256 .bf16)

theorem farInner_apply (r x : Fin 256) :
    farInner KI z l (ix2 r x) = ∑ r' : Fin 256, l (ix2 r r') * spE (z (ix2 r' x)) := by
  rw [farInner, inner_apply]
  refine Finset.sum_congr rfl fun r' _ => ?_
  congr 1
  exact sp2_apply _ _

theorem farAcc_apply (s : Vec Ideal T1x1x1x256 .f32) (a : Vec Ideal T1x1x64x256 .f32) (v : Vec Ideal T1x1x64x256 .bf16)
    (d : Fin 64) (x : Fin 256) :
    farAcc KI z l s a v (ix4 0 0 d x) = a (ix4 0 0 d x) + ∑ r : Fin 256, v (ix4 0 0 d r) *
      Ideal.exp2 (z (ix2 r x) - spE (z (ix2 r x)) - (∑ r' : Fin 256, l (ix2 r r') * spE (z (ix2 r' x))) - s (ix4 0 0 0 x)) := by
  unfold farAcc
  pointwise
  congr 1
  refine Finset.sum_congr rfl fun r _ => ?_
  rw [sp2_apply, farInner_apply]
  rfl

theorem farSuf_apply (s : Vec Ideal T1x1x1x256 .f32) (x : Fin 256) :
    farSuf KI z l s (ix4 0 0 0 x) = s (ix4 0 0 0 x) +
      ((∑ r' : Fin 256, l (ix2 0 r') * spE (z (ix2 r' x))) + spE (z (ix2 0 x))) := by
  unfold farSuf
  pointwise
  rw [sp2_apply]
  congr 2
  exact farInner_apply z l 0 x

end Far

theorem acc_apply (e : Env Ideal) (t : Fin 2) (c : Nat) (d : Fin 64) (x : Fin 256) :
    e.acc KI t c (ix4 0 0 d x) = ownOut KI (e.k0 c) (e.l0 c) (e.v0 c) (e.qm c) (ix2 d x)
      + nearOut KI t (tl c) (e.k1 c) (e.l1 c) (e.v1 c) (e.qm c) (ownTotal KI (e.k0 c) (e.l0 c) (e.qm c)) (ix2 d x) := by
  unfold Env.acc
  pointwise

theorem suf_apply (e : Env Ideal) (c : Nat) (x : Fin 256) :
    e.suf KI c (ix4 0 0 0 x) = ownTotal KI (e.k0 c) (e.l0 c) (e.qm c) (ix2 0 x)
      + nearTotal KI (e.k1 c) (e.l1 c) (e.qm c) (ix2 0 x) := by
  unfold Env.suf
  pointwise

theorem outTile_apply (a : Fin 4 → Vec Ideal T1x1x64x256 .f32) (x e : Fin 256) :
    outTile (a 0) (a 1) (a 2) (a 3) (ix3 0 x e) = a ⟨e.val / 64, by omega⟩ (ix4 0 0 ⟨e.val % 64, by omega⟩ x) := by
  unfold outTile
  pointwise
  have key : ∀ (n : Fin 4) (d : Fin 64), e.val / 64 = n.val → e.val % 64 = d.val →
      a ⟨e.val / 64, by omega⟩ (ix4 0 0 ⟨e.val % 64, by omega⟩ x) = a n (ix4 0 0 d x) := by
    intro n d hn hd
    have e1 : (⟨e.val / 64, by omega⟩ : Fin 4) = n := Fin.ext hn
    have e2 : (⟨e.val % 64, by omega⟩ : Fin 64) = d := Fin.ext hd
    rw [e1, e2]
  by_cases h1 : e.val < 64
  · rw [dif_pos h1]
    exact (key ⟨0, by omega⟩ ⟨e.val, h1⟩ (by show _ = 0; omega) (by show _ = e.val; omega)).symm
  · rw [dif_neg h1]
    by_cases h2 : e.val - 64 < 64
    · rw [dif_pos h2]
      exact (key ⟨1, by omega⟩ ⟨e.val - 64, h2⟩ (by show _ = 1; omega) (by show _ = e.val - 64; omega)).symm
    · rw [dif_neg h2]
      by_cases h3 : e.val - 64 - 64 < 64
      · rw [dif_pos h3]
        exact (key ⟨2, by omega⟩ ⟨e.val - 64 - 64, h3⟩ (by show _ = 2; omega) (by show _ = e.val - 64 - 64; omega)).symm
      · rw [dif_neg h3]
        exact (key ⟨3, by omega⟩ ⟨e.val - 64 - 64 - 64, by omega⟩ (by show _ = 3; omega) (by show _ = e.val - 64 - 64 - 64; omega)).symm

end Cert.Val
-- ==== Proof.Val.Read.lean ====
module

public import proofs.«01_k».proof.Proof.Val.Ops

/-! # The loads of one grid point, and its scores, at a key's position -/

@[expose] public section

noncomputable section

namespace Cert.Val

open Idealize.ShloMosaic Idealize.SL.Sem Cert.Stick
open scoped BigOperators

/-- A key's row. -/
def keyRow (s : ℕ) : Fin 4096 := ⟨s % 4096, Nat.mod_lt _ (by decide)⟩
/-- Channel `c` of head `hh`. -/
def chan (hh : Fin 4) (c : Fin 64) : Fin 256 := ⟨64 * hh.val + c.val, by omega⟩

variable (I : In Ideal) (t : Fin 2) (ti : Fin 8) (hh : Fin 4)

/-- The score of key `s` for the query in column `X` of the block. -/
def zE (X : Fin 2048) (s : ℕ) : EReal := ∑ c : Fin 64, I.ks (ix3 0 (keyRow s) (chan hh c)) * I.qt (ix3 0 (chan hh c) X)
/-- Channel `d` of key `s`'s value. -/
def vE (d : Fin 64) (s : ℕ) : EReal :=
  I.vt (ix4 0 ⟨s / 256 % 16, Nat.mod_lt _ (by decide)⟩ (chan hh d) ⟨s % 256, Nat.mod_lt _ (by decide)⟩)

theorem tl_unit : tl (4 * ti.val + hh.val) = ti.val := by unfold tl; omega
theorem hd_unit : hd (4 * ti.val + hh.val) = hh.val := by unfold hd; omega

/-- A query column's place in the block. -/
def col (x : Fin 256) : Fin 2048 := ⟨256 * ti.val + x.val, by omega⟩
/-- A lane's channel among the 128 that hold a head. -/
def lane (c : Fin 128) : Fin 256 := ⟨128 * (hh.val / 2) + c.val, by omega⟩

theorem q_read (c : Fin 128) (x : Fin 256) : I.q (4 * ti.val + hh.val) (ix3 0 c x) = I.qt (ix3 0 (lane hh c) (col ti x)) := by
  have h1 := tl_unit ti hh; have h2 := hd_unit ti hh
  refine congrArg I.qt (funext fun a => Fin.ext ?_)
  match a with
  | 0 => rfl
  | 1 => change 128 * (hd (4 * ti.val + hh.val) / 2) + 1 * c.val = 128 * (hh.val / 2) + c.val; rw [h2]; omega
  | 2 => change 256 * tl (4 * ti.val + hh.val) + 1 * x.val = 256 * ti.val + x.val; rw [h1]; omega

/-- Keys read from a row. -/
theorem key_read {N : ℕ} (j : BitVec 32) (h4 : ℕ) (hh4 : h4 = hh.val) (b : ℕ) (hb : (Scalar.indexCast j).toNat = b) (r : Fin N)
    (c : Fin 128) (hN : b + r.val < 4096) (i : (⟨3, ![1, 4096, 256]⟩ : Shape).Idx)
    (hi : ∀ a, (i a).val = offK j h4 a + 1 * (![0, r.val, c.val] : Fin 3 → ℕ) a) :
    i = ix3 0 (keyRow (b + r.val)) (lane hh c) := by
  subst hh4
  refine funext fun a => Fin.ext ?_
  rw [hi a]; unfold offK; rw [hb]
  match a with
  | 0 => rfl
  | 1 => change b + 1 * r.val = (b + r.val) % 4096; omega
  | 2 => change 128 * (hh.val / 2) + 1 * c.val = 128 * (hh.val / 2) + c.val; omega

theorem k0_read (r : Fin 256) (c : Fin 128) :
    I.k0 t (4 * ti.val + hh.val) (ix3 0 r c) = I.ks (ix3 0 (keyRow (256 * (8 * t.val + ti.val) + r.val)) (lane hh c)) :=
  congrArg I.ks (key_read hh _ _ (hd_unit ti hh) _ (by rw [tl_unit ti hh]; exact rowK_own t ti) r c (by omega) _
    (fun a => match a with | 0 => rfl | 1 => rfl | 2 => rfl))

theorem k1_read (r : Fin 192) (c : Fin 128) :
    I.k1 t (4 * ti.val + hh.val) (ix3 0 r c)
      = I.ks (ix3 0 (keyRow (256 * (8 * t.val + ti.val - 1) + 64 + r.val)) (lane hh c)) :=
  congrArg I.ks (key_read hh _ _ (hd_unit ti hh) _ (by rw [tl_unit ti hh]; exact rowN_near t ti) r c (by omega) _
    (fun a => match a with | 0 => rfl | 1 => rfl | 2 => rfl))

theorem rowK_nat : ∀ n : Fin 16, (Scalar.indexCast (rowK (BitVec.ofNat 32 n.val))).toNat = 256 * n.val := by decide +kernel
theorem tile_nat : ∀ n : Fin 16, (Scalar.indexCast (BitVec.ofNat 32 n.val)).toNat = n.val := by decide +kernel

theorem kF_read (n : Fin 16) (r : Fin 256) (c : Fin 128) :
    I.kF n hh (ix3 0 r c) = I.ks (ix3 0 (keyRow (256 * n.val + r.val)) (lane hh c)) :=
  congrArg I.ks (key_read hh _ _ rfl _ (rowK_nat n) r c (by omega) _
    (fun a => match a with | 0 => rfl | 1 => rfl | 2 => rfl))

/-- Values read from a tile. -/
theorem val_read (j : BitVec 32) (h4 : ℕ) (hh4 : h4 = hh.val) (b : ℕ) (hb : (Scalar.indexCast j).toNat = b) (hb16 : b < 16)
    (d : Fin 64) (r : Fin 256) (s : ℕ) (hs : s = 256 * b + r.val) (i : (⟨4, ![1, 16, 256, 256]⟩ : Shape).Idx)
    (hi : ∀ a, (i a).val = offV j h4 a + 1 * (![0, 0, d.val, r.val] : Fin 4 → ℕ) a) :
    I.vt i = vE I hh d s := by
  subst hh4
  refine congrArg I.vt (funext fun a => Fin.ext ?_)
  rw [hi a]; unfold offV; rw [hb]
  match a with
  | 0 => rfl
  | 1 => change b + 1 * 0 = s / 256 % 16; omega
  | 2 => change 64 * hh.val + 1 * d.val = 64 * hh.val + d.val; omega
  | 3 => change 0 + 1 * r.val = s % 256; omega

theorem v0_read (d : Fin 64) (r : Fin 256) :
    I.v0 t (4 * ti.val + hh.val) (ix4 0 0 d r) = vE I hh d (256 * (8 * t.val + ti.val) + r.val) :=
  val_read I hh _ _ (hd_unit ti hh) _ (by rw [tl_unit ti hh]; exact tile_own t ti) (by omega) d r _ rfl _
    (fun a => match a with | 0 => rfl | 1 => rfl | 2 => rfl | 3 => rfl)

theorem v1_read (d : Fin 64) (r : Fin 192) :
    I.v1 t (4 * ti.val + hh.val) (ix4 0 0 d ⟨64 + r.val, by omega⟩) = vE I hh d (256 * (8 * t.val + ti.val - 1) + 64 + r.val) :=
  val_read I hh _ _ (hd_unit ti hh) (8 * t.val + ti.val - 1) (by rw [tl_unit ti hh]; exact tile_near t ti) (by omega) d ⟨64 + r.val, by omega⟩ _
    (by show _ = _ + (64 + r.val); omega) _
    (fun a => match a with | 0 => rfl | 1 => rfl | 2 => rfl | 3 => rfl)

theorem vF_read (n : Fin 16) (d : Fin 64) (r : Fin 256) : I.vF n hh (ix4 0 0 d r) = vE I hh d (256 * n.val + r.val) :=
  val_read I hh _ _ rfl _ (tile_nat n) n.isLt d r _ rfl _
    (fun a => match a with | 0 => rfl | 1 => rfl | 2 => rfl | 3 => rfl)

theorem l_read (r r' : Fin 256) : I.l (ix2 r r') = I.later (ix2 r r') := by
  refine congrArg I.later (funext fun a => Fin.ext ?_)
  match a with
  | 0 => change 0 + 1 * r.val = r.val; omega
  | 1 => change 0 + 1 * r'.val = r'.val; omega

theorem lN_read (r r' : Fin 192) : I.lN (ix2 r r') = I.laterN (ix2 r r') := by
  refine congrArg I.laterN (funext fun a => Fin.ext ?_)
  match a with
  | 0 => change 0 + 1 * r.val = r.val; omega
  | 1 => change 0 + 1 * r'.val = r'.val; omega

/-- A sum over 128 lanes where one half counts. -/
theorem half_sum (p : ℕ) (hp : p < 2) (f g : Fin 128 → EReal) :
    (∑ c : Fin 128, f c * (if 64 * p ≤ c.val ∧ c.val < 64 * p + 64 then g c else 0))
      = ∑ c : Fin 64, f ⟨64 * p + c.val, by omega⟩ * g ⟨64 * p + c.val, by omega⟩ := by
  refine (Fin.sum_univ_add (a := 64) (b := 64)
    (fun c : Fin (64 + 64) => f c * (if 64 * p ≤ c.val ∧ c.val < 64 * p + 64 then g c else 0))).trans ?_
  have hp' : p = 0 ∨ p = 1 := by omega
  rcases hp' with rfl | rfl
  · rw [Finset.sum_eq_zero (s := Finset.univ) (f := fun i : Fin 64 => f (Fin.natAdd 64 i) * _), add_zero]
    · refine Finset.sum_congr rfl fun c _ => ?_
      have h : (Fin.castAdd 64 c : Fin 128) = ⟨64 * 0 + c.val, by omega⟩ := Fin.ext (by simp)
      rw [← h, if_pos ⟨by simp, by simp⟩]
    · intro c _
      rw [if_neg (by simp), mul_zero]
  · rw [Finset.sum_eq_zero (s := Finset.univ) (f := fun i : Fin 64 => f (Fin.castAdd 64 i) * _), zero_add]
    · refine Finset.sum_congr rfl fun c _ => ?_
      have h : (Fin.natAdd 64 c : Fin 128) = ⟨64 * 1 + c.val, by omega⟩ := Fin.ext (by simp; omega)
      rw [← h, if_pos ⟨by simp, by simp; omega⟩]
    · intro c _
      rw [if_neg (by simp), mul_zero]

/-- A head's score, summed over the 128 lanes that hold it. -/
theorem score_sum (s : ℕ) (x : Fin 256) (k : Fin 128 → EReal) (hk : ∀ c, k c = I.ks (ix3 0 (keyRow s) (lane hh c))) :
    (∑ c : Fin 128, k c * (I.env t).qm (4 * ti.val + hh.val) (ix2 c x)) = zE I hh (col ti x) s := by
  have e : ∀ c : Fin 128, (I.env t).qm (4 * ti.val + hh.val) (ix2 c x)
      = if 64 * (hh.val % 2) ≤ c.val ∧ c.val < 64 * (hh.val % 2) + 64 then I.qt (ix3 0 (lane hh c) (col ti x)) else 0 := by
    intro c
    rw [Env.qm, hd_unit ti hh, qm_apply]
    exact if_congr Iff.rfl (q_read I ti hh c x) rfl
  simp only [e, hk]
  rw [half_sum (hh.val % 2) (by omega)]
  refine Finset.sum_congr rfl fun c _ => ?_
  have h : lane hh ⟨64 * (hh.val % 2) + c.val, by omega⟩ = chan hh c :=
    Fin.ext (by show 128 * (hh.val / 2) + (64 * (hh.val % 2) + c.val) = 64 * hh.val + c.val; omega)
  rw [h]

end Cert.Val
-- ==== Proof.Val.Tile.lean ====
module

public import proofs.«01_k».proof.Proof.Val.Read

/-! # A tile of the output, over the extended reals

Each head of a tile meets its keys from the last to the first: the tile's own block, the 192 keys before it, the rest of
that block, then the blocks before. After every step the accumulator is the weighted sum of the values met so far and
the suffix is the sum of the softplus of their scores. -/

@[expose] public section

noncomputable section

namespace Cert.Val

open Idealize.ShloMosaic Idealize.SL.Sem Cert.Stick
open scoped BigOperators

/-- The tables are the ones the kernel builds, with a one at every later row. -/
structure Good (I : In Ideal) : Prop where
  later : ∀ r r' : Fin 256, I.later (ix2 r r') = if r.val < r'.val then (1 : EReal) else 0
  laterN : ∀ r r' : Fin 192, I.laterN (ix2 r r') = if r.val < r'.val then (1 : EReal) else 0

variable {I : In Ideal} (G : Good I) (t : Fin 2) (ti : Fin 8) (hh : Fin 4)

/-- The number of keys the query in column `x` of the tile may see. -/
def seen (x : Fin 256) : ℕ := 256 * (8 * t.val + ti.val) + x.val

/-- The keys' weights. -/
def wt (I : In Ideal) (x : Fin 256) (s : ℕ) : EReal := weight (zE I hh (col ti x)) (seen t ti x) s
/-- The softplus of the keys from `e` on. -/
def tail (I : In Ideal) (x : Fin 256) (e : ℕ) : EReal :=
  ∑ s ∈ Finset.Ico e (seen t ti x), spE (zE I hh (col ti x) s)
/-- The weighted values of the keys from `e` on. -/
def got (I : In Ideal) (x : Fin 256) (d : Fin 64) (e : ℕ) : EReal :=
  ∑ s ∈ Finset.Ico e (seen t ti x), vE I hh d s * wt t ti hh I x s

theorem tail_step (x : Fin 256) {b e : ℕ} (hbe : b ≤ e) (he : e ≤ seen t ti x) :
    tail t ti hh I x e + ∑ s ∈ Finset.Ico b e, spE (zE I hh (col ti x) s) = tail t ti hh I x b := by
  unfold tail
  rw [add_comm, Finset.sum_Ico_consecutive _ hbe he]

theorem got_step (x : Fin 256) (d : Fin 64) {b e : ℕ} (hbe : b ≤ e) (he : e ≤ seen t ti x) :
    got t ti hh I x d e + ∑ s ∈ Finset.Ico b e, vE I hh d s * wt t ti hh I x s = got t ti hh I x d b := by
  unfold got
  rw [add_comm, Finset.sum_Ico_consecutive _ hbe he]

/-! ## The own block -/

include G in
theorem own_row (x r : Fin 256) :
    ownY (I.k0 t (4 * ti.val + hh.val)) ((I.env t).qm (4 * ti.val + hh.val)) r x
      = if 256 * (8 * t.val + ti.val) + r.val < seen t ti x
        then zE I hh (col ti x) (256 * (8 * t.val + ti.val) + r.val) else ⊥ := by
  unfold ownY seen
  refine if_congr (by omega) ?_ rfl
  rw [score_apply, score_sum I t ti hh _ x _ (fun c => k0_read I t ti hh r c)]

include G in
theorem own_total (x : Fin 256) :
    ownTotal KI (I.k0 t (4 * ti.val + hh.val)) I.l ((I.env t).qm (4 * ti.val + hh.val)) (ix2 0 x)
      = tail t ti hh I x (256 * (8 * t.val + ti.val)) := by
  rw [ownTotal_apply]
  simp only [l_read, G.later]
  exact total_row (zE I hh (col ti x)) 256 _ _ (by unfold seen; omega) (by unfold seen; omega) _
    (own_row G t ti hh x) (by decide)

include G in
theorem own_out (x : Fin 256) (d : Fin 64) :
    ownOut KI (I.k0 t (4 * ti.val + hh.val)) I.l (I.v0 t (4 * ti.val + hh.val)) ((I.env t).qm (4 * ti.val + hh.val)) (ix2 d x)
      = got t ti hh I x d (256 * (8 * t.val + ti.val)) := by
  rw [ownOut_apply]
  simp only [l_read, G.later, v0_read]
  refine values_row 256 _ _ (by unfold seen; omega) (by unfold seen; omega) (vE I hh d) _ (wt t ti hh I x) fun r => ?_
  have h := weight_row (zE I hh (col ti x)) (seen t ti x) 256 (256 * (8 * t.val + ti.val)) (seen t ti x)
    (by unfold seen; omega) (by unfold seen; omega) le_rfl _ (own_row G t ti hh x) r
  rwa [Finset.Ico_self, Finset.sum_empty, sub_zero] at h

/-! ## The 192 keys before it -/

include G in
theorem near_row (hT : 0 < 8 * t.val + ti.val) (x : Fin 256) (r : Fin 192) :
    scoreNear (I.k1 t (4 * ti.val + hh.val)) ((I.env t).qm (4 * ti.val + hh.val)) (ix2 r x)
      = if 256 * (8 * t.val + ti.val - 1) + 64 + r.val < 256 * (8 * t.val + ti.val)
        then zE I hh (col ti x) (256 * (8 * t.val + ti.val - 1) + 64 + r.val) else ⊥ := by
  rw [if_pos (by omega), scoreNear_apply, score_sum I t ti hh _ x _ (fun c => k1_read I t ti hh r c)]

include G in
theorem near_total (hT : 0 < 8 * t.val + ti.val) (x : Fin 256) :
    nearTotal KI (I.k1 t (4 * ti.val + hh.val)) I.lN ((I.env t).qm (4 * ti.val + hh.val)) (ix2 0 x)
      = ∑ s ∈ Finset.Ico (256 * (8 * t.val + ti.val - 1) + 64) (256 * (8 * t.val + ti.val)),
          spE (zE I hh (col ti x) s) := by
  rw [nearTotal_apply]
  simp only [lN_read, G.laterN]
  exact total_row (zE I hh (col ti x)) 192 _ _ (by omega) (by omega) _ (near_row G t ti hh hT x) (by decide)

include G in
theorem near_out (hT : 0 < 8 * t.val + ti.val) (x : Fin 256) (d : Fin 64) (s : FVec Ideal T1x256 .f32)
    (hs : s (ix2 0 x) = tail t ti hh I x (256 * (8 * t.val + ti.val))) :
    nearOut KI t ti.val (I.k1 t (4 * ti.val + hh.val)) I.lN (I.v1 t (4 * ti.val + hh.val))
        ((I.env t).qm (4 * ti.val + hh.val)) s (ix2 d x)
      = ∑ s ∈ Finset.Ico (256 * (8 * t.val + ti.val - 1) + 64) (256 * (8 * t.val + ti.val)), vE I hh d s * wt t ti hh I x s := by
  rw [nearOut_apply]
  simp only [lN_read, G.laterN, v1_read, if_pos hT, hs]
  refine values_row 192 _ _ (by omega) (by omega) (vE I hh d) _ (wt t ti hh I x) fun r => ?_
  exact weight_row (zE I hh (col ti x)) (seen t ti x) 192 _ _ (by omega) (by omega) (by unfold seen; omega) _
    (near_row G t ti hh hT x) r

theorem near_none (hT : 8 * t.val + ti.val = 0) (x : Fin 256) (d : Fin 64) (k l q v s) :
    nearOut KI t ti.val k l v q s (ix2 d x) = 0 := by
  rw [nearOut_apply]
  refine Finset.sum_eq_zero fun r _ => ?_
  rw [if_neg (by omega), sub_eq_add_neg, EReal.neg_top, EReal.add_bot, Ideal.exp2_bot, mul_zero]

/-! ## The loop -/

/-- The first key met when `n` blocks are still to go. -/
def edge (n : ℕ) : ℕ := if n = 8 * t.val + ti.val then 256 * n - 192 else 256 * n

/-- What the tile holds when the keys from `e` on have been met. -/
def Met (e : ℕ) (L : Fin 4 → HSt Ideal) : Prop :=
  ∀ hh x, (L hh).1 (ix4 0 0 0 x) = tail t ti hh I x e ∧ ∀ d, (L hh).2 (ix4 0 0 d x) = got t ti hh I x d e

include G in
theorem start_acc (x : Fin 256) (d : Fin 64) :
    (start KI I t ti.val hh).2 (ix4 0 0 d x) = got t ti hh I x d (edge t ti (8 * t.val + ti.val)) := by
  show (I.env t).acc KI t (4 * ti.val + hh.val) (ix4 0 0 d x) = _
  rw [acc_apply, tl_unit]
  refine (congrArg₂ (· + ·) (own_out G t ti hh x d) rfl).trans ?_
  rw [edge, if_pos rfl]
  by_cases hT : 0 < 8 * t.val + ti.val
  · refine (congrArg₂ (· + ·) rfl (near_out G t ti hh hT x d _ (own_total G t ti hh x))).trans ?_
    rw [show 256 * (8 * t.val + ti.val) - 192 = 256 * (8 * t.val + ti.val - 1) + 64 by omega]
    exact got_step t ti hh x d (by omega) (by unfold seen; omega)
  · rw [near_none t ti (by omega), add_zero]
    rw [show 8 * t.val + ti.val = 0 by omega]

include G in
theorem start_met (hT : 0 < 8 * t.val + ti.val) : Met t ti (I := I) (edge t ti (8 * t.val + ti.val)) (start KI I t ti.val) := by
  intro hh x
  refine ⟨?_, start_acc G t ti hh x⟩
  show (I.env t).suf KI (4 * ti.val + hh.val) (ix4 0 0 0 x) = _
  rw [suf_apply]
  refine (congrArg₂ (· + ·) (own_total G t ti hh x) (near_total G t ti hh hT x)).trans ?_
  rw [edge, if_pos rfl, show 256 * (8 * t.val + ti.val) - 192 = 256 * (8 * t.val + ti.val - 1) + 64 by omega]
  exact tail_step t ti hh x (by omega) (by unfold seen; omega)

theorem word_last : ∀ (t : Fin 2) (ti : Fin 8) (n : Fin 16),
    (BitVec.ofNat 32 n.val = Scalar.subi (ownJ t ti.val) 1#32) ↔ n.val + 1 = 8 * t.val + ti.val := by decide +kernel

include G in
theorem far_row (n : Fin 16) (hn : n.val < 8 * t.val + ti.val) (x r : Fin 256) :
    I.zF KI t ti.val n hh (ix2 r x)
      = if 256 * n.val + r.val < edge t ti (n.val + 1)
        then zE I hh (col ti x) (256 * n.val + r.val) else ⊥ := by
  rw [In.zF, farZ_apply]
  by_cases h : n.val + 1 = 8 * t.val + ti.val
  · by_cases hr : 64 ≤ r.val
    · rw [if_pos ⟨(word_last t ti n).mpr h, hr⟩, if_neg (by rw [edge, if_pos h]; omega)]
    · rw [if_neg (fun e => hr e.2), if_pos (by rw [edge, if_pos h]; omega), score_apply,
        score_sum I t ti hh _ x _ (fun c => kF_read I hh n r c)]
  · rw [if_neg (fun e => h ((word_last t ti n).mp e.1)), if_pos (by rw [edge, if_neg h]; omega), score_apply,
        score_sum I t ti hh _ x _ (fun c => kF_read I hh n r c)]

include G in
theorem step_met (n : Fin 16) (hn : n.val < 8 * t.val + ti.val) (L : Fin 4 → HSt Ideal)
    (hL : Met t ti (I := I) (edge t ti (n.val + 1)) L) :
    Met t ti (I := I) (edge t ti n.val) (fun hh => hStep KI I t ti.val n hh (L hh)) := by
  intro hh x
  have e0 : edge t ti n.val = 256 * n.val := by rw [edge, if_neg (by omega)]
  have h1 : 256 * n.val ≤ edge t ti (n.val + 1) := by unfold edge; split <;> omega
  have h2 : edge t ti (n.val + 1) ≤ 256 * n.val + 256 := by unfold edge; split <;> omega
  have h3 : edge t ti (n.val + 1) ≤ seen t ti x := by unfold edge seen; split <;> omega
  rw [e0]
  constructor
  · show farSuf KI (I.zF KI t ti.val n hh) I.l (L hh).1 (ix4 0 0 0 x) = _
    rw [farSuf_apply, (hL hh x).1]
    simp only [l_read, G.later]
    refine (congrArg₂ (· + ·) rfl (total_row (zE I hh (col ti x)) 256 _ _ h1 h2 _ (far_row G t ti hh n hn x) (by decide))).trans ?_
    exact tail_step t ti hh x h1 h3
  · intro d
    show farAcc KI (I.zF KI t ti.val n hh) I.l (L hh).1 (L hh).2 (I.vF n hh) (ix4 0 0 d x) = _
    rw [farAcc_apply, (hL hh x).1, (hL hh x).2 d]
    simp only [l_read, G.later, vF_read]
    refine (congrArg₂ (· + ·) rfl (values_row 256 _ _ h1 h2 (vE I hh d) _ (wt t ti hh I x) fun r =>
      weight_row (zE I hh (col ti x)) (seen t ti x) 256 _ _ h1 h2 h3 _ (far_row G t ti hh n hn x) r)).trans ?_
    exact got_step t ti hh x d h1 h3

theorem goes_on : ∀ (n : Fin 16) (m : Ideal .f32), goes KI n.val m := by
  intro n m
  have h : ∀ n : Fin 16, Scalar.cmpi .sge (BitVec.ofNat 32 n.val) 0#32 = 1#1 := by decide +kernel
  have h' : Scalar.cmpf .ole m KI.cutoff = 1#1 := by
    show BitVec.ofBool _ = 1#1
    simp [KI]
  unfold goes
  rw [h n, h']; decide

include G in
theorem loop_met : ∀ (n : ℕ) (m : Ideal .f32) (L : Fin 4 → HSt Ideal), n ≤ 8 * t.val + ti.val →
    Met t ti (I := I) (edge t ti n) L → 0 < 8 * t.val + ti.val → Met t ti (I := I) 0 (loopRun KI I t ti.val n m L)
  | 0, m, L, _, hL, hT => by
    rw [edge, if_neg (by omega)] at hL
    exact hL
  | n + 1, m, L, hn, hL, hT => by
    have e : (Fin.ofNat 16 n).val = n := Nat.mod_eq_of_lt (by omega)
    have g : goes KI n m := by have := goes_on (Fin.ofNat 16 n) m; rwa [e] at this
    rw [loopRun, if_pos g]
    refine loop_met n _ _ (by omega) ?_ hT
    have h := step_met G t ti (Fin.ofNat 16 n) (by omega) L (by rw [e]; exact hL)
    rwa [e] at h

include G in
/-- A tile of the output. -/
theorem final_acc (x : Fin 256) (d : Fin 64) : (final KI I t ti.val hh).2 (ix4 0 0 d x) = got t ti hh I x d 0 := by
  unfold final
  by_cases hT : 0 < 8 * t.val + ti.val
  · exact (loop_met G t ti _ _ _ le_rfl (start_met G t ti hT) hT hh x).2 d
  · have h := start_acc G t ti hh x d
    rw [edge, if_pos rfl] at h
    have h0 : 8 * t.val + ti.val = 0 := by omega
    rw [h0] at h ⊢
    exact h

include G in
/-- The output block. -/
theorem outBlock_apply (X : Fin 2048) (e : Fin 256) :
    outBlock KI I t (ix3 0 X e) = got t ⟨X.val / 256, by omega⟩ ⟨e.val / 64, by omega⟩ I ⟨X.val % 256, by omega⟩ ⟨e.val % 64, by omega⟩ 0 := by
  rw [← final_acc G]
  exact outTile_apply (fun hh => (final KI I t (X.val / 256) hh).2) ⟨X.val % 256, by omega⟩ e

end Cert.Val
-- ==== Proof.Val.Spec.lean ====
module

public import proofs.«01_k».proof.Proof.Val.Tile

/-! # Stick-breaking attention of the whole arrays, over the extended reals -/

@[expose] public section

noncomputable section

namespace Cert.Val

open Idealize.ShloMosaic
open scoped BigOperators

/-- Transposed queries, keys and transposed values. -/
abbrev ArgQ := (⟨3, ![8, 1024, 4096]⟩ : Shape).Idx → EReal
abbrev ArgK := (⟨3, ![8, 4096, 1024]⟩ : Shape).Idx → EReal
abbrev ArgV := (⟨4, ![8, 16, 1024, 256]⟩ : Shape).Idx → EReal

/-- Channel `c` of head `h`. -/
def ch (h : Fin 16) (c : Fin 64) : Fin 1024 := ⟨64 * h.val + c.val, by omega⟩

/-- The score of key `s` for query `X`. -/
def zG (q : ArgQ) (k : ArgK) (b : Fin 8) (h : Fin 16) (X : Fin 4096) (s : ℕ) : EReal :=
  ∑ c : Fin 64, k (ix3 b (keyRow s) (ch h c)) * q (ix3 b (ch h c) X)
/-- Channel `e` of key `s`'s value. -/
def vG (v : ArgV) (b : Fin 8) (e : Fin 1024) (s : ℕ) : EReal :=
  v (ix4 b ⟨s / 256 % 16, Nat.mod_lt _ (by decide)⟩ e ⟨s % 256, Nat.mod_lt _ (by decide)⟩)

/-- The head of a channel. -/
def headOf (e : Fin 1024) : Fin 16 := ⟨e.val / 64, by omega⟩

/-- The attention of query `X` in channel `e`. -/
def attn (q : ArgQ) (k : ArgK) (v : ArgV) (b : Fin 8) (X : Fin 4096) (e : Fin 1024) : EReal :=
  ∑ s ∈ Finset.Ico 0 X.val, vG v b e s * weight (zG q k b (headOf e) X) X.val s

/-- The whole result. -/
def attnAll (q : ArgQ) (k : ArgK) (v : ArgV) : (⟨3, ![8, 4096, 1024]⟩ : Shape).Idx → EReal :=
  fun i => attn q k v (i 0) (i 1) (i 2)

end Cert.Val
-- ==== Proof.Val.Mem.lean ====
module

public import proofs.«01_k».proof.Proof.Val.Spec
public import proofs.«01_k».proof.Proof.Ide.Run
public import Idealize.ShloMosaic.Lib.Pipeline.ValueKit

/-! # The kernel's result array, over the extended reals -/

@[expose] public section

noncomputable section

namespace Cert.KernelIdeal

open Idealize.ShloMosaic
open Idealize.ShloMosaic.TcCoe Idealize.ShloMosaic.Tactic
open Idealize.SL Idealize.SL.RA Idealize.SL.Sem
open Cert.KernelIdeal.Gen Cert.Val
open scoped BigOperators

variable (m : (ℓ : Loc nD τ sig) → Buf (Elt Ideal) ℓ) (c : Dev nD) (t : Fin (cfg0 (F := Ideal)).N)

theorem index0 : ∀ t : Fin grid0.N, win0_0.index t = ![0, 0] := by decide +kernel
theorem index1 : ∀ t : Fin grid0.N, win0_1.index t = ![0, 0] := by decide +kernel
theorem index2 : ∀ t : Fin grid0.N, win0_2.index t = ![(grid0.coords t 0).val, (grid0.coords t 1).val, (grid0.coords t 2).val] := by decide +kernel
theorem index3 : ∀ t : Fin grid0.N, win0_3.index t = ![(grid0.coords t 0).val, 0, (grid0.coords t 1).val] := by decide +kernel
theorem index4 : ∀ t : Fin grid0.N, win0_4.index t = ![(grid0.coords t 0).val, 0, (grid0.coords t 1).val, 0] := by decide +kernel
theorem index5 : ∀ t : Fin grid0.N, win0_5.index t = ![(grid0.coords t 0).val, (grid0.coords t 2).val, (grid0.coords t 1).val] := by decide +kernel

/-- A grid point's three coordinates. -/
def g0 (t : Fin grid0.N) : Fin 8 := grid0.coords t 0
def g1 (t : Fin grid0.N) : Fin 4 := grid0.coords t 1
def g2 (t : Fin grid0.N) : Fin 2 := grid0.coords t 2

theorem consts_eq : (consts : Stick.Consts Ideal) = KI := rfl

/-! ## The tables -/

theorem V_v5 (r r' : Fin 256) : V m c main_v5 (ix2 r r') = if r.val < r'.val then (1 : EReal) else 0 := by
  have e : V m c main_v5 = select (cmpi .slt (iotaInDim S256x256 32 0) (iotaInDim S256x256 32 1))
      (broadcastInDim S256x256 ![] bcast_S_S256x256 (constant (F := Ideal) S_ .bf16 0x3F80#16))
      (broadcastInDim S256x256 ![] bcast_S_S256x256 (constant (F := Ideal) S_ .bf16 0x0000#16)) := by
    unfold V hostOps0
    after_results
  rw [e]
  show Scalar.select (IntOp.cmpi .slt (BitVec.ofNat 32 r.val) (BitVec.ofNat 32 r'.val)) (Ideal.ofBits .bf16 0x3F80#16)
    (Ideal.ofBits .bf16 0x0000#16) = _
  rw [select_lt (by omega) (by omega), Ideal.ofBits_one_bf16, Ideal.ofBits_zero_bf16]

theorem V_v11 (r r' : Fin 192) : V m c main_v11 (ix2 r r') = if r.val < r'.val then (1 : EReal) else 0 := by
  have e : V m c main_v11 = select (cmpi .slt (iotaInDim S192x192 32 0) (iotaInDim S192x192 32 1))
      (broadcastInDim S192x192 ![] bcast_S_S192x192 (constant (F := Ideal) S_ .bf16 0x3F80#16))
      (broadcastInDim S192x192 ![] bcast_S_S192x192 (constant (F := Ideal) S_ .bf16 0x0000#16)) := by
    unfold V hostOps0
    after_results
  rw [e]
  show Scalar.select (IntOp.cmpi .slt (BitVec.ofNat 32 r.val) (BitVec.ofNat 32 r'.val)) (Ideal.ofBits .bf16 0x3F80#16)
    (Ideal.ofBits .bf16 0x0000#16) = _
  rw [select_lt (by omega) (by omega), Ideal.ofBits_one_bf16, Ideal.ofBits_zero_bf16]

/-! ## The blocks -/

theorem blk0 (r r' : Fin 256) : iblk m c 0 t (ix2 r r') = if r.val < r'.val then (1 : EReal) else 0 := by
  rw [← V_v5 m c]
  blk_simp [iblk]
  refine congrArg (V m c main_v5) ?_
  blk_ext [index0]

theorem blk1 (r r' : Fin 192) : iblk m c 1 t (ix2 r r') = if r.val < r'.val then (1 : EReal) else 0 := by
  rw [← V_v11 m c]
  blk_simp [iblk]
  refine congrArg (V m c main_v11) ?_
  blk_ext [index1]

theorem blk2 (e : Fin 256) (X : Fin 2048) : iblk m c 2 t (ix3 0 e X)
    = m ((c.tc : Thread nD τ).loc main_arg0) (ix3 (g0 t) ⟨256 * (g1 t).val + e.val, by omega⟩ ⟨2048 * (g2 t).val + X.val, by omega⟩) := by
  rw [← V_arg0 m c]
  blk_simp [iblk]
  refine congrArg (V m c main_arg0) ?_
  blk_ext [index2, g0, g1, g2]

theorem blk3 (s : Fin 4096) (e : Fin 256) : iblk m c 3 t (ix3 0 s e)
    = m ((c.tc : Thread nD τ).loc main_arg1) (ix3 (g0 t) s ⟨256 * (g1 t).val + e.val, by omega⟩) := by
  rw [← V_arg1 m c]
  blk_simp [iblk]
  refine congrArg (V m c main_arg1) ?_
  blk_ext [index3, g0, g1]

theorem blk4 (a : Fin 16) (e r : Fin 256) : iblk m c 4 t (ix4 0 a e r)
    = m ((c.tc : Thread nD τ).loc main_arg2) (ix4 (g0 t) a ⟨256 * (g1 t).val + e.val, by omega⟩ r) := by
  rw [← V_arg2 m c]
  blk_simp [iblk]
  refine congrArg (V m c main_arg2) ?_
  blk_ext [index4, g0, g1]

/-! ## A point's scores, values and result -/

/-- The three arguments. -/
abbrev argQ : ArgQ := m ((c.tc : Thread nD τ).loc main_arg0)
abbrev argK : ArgK := m ((c.tc : Thread nD τ).loc main_arg1)
abbrev argV : ArgV := m ((c.tc : Thread nD τ).loc main_arg2)

/-- A block's head, query and channel in the whole arrays. -/
def gHead (t : Fin grid0.N) (hh : Fin 4) : Fin 16 := ⟨4 * (g1 t).val + hh.val, by omega⟩
def gRow (t : Fin grid0.N) (X : Fin 2048) : Fin 4096 := ⟨2048 * (g2 t).val + X.val, by omega⟩
def gChan (t : Fin grid0.N) (e : Fin 256) : Fin 1024 := ⟨256 * (g1 t).val + e.val, by omega⟩

theorem chan_eq (hh : Fin 4) (d : Fin 64) : (⟨256 * (g1 t).val + (chan hh d).val, by have := (chan hh d).isLt; omega⟩ : Fin 1024) = ch (gHead t hh) d :=
  Fin.ext (by show 256 * (g1 t).val + (64 * hh.val + d.val) = 64 * (4 * (g1 t).val + hh.val) + d.val; omega)

theorem zE_ins (hh : Fin 4) (X : Fin 2048) (s : ℕ) :
    zE (ins m c t) hh X s = zG (argQ m c) (argK m c) (g0 t) (gHead t hh) (gRow t X) s := by
  refine Finset.sum_congr rfl fun d _ => congrArg₂ (· * ·) ?_ ?_
  · exact (blk3 m c t (keyRow s) (chan hh d)).trans (by rw [chan_eq])
  · exact (blk2 m c t (chan hh d) X).trans (by rw [chan_eq]; rfl)

theorem vE_ins (hh : Fin 4) (d : Fin 64) (s : ℕ) : vE (ins m c t) hh d s = vG (argV m c) (g0 t) (ch (gHead t hh) d) s :=
  (blk4 m c t _ (chan hh d) _).trans (by rw [chan_eq]; rfl)

theorem good_ins : Good (ins m c t) where
  later := blk0 m c t
  laterN := blk1 m c t

theorem outsAt_apply (X : Fin 2048) (e : Fin 256) :
    outsAt m c t (ix3 0 X e) = attn (argQ m c) (argK m c) (argV m c) (g0 t) (gRow t X) (gChan t e) := by
  unfold outsAt
  rw [consts_eq]
  refine (outBlock_apply (good_ins m c t) (g2 t) X e).trans ?_
  unfold got attn
  have hs : seen (g2 t) ⟨X.val / 256, by omega⟩ ⟨X.val % 256, by omega⟩ = (gRow t X).val := by
    show 256 * (8 * (g2 t).val + X.val / 256) + X.val % 256 = 2048 * (g2 t).val + X.val; omega
  have hc : col ⟨X.val / 256, by omega⟩ ⟨X.val % 256, by omega⟩ = X :=
    Fin.ext (by show 256 * (X.val / 256) + X.val % 256 = X.val; omega)
  have hh : headOf (gChan t e) = gHead t ⟨e.val / 64, by omega⟩ :=
    Fin.ext (by show (256 * (g1 t).val + e.val) / 64 = 4 * (g1 t).val + e.val / 64; omega)
  have hd : ch (gHead t ⟨e.val / 64, by omega⟩) ⟨e.val % 64, by omega⟩ = gChan t e :=
    Fin.ext (by show 64 * (4 * (g1 t).val + e.val / 64) + e.val % 64 = 256 * (g1 t).val + e.val; omega)
  have hz : zE (ins m c t) ⟨e.val / 64, by omega⟩ X = zG (argQ m c) (argK m c) (g0 t) (headOf (gChan t e)) (gRow t X) := by
    funext s; rw [zE_ins, hh]
  refine Finset.sum_congr (congrArg (Finset.Ico 0) hs) fun s _ => congrArg₂ (· * ·) ?_ ?_
  · rw [vE_ins, hd]
  · show weight _ (seen (g2 t) _ _) s = _
    rw [hs, hc, hz]

/-- The result array after the run. -/
theorem final_array :
    (dats m 0 c).arrAt 5 (cfg0 (F := Ideal)).N = attnAll (argQ m c) (argK m c) (argV m c) := by
  refine (dats m 0 c).arrAt_eq_of_covers 5 _ (by decide +kernel) fun t hf y => ?_
  blk_simp
  rw [after0_5]
  have hy : y = ix3 0 (y 1) (y 2) := by
    funext a
    match a with
    | 0 => exact Fin.ext (by have h := (y 0).isLt; change (y 0).val < 1 at h; show (y 0).val = 0; omega)
    | 1 => rfl
    | 2 => rfl
  rw [hy]
  refine (outsAt_apply m c t (y 1) (y 2)).trans ?_
  unfold attnAll
  congr 1
  all_goals
    refine Fin.ext ?_
    blk_simp [index5]
    first | rfl | (show _ = _; simp [g0, g1, g2, gRow, gChan]; omega)

end Cert.KernelIdeal
-- ==== Proof.Val.RefScalar.lean ====
module

public import proofs.«01_k».proof.Proof.Val.Spec

/-! # The reference's scalar pieces, over the extended reals

Its softplus in natural units is the base-2 softplus scaled; its reversed cumulative sum is a sum over the later keys. -/

@[expose] public section

noncomputable section

namespace Cert.Val

open Idealize.ShloMosaic
open scoped BigOperators

/-- The reference's softplus of one element. -/
def lsp (x : EReal) : EReal :=
  Scalar.select (Ideal.cmp .une (x - 0) (x - 0)) (x + 0)
    (max x 0 + Ideal.log1p (Ideal.exp (-(max (x - 0) (-(x - 0))))))

theorem log_one_add_exp (x : ℝ) : max x 0 + Real.log (1 + Real.exp (-(max x (-x)))) = Real.log (1 + Real.exp x) := by
  rcases le_total 0 x with h | h
  · rw [max_eq_left h, max_eq_left (by linarith)]
    have e : 1 + Real.exp x = Real.exp x * (1 + Real.exp (-x)) := by
      rw [mul_add, mul_one, ← Real.exp_add, add_neg_cancel, Real.exp_zero, add_comm]
    rw [e, Real.log_mul (Real.exp_pos x).ne' (by have := Real.exp_pos (-x); linarith), Real.log_exp]
  · rw [max_eq_right h, max_eq_right (by linarith), neg_neg, zero_add]

theorem coe_max' (a b : ℝ) : ((max a b : ℝ) : EReal) = max (a : EReal) (b : EReal) := EReal.coe_strictMono.monotone.map_max

theorem lsp_coe (x : ℝ) : lsp (x : EReal) = ((Real.log (1 + Real.exp x) : ℝ) : EReal) := by
  have hp : (0 : ℝ) < 1 + Real.exp (-(max x (-x))) := by have := Real.exp_pos (-(max x (-x))); linarith
  have hc : Ideal.cmp .une ((x : EReal) - 0) ((x : EReal) - 0) = 0#1 := by simp [Ideal.cmp]
  have e : Ideal.log1p (Ideal.exp (-(max (x : EReal) (-(x : EReal))))) = ((Real.log (1 + Real.exp (-(max x (-x)))) : ℝ) : EReal) := by
    rw [← EReal.coe_neg, ← coe_max', ← EReal.coe_neg, Ideal.exp_coe, Ideal.log1p, ← EReal.coe_one, ← EReal.coe_add,
      Ideal.log_coe, if_neg (not_le.mpr hp)]
  unfold lsp
  rw [hc, sel_def, if_neg (by decide), sub_zero, e, ← EReal.coe_zero, ← coe_max', ← EReal.coe_add, log_one_add_exp]

theorem exp_two (z : ℝ) : Real.exp (Real.log 2 * z) = (2 : ℝ) ^ z := (Real.rpow_def_of_pos two_pos z).symm

/-- The softplus of a score in natural units. -/
theorem soft_pos (z : ℝ) : Real.log (1 + Real.exp (Real.log 2 * z)) = Real.log 2 * sp z := by
  have h2 : Real.log 2 ≠ 0 := (Real.log_pos one_lt_two).ne'
  rw [exp_two]; unfold sp; field_simp

/-- The softplus of its opposite. -/
theorem soft_neg (z : ℝ) : Real.log (1 + Real.exp (-(Real.log 2 * z))) = Real.log 2 * (sp z - z) := by
  have e : 1 + Real.exp (Real.log 2 * z) = Real.exp (Real.log 2 * z) * (1 + Real.exp (-(Real.log 2 * z))) := by
    rw [mul_add, mul_one, ← Real.exp_add, add_neg_cancel, Real.exp_zero, add_comm]
  have h := soft_pos z
  rw [e, Real.log_mul (Real.exp_pos _).ne' (by have := Real.exp_pos (-(Real.log 2 * z)); linarith), Real.log_exp] at h
  linarith

/-- A sum scaled by a real that is not negative. -/
theorem sum_mul_coe {ι : Type} (s : Finset ι) (f : ι → EReal) {c : ℝ} (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

/-- The opposite of a sum of extended reals that are not negative. -/
theorem neg_sum_nonneg {ι : Type} (s : Finset ι) (f : ι → EReal) (hf : ∀ i, 0 ≤ f i) : ∑ i ∈ s, -f i = -∑ i ∈ s, f i := by
  classical
  induction s using Finset.induction_on with
  | empty => simp
  | insert a s ha ih =>
    rw [Finset.sum_insert ha, Finset.sum_insert ha, ih, neg_add_nonneg (hf a) (Finset.sum_nonneg fun i _ => hf i), sub_eq_add_neg]

/-- The scale from base-2 to natural units. -/
abbrev ln2 : EReal := ((Real.log 2 : ℝ) : EReal)

theorem ln2_pos : 0 < Real.log 2 := Real.log_pos one_lt_two

theorem lsp_bot : lsp ⊥ = 0 := by
  have hc : Ideal.cmp .une ((⊥ : EReal) - 0) ((⊥ : EReal) - 0) = 0#1 := by simp [Ideal.cmp]
  have e : Ideal.log1p (Ideal.exp (-(max (⊥ : EReal) (-(⊥ : EReal))))) = 0 := by
    rw [EReal.neg_bot, max_eq_right bot_le, EReal.neg_top, Ideal.exp_bot, Ideal.log1p, add_zero, ← EReal.coe_one, Ideal.log_coe]
    simp
  unfold lsp
  rw [hc, sel_def, if_neg (by decide), sub_zero, e, add_zero]
  exact max_eq_right bot_le

theorem lsp_top : lsp ⊤ = ⊤ := by
  have hc : Ideal.cmp .une ((⊤ : EReal) - 0) ((⊤ : EReal) - 0) = 0#1 := by simp [Ideal.cmp]
  have e : Ideal.log1p (Ideal.exp (-(max (⊤ : EReal) (-(⊤ : EReal))))) = 0 := by
    rw [max_eq_left le_top, EReal.neg_top, Ideal.exp_bot, Ideal.log1p, add_zero, ← EReal.coe_one, Ideal.log_coe]
    simp
  unfold lsp
  rw [hc, sel_def, if_neg (by decide), sub_zero, e, add_zero]
  exact max_eq_left le_top

/-- The softplus of a score in natural units, at every extended real. -/
theorem lsp_scale (z : EReal) : lsp (ln2 * z) = ln2 * spE z := by
  induction z using EReal.rec with
  | bot => rw [EReal.coe_mul_bot_of_pos ln2_pos, lsp_bot, spE_bot, mul_zero]
  | top => rw [EReal.coe_mul_top_of_pos ln2_pos, lsp_top, spE_top, EReal.coe_mul_top_of_pos ln2_pos]
  | coe z => rw [spE_coe, ← EReal.coe_mul, ← EReal.coe_mul, lsp_coe, soft_pos]

/-- The reference's weight of a key: the logarithm of what it takes, plus the cumulative sum from it on less its own
    term, where the later keys sum to `A`. -/
theorem weight_scale (z : EReal) {A : EReal} (hA : 0 ≤ A) :
    Ideal.exp (-lsp (-(ln2 * z)) + (-(ln2 * spE z) + -(ln2 * A) - -(ln2 * spE z))) = Ideal.exp2 (z - spE z - A) := by
  induction z using EReal.rec with
  | bot =>
    rw [EReal.coe_mul_bot_of_pos ln2_pos, EReal.neg_bot, lsp_top, EReal.neg_top, EReal.bot_add, EReal.bot_sub, EReal.bot_sub]; rfl
  | top =>
    rw [spE_top, EReal.coe_mul_top_of_pos ln2_pos, EReal.neg_top, EReal.bot_add, EReal.bot_sub, EReal.add_bot, sub_eq_add_neg (⊤ : EReal),
      EReal.neg_top, EReal.add_bot, EReal.bot_sub]; rfl
  | coe z =>
    induction A using EReal.rec with
    | bot => exact absurd hA (by simp)
    | top =>
      rw [EReal.coe_mul_top_of_pos ln2_pos, EReal.neg_top, EReal.add_bot, EReal.bot_sub, EReal.add_bot, sub_eq_add_neg _ (⊤ : EReal),
        EReal.neg_top, EReal.add_bot]; rfl
    | coe a =>
      rw [spE_coe, ← EReal.coe_mul, ← EReal.coe_mul, ← EReal.coe_mul, ← EReal.coe_neg, ← EReal.coe_neg, ← EReal.coe_neg, lsp_coe, soft_neg,
        ← EReal.coe_neg, ← EReal.coe_add, ← EReal.coe_sub, ← EReal.coe_add, Ideal.exp_coe, ← EReal.coe_sub, ← EReal.coe_sub, Ideal.exp2_coe]
      refine congrArg _ (Eq.trans ?_ (exp_two _))
      exact congrArg _ (by ring)

/-! ## The reversed cumulative sum -/

/-- Adding up a list's values in order. -/
theorem foldl_sum {α : Type} (g : α → EReal) : ∀ (l : List α) (a : EReal), l.foldl (fun r n => r + g n) a = a + (l.map g).sum
  | [], a => by simp
  | x :: l, a => by rw [List.foldl_cons, foldl_sum g l, List.map_cons, List.sum_cons, add_assoc]

/-- Scores of every query and key. -/
abbrev SS : Shape := ⟨4, ![8, 16, 4096, 4096]⟩
/-- The window of all keys. -/
abbrev WS : Shape := ⟨4, ![1, 1, 1, 4096]⟩

theorem numelWS : WS.numel = 4096 := by
  show ∏ a : Fin 4, (![1, 1, 1, 4096] : Fin 4 → Nat) a = 4096
  rw [Fin.prod_univ_four]; rfl

theorem symmWS (n : Fin WS.numel) : WS.rowMajor.symm n = ix4 (0 : Fin 1) (0 : Fin 1) (0 : Fin 1) (n.cast numelWS) :=
  (WS.rowMajor.symm_apply_eq).2 (Fin.ext (by
    rw [Shape.rowMajor_val_four]
    show n.val = ((0 * 1 + 0) * 1 + 0) * 4096 + n.val
    omega))

theorem cumsum_apply (x : SS.Idx → EReal)
    (h : SS.ReduceWindows (![1, 1, 1, 4096] : Fin 4 → Nat) ![1, 1, 1, 1] ![0, 0, 0, 0] ![0, 0, 0, 4095] SS)
    (b : Fin 8) (hd : Fin 16) (X s : Fin 4096) :
    Ideal.hostReduceWindowAdd (![1, 1, 1, 4096] : Fin 4 → Nat) ![1, 1, 1, 1] ![0, 0, 0, 0] ![0, 0, 0, 4095] h x 0 (ix4 b hd X s)
      = ∑ n : Fin 4096, if g : s.val + n.val < 4096 then x (ix4 b hd X ⟨s.val + n.val, g⟩) else 0 := by
  unfold Ideal.hostReduceWindowAdd Host.reduceWindow
  refine (foldl_sum (α := Fin WS.numel) _ _ 0).trans ?_
  rw [zero_add, ← List.ofFn_eq_map, List.sum_ofFn]
  refine Fintype.sum_equiv (finCongr numelWS) _ _ fun n => ?_
  have hw : ∀ a, (WS.rowMajor.symm n a).val = (![0, 0, 0, n.val] : Fin 4 → ℕ) a := by
    intro a; rw [symmWS]
    match a with
    | 0 => rfl
    | 1 => rfl
    | 2 => rfl
    | 3 => rfl
  have hb := b.isLt; have hh := hd.isLt; have hX := X.isLt
  by_cases g : s.val + n.val < 4096
  · have g' : s.val + ((finCongr numelWS) n).val < 4096 := g
    rw [dif_pos g']
    have hin : ∀ a : Fin 4, (![0, 0, 0, 0] : Fin 4 → ℕ) a ≤ ((ix4 b hd X s : SS.Idx) a).val * (![1, 1, 1, 1] : Fin 4 → ℕ) a + (WS.rowMajor.symm n a).val
        ∧ ((ix4 b hd X s : SS.Idx) a).val * (![1, 1, 1, 1] : Fin 4 → ℕ) a + (WS.rowMajor.symm n a).val - (![0, 0, 0, 0] : Fin 4 → ℕ) a < SS.size a := by
      intro a; rw [hw]
      match a with
      | 0 => exact ⟨Nat.zero_le _, by show b.val * 1 + 0 - 0 < 8; omega⟩
      | 1 => exact ⟨Nat.zero_le _, by show hd.val * 1 + 0 - 0 < 16; omega⟩
      | 2 => exact ⟨Nat.zero_le _, by show X.val * 1 + 0 - 0 < 4096; omega⟩
      | 3 => exact ⟨Nat.zero_le _, by show s.val * 1 + n.val - 0 < 4096; omega⟩
    refine (dif_pos hin).trans (congrArg x (funext fun a => Fin.ext ?_))
    have hwa := hw a
    match a with
    | 0 => show b.val * 1 + (WS.rowMajor.symm n 0).val - 0 = b.val; rw [hwa]; show b.val * 1 + 0 - 0 = _; omega
    | 1 => show hd.val * 1 + (WS.rowMajor.symm n 1).val - 0 = hd.val; rw [hwa]; show hd.val * 1 + 0 - 0 = _; omega
    | 2 => show X.val * 1 + (WS.rowMajor.symm n 2).val - 0 = X.val; rw [hwa]; show X.val * 1 + 0 - 0 = _; omega
    | 3 => show s.val * 1 + (WS.rowMajor.symm n 3).val - 0 = s.val + n.val; rw [hwa]; show s.val * 1 + n.val - 0 = _; omega
  · have g' : ¬ s.val + ((finCongr numelWS) n).val < 4096 := g
    rw [dif_neg g']
    refine dif_neg fun hin => g ?_
    have h3 := (hin (3 : Fin 4)).2
    change s.val * 1 + (WS.rowMajor.symm n 3).val - 0 < 4096 at h3
    rw [hw] at h3
    change s.val * 1 + n.val - 0 < 4096 at h3
    omega

end Cert.Val
-- ==== Proof.Val.RefScore.lean ====
module

public import proofs.«01_k».proof.Proof.Val.RefScalar
public import proofs.«01_k».proof.Proof.Gen.ReferenceIdeal.Read

/-! # The reference's scores, at an index -/

@[expose] public section

noncomputable section

namespace Cert.ReferenceIdeal.Read

open Idealize.ShloMosaic Cert.Val
open scoped BigOperators

theorem lit_zero : (FloatOps.ofBits .f32 0x00000000#32 : Ideal .f32) = (0 : EReal) := Ideal.ofBits_zero_f32
theorem lit_two : (FloatOps.ofBits .f32 0x40000000#32 : Ideal .f32) = ((2 : ℝ) : EReal) := by
  show Ideal.ofBits .f32 0x40000000#32 = _
  simp [Ideal.ofBits, Ideal.ieee, -EReal.coe_mul]; norm_num
theorem lit_eight : (FloatOps.ofBits .f32 0x41000000#32 : Ideal .f32) = ((8 : ℝ) : EReal) := by
  show Ideal.ofBits .f32 0x41000000#32 = _
  simp [Ideal.ofBits, Ideal.ieee, -EReal.coe_mul]; norm_num
theorem lit_eighth : (FloatOps.ofBits .f32 0x3E000000#32 : Ideal .f32) = ((1 / 8 : ℝ) : EReal) := by
  show Ideal.ofBits .f32 0x3E000000#32 = _
  simp [Ideal.ofBits, Ideal.ieee, -EReal.coe_mul]; norm_num

/-- The factor on the queries: eight times the logarithm of two. -/
theorem v4_at (i : S_.Idx) : val_main_v4 (F := Ideal) i = ((8 * Real.log 2 : ℝ) : EReal) := by
  rw [val_main_v4_apply, val_main_v3_apply, val_main_cst_0_apply, val_main_cst_apply, lit_two, lit_eight]
  show ((8 : ℝ) : EReal) * Ideal.log ((2 : ℝ) : EReal) = _
  rw [Ideal.log_coe, if_neg (by norm_num), ← EReal.coe_mul]

theorem v6_at (q : ArgQ) (b : Fin 8) (h : Fin 16) (X : Fin 4096) (c : Fin 64) :
    val_main_v6 (F := Ideal) q (ix4 b h X c) = q (ix3 b (ch h c) X) * ((8 * Real.log 2 : ℝ) : EReal) := by
  have hb := b.isLt; have hh := h.isLt; have hX := X.isLt; have hc := c.isLt
  rw [val_main_v6_apply, val_main_v2_apply, val_main_v1_apply, val_main_v0_apply, val_main_v5_apply, v4_at]
  refine congrArg (fun y : EReal => y * ((8 * Real.log 2 : ℝ) : EReal)) (congrArg q (funext fun a => Fin.ext ?_))
  match a with
  | 0 => show (((b.val * 16 + h.val) * 64 + c.val) * 4096 + X.val) / 4194304 = b.val; omega
  | 1 => show (((b.val * 16 + h.val) * 64 + c.val) * 4096 + X.val) / 4096 % 1024 = 64 * h.val + c.val; omega
  | 2 => show (((b.val * 16 + h.val) * 64 + c.val) * 4096 + X.val) % 4096 = X.val; omega

theorem v9_at (k : ArgK) (b : Fin 8) (h : Fin 16) (s : Fin 4096) (c : Fin 64) :
    val_main_v9 (F := Ideal) k (ix4 b h s c) = k (ix3 b s (ch h c)) := by
  have hb := b.isLt; have hh := h.isLt; have hs := s.isLt; have hc := c.isLt
  rw [val_main_v9_apply, val_main_v8_apply, val_main_v7_apply]
  refine congrArg k (funext fun a => Fin.ext ?_)
  match a with
  | 0 => show (((b.val * 4096 + s.val) * 16 + h.val) * 64 + c.val) / 4194304 = b.val; omega
  | 1 => show (((b.val * 4096 + s.val) * 16 + h.val) * 64 + c.val) / 1024 % 4096 = s.val; omega
  | 2 => show (((b.val * 4096 + s.val) * 16 + h.val) * 64 + c.val) % 1024 = 64 * h.val + c.val; omega

theorem v13_at (v : ArgV) (b : Fin 8) (h : Fin 16) (s : Fin 4096) (d : Fin 64) :
    val_main_v13 (F := Ideal) v (ix4 b h s d) = vG v b (ch h d) s.val := by
  have hb := b.isLt; have hh := h.isLt; have hs := s.isLt; have hd := d.isLt
  rw [val_main_v13_apply, val_main_v12_apply, val_main_v11_apply, val_main_v10_apply]
  have hu : s.val / 256 % 16 = s.val / 256 := by omega
  have hu' : s.val / 256 < 16 := by omega
  have hw : s.val % 256 < 256 := by omega
  have e0 : (((b.val * 16 + h.val) * 4096 + s.val) * 64 + d.val) / 4194304 = b.val := by omega
  have e1 : (((b.val * 16 + h.val) * 4096 + s.val) * 64 + d.val) / 262144 % 16 = h.val := by omega
  have e2 : (((b.val * 16 + h.val) * 4096 + s.val) * 64 + d.val) / 16384 % 16 = s.val / 256 := by omega
  have e3 : (((b.val * 16 + h.val) * 4096 + s.val) * 64 + d.val) / 64 % 256 = s.val % 256 := by omega
  have e4 : (((b.val * 16 + h.val) * 4096 + s.val) * 64 + d.val) % 64 = d.val := by omega
  unfold vG
  refine congrArg v ((congrArg idx_main_v11 (?_ : idx_main_v12 (idx_main_v13 (ix4 b h s d)) = ix5 b ⟨s.val / 256, hu'⟩ h d ⟨s.val % 256, hw⟩)).trans (funext fun a => Fin.ext ?_))
  · refine funext fun a => Fin.ext ?_
    match a with
    | 0 => exact e0
    | 1 => exact e2
    | 2 => exact e1
    | 3 => exact e4
    | 4 => exact e3
  · clear e0 e1 e2 e3 e4
    match a with
    | 0 => show ((((b.val * 16 + s.val / 256) * 16 + h.val) * 64 + d.val) * 256 + s.val % 256) / 4194304 = b.val; generalize s.val / 256 = u at hu' ⊢; generalize s.val % 256 = w at hw ⊢; omega
    | 1 => show ((((b.val * 16 + s.val / 256) * 16 + h.val) * 64 + d.val) * 256 + s.val % 256) / 262144 % 16 = s.val / 256 % 16; rw [hu]; generalize s.val / 256 = u at hu' ⊢; generalize s.val % 256 = w at hw ⊢; omega
    | 2 => show ((((b.val * 16 + s.val / 256) * 16 + h.val) * 64 + d.val) * 256 + s.val % 256) / 256 % 1024 = 64 * h.val + d.val; generalize s.val / 256 = u at hu' ⊢; generalize s.val % 256 = w at hw ⊢; omega
    | 3 => show ((((b.val * 16 + s.val / 256) * 16 + h.val) * 64 + d.val) * 256 + s.val % 256) % 256 = s.val % 256; generalize s.val / 256 = u at hu' ⊢; generalize s.val % 256 = w at hw ⊢; omega

/-- The score in natural units. -/
theorem v17_at (q : ArgQ) (k : ArgK) (b : Fin 8) (h : Fin 16) (X s : Fin 4096) :
    val_main_v17 (F := Ideal) q k (ix4 b h X s) = ln2 * zG q k b h X s.val := by
  have hs : keyRow s.val = s := Fin.ext (Nat.mod_eq_of_lt s.isLt)
  have h15 : val_main_v15 (F := Ideal) q k (ix4 b h X s)
      = ∑ c : Fin 64, q (ix3 b (ch h c) X) * ((8 * Real.log 2 : ℝ) : EReal) * k (ix3 b s (ch h c)) := by
    rw [val_main_v15_apply]
    refine Finset.sum_congr rfl fun c _ => ?_
    have el : lidx_main_v15 (ix4 b h X s) c = ix4 b h X c := funext fun a => match a with
      | 0 => rfl
      | 1 => rfl
      | 2 => rfl
      | 3 => rfl
    have er : ridx_main_v15 (ix4 b h X s) c = ix4 b h s c := funext fun a => match a with
      | 0 => rfl
      | 1 => rfl
      | 2 => rfl
      | 3 => rfl
    rw [el, er, v6_at, v9_at]
  have hc : ((8 * Real.log 2 : ℝ) : EReal) * ((1 / 8 : ℝ) : EReal) = ln2 := by
    rw [← EReal.coe_mul]; exact congrArg _ (by ring)
  rw [val_main_v17_apply, h15, val_main_v16_apply, val_main_cst_1_apply, lit_eighth]
  refine (sum_mul_coe _ _ (by norm_num)).trans ?_
  rw [mul_comm ln2]; unfold zG
  rw [sum_mul_coe _ _ ln2_pos.le, hs]
  refine Finset.sum_congr rfl fun c _ => ?_
  rw [mul_right_comm, mul_assoc (q _), hc, mul_right_comm, mul_comm (q _)]

/-- The two softpluses. -/
theorem call0_at (q : ArgQ) (k : ArgK) (i : S8x16x4096x4096.Idx) :
    val_main_call0_v1 (F := Ideal) q k i = lsp (val_main_call0_v0 (F := Ideal) q k i) := by
  rw [val_main_call0_v1_apply, val_main_call0_call0_v4_apply, val_main_call0_call0_v6_apply, val_main_call0_call0_v11_apply,
    val_main_call0_call0_v1_apply, val_main_call0_call0_v10_apply, val_main_call0_call0_v9_apply, val_main_call0_call0_v8_apply,
    val_main_call0_call0_v7_apply, val_main_call0_call0_v3_apply, val_main_call0_call0_v0_apply, val_main_call0_call0_v2_apply,
    val_main_call0_call0_v5_apply]
  simp only [val_main_call0_call0_cst_apply]
  rw [lit_zero]; rfl
theorem call3_at (q : ArgQ) (k : ArgK) (i : S8x16x4096x4096.Idx) :
    val_main_call3_v1 (F := Ideal) q k i = lsp (val_main_call3_v0 (F := Ideal) q k i) := by
  rw [val_main_call3_v1_apply, val_main_call3_call0_v4_apply, val_main_call3_call0_v6_apply, val_main_call3_call0_v11_apply,
    val_main_call3_call0_v1_apply, val_main_call3_call0_v10_apply, val_main_call3_call0_v9_apply, val_main_call3_call0_v8_apply,
    val_main_call3_call0_v7_apply, val_main_call3_call0_v3_apply, val_main_call3_call0_v0_apply, val_main_call3_call0_v2_apply,
    val_main_call3_call0_v5_apply]
  simp only [val_main_call3_call0_cst_apply]
  rw [lit_zero]; rfl

/-- The logarithm of what a key leaves. -/
theorem v25_at (q : ArgQ) (k : ArgK) (b : Fin 8) (h : Fin 16) (X s : Fin 4096) :
    val_main_v25 (F := Ideal) q k (ix4 b h X s) = -(ln2 * spE (zG q k b h X s.val)) := by
  rw [val_main_v25_apply, call0_at, val_main_call0_v0_apply, val_main_v24_apply, v17_at]
  show -(lsp (-(-(ln2 * zG q k b h X s.val)))) = _
  rw [neg_neg, lsp_scale]
/-- The logarithm of what a key takes. -/
theorem v29_at (q : ArgQ) (k : ArgK) (b : Fin 8) (h : Fin 16) (X s : Fin 4096) :
    val_main_v29 (F := Ideal) q k (ix4 b h X s) = -lsp (-(ln2 * zG q k b h X s.val)) := by
  rw [val_main_v29_apply, call3_at, val_main_call3_v0_apply, v17_at]
  rfl

end Cert.ReferenceIdeal.Read
-- ==== Proof.Val.Ref.lean ====
module

public import proofs.«01_k».proof.Proof.Val.RefScore

/-! # The reference's result is stick-breaking attention -/

@[expose] public section

noncomputable section

namespace Cert.ReferenceIdeal.Read

open Cert.ReferenceIdeal Cert.ReferenceIdeal.Gen Idealize.ShloMosaic Cert.Val
open scoped BigOperators

/-- The causal mask: key before query. -/
theorem mask_at (X s : Fin 4096) (i : S1x1x4096x4096.Idx) (h2 : (i 2).val = X.val) (h3 : (i 3).val = s.val) (u v : EReal) :
    Scalar.select (val_main_v23 (F := Ideal) i) u v = if s.val < X.val then u else v := by
  rw [val_main_v23_apply, val_main_v22_apply, val_main_v20_apply, val_main_v21_apply, val_main_v18_apply, val_main_v19_apply,
    val_main_v14_apply, val_main_v14_apply]
  show Scalar.select (IntOp.cmpi .slt (BitVec.ofNat 32 (i 3).val) (BitVec.ofNat 32 (i 2).val)) u v = _
  rw [h2, h3]
  exact select_lt (by have := s.isLt; omega) (by have := X.isLt; omega) u v

theorem v26_at (q : ArgQ) (k : ArgK) (b : Fin 8) (h : Fin 16) (X s : Fin 4096) :
    val_main_v26 (F := Ideal) q k (ix4 b h X s)
      = if s.val < X.val then -(ln2 * spE (zG q k b h X s.val)) else 0 := by
  rw [val_main_v26_apply, val_main_call1_v1_apply, mask_at X s _ rfl rfl, v25_at, val_main_call1_v2_apply, val_main_call1_v0_apply,
    val_main_cst_2_apply, lit_zero]

theorem v27_at (q : ArgQ) (k : ArgK) (b : Fin 8) (h : Fin 16) (X s : Fin 4096) (hs : s.val < X.val) :
    val_main_v27 (F := Ideal) q k (ix4 b h X s)
      = ∑ j ∈ Finset.Ico s.val X.val, -(ln2 * spE (zG q k b h X j)) := by
  have e : val_main_v27 (F := Ideal) q k (ix4 b h X s)
      = ∑ n : Fin 4096, if g : s.val + n.val < 4096 then val_main_v26 (F := Ideal) q k (ix4 b h X ⟨s.val + n.val, g⟩) else 0 := by
    have hi : (val_main_call2_v0 (F := Ideal)) (Shape.Idx.first h_S_) = (0 : EReal) := by
      rw [val_main_call2_v0_apply, val_main_call2_cst_apply, lit_zero]
    refine Eq.trans ?_ (cumsum_apply (val_main_v26 (F := Ideal) q k)
      reduceWindows_S8x16x4096x4096_S8x16x4096x4096_w1s1p0_0_w1s1p0_0_w1s1p0_0_w4096s1p0_4095 b h X s)
    unfold val_main_v27 Host.reduceWindowAdd
    rw [hi]
    generalize val_main_v26 (F := Ideal) q k = x
    rfl
  have hX := X.isLt
  have hr := sum_rows 4096 s.val X.val 0 hs.le (by omega) (fun j => -(ln2 * spE (zG q k b h X j)))
  rw [Nat.add_zero] at hr
  rw [e, ← hr]
  refine Finset.sum_congr rfl fun n _ => ?_
  by_cases g : s.val + n.val < 4096
  · rw [dif_pos g, v26_at]
    refine if_congr ?_ rfl rfl
    exact ⟨fun h => ⟨Nat.zero_le _, h⟩, fun h => h.2⟩
  · rw [dif_neg g, if_neg (fun h => g (by omega))]

/-- A key's weight, masked. -/
theorem v32_at (q : ArgQ) (k : ArgK) (b : Fin 8) (h : Fin 16) (X s : Fin 4096) :
    val_main_v32 (F := Ideal) q k (ix4 b h X s)
      = if s.val < X.val then weight (zG q k b h X) X.val s.val else 0 := by
  rw [val_main_v32_apply, val_main_call4_v1_apply, mask_at X s _ rfl rfl]
  by_cases hs : s.val < X.val
  · rw [if_pos hs, if_pos hs, val_main_v31_apply, val_main_v30_apply, val_main_v28_apply, v29_at, v27_at q k b h X s hs, v26_at,
      if_pos hs, Finset.sum_eq_sum_Ico_succ_bot hs]
    have hA := sum_nonneg_spE (zG q k b h X) (Finset.Ico (s.val + 1) X.val)
    have hn : ∑ j ∈ Finset.Ico (s.val + 1) X.val, -(ln2 * spE (zG q k b h X j)) = -(ln2 * ∑ j ∈ Finset.Ico (s.val + 1) X.val, spE (zG q k b h X j)) := by
      rw [neg_sum_nonneg _ _ (fun j => mul_nonneg (EReal.coe_nonneg.mpr ln2_pos.le) (spE_nonneg _)), mul_comm, sum_mul_coe _ _ ln2_pos.le]
      simp only [mul_comm]
    rw [hn]
    exact weight_scale _ hA
  · rw [if_neg hs, if_neg hs, val_main_call4_v2_apply, val_main_call4_v0_apply, val_main_cst_3_apply, lit_zero]

/-- The reference's result. -/
theorem result (q : ArgQ) (k : ArgK) (v : ArgV) : val_main_v36 (F := Ideal) q k v = attnAll q k v := by
  funext i
  obtain ⟨b, hb⟩ : ∃ b : Fin 8, b = i 0 := ⟨_, rfl⟩
  obtain ⟨X, hX⟩ : ∃ X : Fin 4096, X = i 1 := ⟨_, rfl⟩
  obtain ⟨e, he⟩ : ∃ e : Fin 1024, e = i 2 := ⟨_, rfl⟩
  have hi : i = ix3 b X e := funext fun a => match a with
    | 0 => hb.symm
    | 1 => hX.symm
    | 2 => he.symm
  subst hi
  clear hb hX he
  have lb := b.isLt; have lX := X.isLt; have le := e.isLt
  show val_main_v36 (F := Ideal) q k v (ix3 b X e) = attn q k v b X e
  have hx : idx_main_v34 (idx_main_v35 (ix3 b X e)) = ix4 b (headOf e) X (⟨e.val % 64, Nat.mod_lt _ (by decide)⟩ : Fin 64) := funext fun a => Fin.ext (by
    match a with
    | 0 => show ((b.val * 4096 + X.val) * 1024 + e.val) / 4194304 = b.val; omega
    | 1 => show ((b.val * 4096 + X.val) * 1024 + e.val) / 64 % 16 = e.val / 64; omega
    | 2 => show ((b.val * 4096 + X.val) * 1024 + e.val) / 1024 % 4096 = X.val; omega
    | 3 => show ((b.val * 4096 + X.val) * 1024 + e.val) % 64 = e.val % 64; omega)
  have hc : ch (headOf e) (⟨e.val % 64, Nat.mod_lt _ (by decide)⟩ : Fin 64) = e := Fin.ext (by show 64 * (e.val / 64) + e.val % 64 = e.val; omega)
  have h36 : val_main_v36 (F := Ideal) q k v (ix3 b X e) = val_main_v33 (F := Ideal) q k v (idx_main_v34 (idx_main_v35 (ix3 b X e))) := by
    rw [val_main_v36_apply, val_main_v35_apply, val_main_v34_apply]; rfl
  rw [h36, hx, val_main_v33_apply]
  unfold attn
  refine Eq.trans ?_ (values_row 4096 0 X.val (Nat.zero_le _) (by omega) (vG v b e)
    (fun r => val_main_v32 (F := Ideal) q k (ix4 b (headOf e) X r)) (fun s => weight (zG q k b (headOf e) X) X.val s) fun r => ?_)
  · refine Finset.sum_congr rfl fun s _ => ?_
    have el : lidx_main_v33 (ix4 b (headOf e) X (⟨e.val % 64, Nat.mod_lt _ (by decide)⟩ : Fin 64)) s = ix4 b (headOf e) X s := funext fun a => match a with
      | 0 => rfl
      | 1 => rfl
      | 2 => rfl
      | 3 => rfl
    have er : ridx_main_v33 (ix4 b (headOf e) X (⟨e.val % 64, Nat.mod_lt _ (by decide)⟩ : Fin 64)) s
        = ix4 b (headOf e) s (⟨e.val % 64, Nat.mod_lt _ (by decide)⟩ : Fin 64) := funext fun a => match a with
      | 0 => rfl
      | 1 => rfl
      | 2 => rfl
      | 3 => rfl
    rw [el, er, v13_at, hc, Nat.zero_add, mul_comm]
  · rw [Nat.zero_add]; exact v32_at q k b (headOf e) X r

end Cert.ReferenceIdeal.Read
-- ==== Proof.Val.Claim.lean ====
module

public import proofs.«01_k».proof.Defs
public import proofs.«01_k».proof.Proof.Val.Mem
public import proofs.«01_k».proof.Proof.Val.Ref
public import proofs.«01_k».proof.Proof.Ide.Run

/-! # The value claim: kernel and reference leave the same array -/

@[expose] public section

noncomputable section

namespace Cert.Val

open Idealize.ShloMosaic Idealize.SL.Sem

open Cert.KernelIdeal in
/-- The kernel's result buffer holds the attention of its arguments. -/
theorem kernel_out (m : (ℓ : Loc nD τ sig) → Buf (Elt Ideal) ℓ) (r)
    (h : Pipeline.FramePost cfgs (dats m) 0 (V m) r) (c : Dev nD) :
    r.2.mem ((c.tc : Thread nD τ).loc main_v12) = attnAll (argQ m c) (argK m c) (argV m c) :=
  ((h c).1 5).trans (final_array m c)

theorem value_claim : Cert.algebraic_KernelIdeal_ReferenceIdeal (hKernelIdeal := Cert.KernelIdeal.Gen.facts)
    (hReferenceIdeal := Cert.ReferenceIdeal.Gen.facts) := by
  intro m g m' g' _ hm
  refine ⟨fun c => attnAll (Cert.KernelIdeal.argQ m c) (Cert.KernelIdeal.argK m c) (Cert.KernelIdeal.argV m c), ?_, ?_⟩
  · exact (θ_run _ _ _).mono (fun r h c => ⟨kernel_out m r h.1 c, Cert.KernelIdeal.args_of m r h.1 c⟩)
      (Cert.KernelIdeal.run_main m g)
  · refine (θ_run _ _ _).mono (fun r h c => ⟨(h c).1.trans ?_, (h c).2⟩) (Cert.ReferenceIdeal.Value.run (F := Ideal) m' g')
    rw [Cert.ReferenceIdeal.Read.val_main_v36_eq, (hm c).1, (hm c).2.1, (hm c).2.2]
    exact Cert.ReferenceIdeal.Read.result _ _ _

end Cert.Val

end
-- ==== Proof.Last.Spec.lean ====
module

public import Idealize.ShloMosaic.PureOps.Ideal
public import Idealize.ShloMosaic.Lib.Pointwise
public import Idealize.ShloMosaic.Lib.ValueIdx

/-! # What the final call computes, over the extended reals

A row `x` of the residual stream is normalized, its gate computed, the attention's output gated by it and projected, the
result added to the row, and the row normalized again. -/

@[expose] public section

noncomputable section

namespace Cert.Last

open Idealize.ShloMosaic
open scoped BigOperators

/-- The length of a row and the constant added to its mean square. -/
def width : EReal := Ideal.ofBits .f32 0x44800000#32
def eps : EReal := Ideal.ofBits .f32 0x358637BD#32

/-- Element `e` of a row after root-mean-square normalization with the gain `g`. -/
def nrm (x : Fin 1024 → EReal) (g : Fin 1024 → EReal) (e : Fin 1024) : EReal :=
  x e * Ideal.rsqrt (Ideal.div (∑ k : Fin 1024, x k * x k) width + eps) * g e

/-- The gate's nonlinearity. -/
def silu (z : EReal) : EReal := Ideal.div z (1 + Ideal.exp (-z))

/-- One row before the last normalization: `o` the attention's output there, `g` the gain, `wg` the gate's columns of the
    input weights, `wo` the output weights. -/
def resid (x o g : Fin 1024 → EReal) (wg wo : Fin 1024 → Fin 1024 → EReal) (e : Fin 1024) : EReal :=
  x e + ∑ k : Fin 1024, o k * silu (∑ j : Fin 1024, nrm x g j * wg j k) * wo k e

/-- One row of the result. -/
def row (x o g f : Fin 1024 → EReal) (wg wo : Fin 1024 → Fin 1024 → EReal) : Fin 1024 → EReal := nrm (resid x o g wg wo) f

theorem one_add_exp_ne_zero (z : EReal) : 1 + Ideal.exp z ≠ 0 := by
  have h : 0 ≤ Ideal.exp z := by
    induction z using EReal.rec with
    | bot => exact le_refl _
    | top => exact le_top
    | coe z => exact EReal.coe_nonneg.mpr (Real.exp_pos z).le
  exact (lt_of_lt_of_le zero_lt_one (le_add_of_nonneg_right h)).ne'

/-- The nonlinearity as a product with the logistic function. -/
theorem silu_eq (z : EReal) : z * Ideal.div 1 (1 + Ideal.exp (-z)) = silu z := by
  rw [silu, Ideal.div, Ideal.div, if_neg (one_add_exp_ne_zero _), if_neg (one_add_exp_ne_zero _), one_mul]

/-! ## The arguments and the result -/

abbrev ArgO := (⟨3, ![8, 4096, 1024]⟩ : Shape).Idx → EReal
abbrev ArgG := (⟨2, ![2, 1024]⟩ : Shape).Idx → EReal
abbrev ArgW := (⟨3, ![2, 1024, 4096]⟩ : Shape).Idx → EReal
abbrev ArgP := (⟨3, ![2, 1024, 1024]⟩ : Shape).Idx → EReal
abbrev ArgF := (⟨1, ![1024]⟩ : Shape).Idx → EReal

/-- Row `X` of batch entry `b` of the result. -/
def lastRow (o x : ArgO) (g : ArgG) (w : ArgW) (p : ArgP) (f : ArgF) (b : Fin 8) (X : Fin 4096) : Fin 1024 → EReal :=
  row (fun e => x (ix3 b X e)) (fun e => o (ix3 b X e)) (fun e => g (ix2 1 e)) (fun e => f (ix1 e))
    (fun j k => w (ix3 1 j ⟨3072 + k.val, by omega⟩)) (fun k e => p (ix3 1 k e))

/-- The whole result. -/
def lastAll (o x : ArgO) (g : ArgG) (w : ArgW) (p : ArgP) (f : ArgF) : ArgO := fun i => lastRow o x g w p f (i 0) (i 1) (i 2)

end Cert.Last

end
-- ==== Proof.Last.Ker.lean ====
module

public import proofs.«01_k».proof.Proof.Last.Spec
public import proofs.«01_k».proof.Proof.Gen.Kernel2Ideal.Value
public import Idealize.ShloMosaic.Lib.IdealHost
public import Idealize.ShloMosaic.Lib.Pipeline.ValueKit

/-! # The final call's result array -/

@[expose] public section

noncomputable section

namespace Cert.Kernel2Ideal.Last

open Idealize.ShloMosaic
open Idealize.ShloMosaic.TcCoe Idealize.ShloMosaic.Tactic
open Idealize.SL Idealize.SL.RA Idealize.SL.Sem
open Cert.Kernel2Ideal Cert.Kernel2Ideal.Gen Cert.Last
open scoped BigOperators

/-! ## The body -/

section Body

variable (P0 : Vec Ideal S1x1024x1024 .f32) (P1 : Vec Ideal S1x1024x1024 .bf16) (P2 : Vec Ideal S1x1024 .f32)
  (P3 : Vec Ideal S1x1024x1024 .f32) (P4 : Vec Ideal S1x1024x1024 .bf16) (P5 : Vec Ideal S1x1024 .f32)

theorem pay2_apply (r e : Fin 1024) : k0_pay2 (F := Ideal) P0 P1 P2 P3 P4 (ix2 r e)
    = resid (fun e => P0 (ix3 0 r e)) (fun e => P1 (ix3 0 r e)) (fun e => P2 (ix2 0 e)) (fun j k => P3 (ix3 0 j k))
        (fun k e => P4 (ix3 0 k e)) e := by
  unfold k0_pay2
  pointwise
  simp only [resid, nrm, silu]
  simp only [zero_sub]
  rfl

theorem out_apply (r e : Fin 1024) : out0_6 (F := Ideal) P1 P2 P3 P0 P4 P5 (ix3 0 r e)
    = row (fun e => P0 (ix3 0 r e)) (fun e => P1 (ix3 0 r e)) (fun e => P2 (ix2 0 e)) (fun e => P5 (ix2 0 e))
        (fun j k => P3 (ix3 0 j k)) (fun k e => P4 (ix3 0 k e)) e := by
  have hl (x : Vec Ideal S1x1024x1024 .f32) : View.ld x r0_0 = x := View.ld_unit_zero (funext fun a => by fin_cases a <;> rfl) _ x
  have hlb (x : Vec Ideal S1x1024x1024 .bf16) : View.ld x r0_0 = x := View.ld_unit_zero (funext fun a => by fin_cases a <;> rfl) _ x
  have hl1 (x : Vec Ideal S1x1024 .f32) : View.ld x r0_1 = x := View.ld_unit_zero (funext fun a => by fin_cases a <;> rfl) _ x
  unfold out0_6
  rw [hl, hl, hlb, hlb, hl1, hl1, Value.canon6_eq]
  unfold row Value.E6
  generalize hh : k0_pay2 (F := Ideal) P0 P1 P2 P3 P4 = h
  have hr : ∀ e, h (ix2 r e) = resid (fun e => P0 (ix3 0 r e)) (fun e => P1 (ix3 0 r e)) (fun e => P2 (ix2 0 e)) (fun j k => P3 (ix3 0 j k))
        (fun k e => P4 (ix3 0 k e)) e := fun e => by rw [← hh]; exact pay2_apply P0 P1 P2 P3 P4 r e
  have hr' : (fun e => h (ix2 r e)) = _ := funext hr
  rw [← hr']
  show h (Value.ix6_0 (ix3 0 r e)) * Ideal.rsqrt (Ideal.div (multiReduction .add [1] S1024 (mulf h h) 0x00000000#32
    reduces_S1024x1024_S1024 (.inl rfl) rfl (Value.ix6_1 (ix3 0 r e))) width + eps) * P5 (Value.ix6_2 (ix3 0 r e)) = _
  have e0 : Value.ix6_0 (ix3 0 r e) = ix2 r e := funext fun a => match a with
    | 0 => rfl
    | 1 => rfl
  have e1 : Value.ix6_1 (ix3 0 r e) = ix1 r := funext fun a => match a with
    | 0 => rfl
  have e2 : Value.ix6_2 (ix3 0 r e) = ix2 0 e := funext fun a => match a with
    | 0 => rfl
    | 1 => rfl
  rw [e0, e1, e2]
  unfold nrm
  pointwise

end Body

/-! ## The blocks -/

variable (m : (ℓ : Loc nD τ sig) → Buf (Elt Ideal) ℓ) (c : Dev nD) (t : Fin cfg0.N)

theorem index0 : ∀ t : Fin grid0.N, win0_0.index t = ![(grid0.coords t 0).val, (grid0.coords t 1).val, 0] := by decide +kernel
theorem index1 : ∀ t : Fin grid0.N, win0_1.index t = ![0, 0] := by decide +kernel
theorem index2 : ∀ t : Fin grid0.N, win0_2.index t = ![1, 0, 3] := by decide +kernel
theorem index3 : ∀ t : Fin grid0.N, win0_3.index t = ![(grid0.coords t 0).val, (grid0.coords t 1).val, 0] := by decide +kernel
theorem index4 : ∀ t : Fin grid0.N, win0_4.index t = ![1, 0, 0] := by decide +kernel
theorem index5 : ∀ t : Fin grid0.N, win0_5.index t = ![0, 0] := by decide +kernel
theorem index6 : ∀ t : Fin grid0.N, win0_6.index t = ![(grid0.coords t 0).val, (grid0.coords t 1).val, 0] := by decide +kernel

/-- A grid point's two coordinates. -/
def g0 (t : Fin grid0.N) : Fin 8 := grid0.coords t 0
def g1 (t : Fin grid0.N) : Fin 4 := grid0.coords t 1

/-- A block's row in the whole array. -/
def gRow (t : Fin grid0.N) (r : Fin 1024) : Fin 4096 := ⟨1024 * (g1 t).val + r.val, by omega⟩

abbrev argO : ArgO := m ((c.tc : Thread nD τ).loc main_arg0)
abbrev argX : ArgO := m ((c.tc : Thread nD τ).loc main_arg1)
abbrev argG : ArgG := m ((c.tc : Thread nD τ).loc main_arg2)
abbrev argW : ArgW := m ((c.tc : Thread nD τ).loc main_arg3)
abbrev argP : ArgP := m ((c.tc : Thread nD τ).loc main_arg4)
abbrev argF : ArgF := m ((c.tc : Thread nD τ).loc main_arg5)

theorem V_v0 : V m c main_v0 = argP m c := by
  have e : V m c main_v0 = (truncf .bf16 (argP m c : FVec Ideal S2x1024x1024 .f32) bitsLt_bf16_f32 : FVec Ideal S2x1024x1024 .bf16) := by
    unfold V hostOps0
    after_results
  rw [e]; rfl

theorem V_v3 (e : Fin 1024) : V m c main_v3 (ix2 0 e) = argG m c (ix2 1 e) := by
  have h : V m c main_v3 = shapeCast S1x1024 (shapeCast S1024 (extractStridedSlice S1x1024 ![1, 0] (argG m c : FVec Ideal S2x1024 .f32)
      slices_S2x1024_S1x1024_1_0) shapeCasts_S1x1024_S1024) shapeCasts_S1024_S1x1024 := by
    unfold V hostOps0
    after_results
    rfl
  rw [h]
  pointwise

theorem V_v4 (e : Fin 1024) : V m c main_v4 (ix2 0 e) = argF m c (ix1 e) := by
  have h : V m c main_v4 = shapeCast S1x1024 (argF m c : FVec Ideal S1024 .f32) shapeCasts_S1024_S1x1024 := by
    unfold V hostOps0
    after_results
    rfl
  rw [h]
  pointwise

theorem blk0 (r e : Fin 1024) : iblk m c 0 t (ix3 0 r e) = argO m c (ix3 (g0 t) (gRow t r) e) := by
  rw [argO, ← V_main_arg0 m c]
  blk_simp [iblk]
  refine congrArg (V m c main_arg0) ?_
  blk_ext [index0, g0, g1, gRow]

theorem blk1 (e : Fin 1024) : iblk m c 1 t (ix2 0 e) = argG m c (ix2 1 e) := by
  rw [← V_v3 m c]
  blk_simp [iblk]
  refine congrArg (V m c main_v3) ?_
  blk_ext [index1]

theorem blk2 (j k : Fin 1024) : iblk m c 2 t (ix3 0 j k) = argW m c (ix3 1 j ⟨3072 + k.val, by omega⟩) := by
  rw [argW, ← V_main_arg3 m c]
  blk_simp [iblk]
  refine congrArg (V m c main_arg3) ?_
  blk_ext [index2]

theorem blk3 (r e : Fin 1024) : iblk m c 3 t (ix3 0 r e) = argX m c (ix3 (g0 t) (gRow t r) e) := by
  rw [argX, ← V_main_arg1 m c]
  blk_simp [iblk]
  refine congrArg (V m c main_arg1) ?_
  blk_ext [index3, g0, g1, gRow]

theorem blk4 (k e : Fin 1024) : iblk m c 4 t (ix3 0 k e) = argP m c (ix3 1 k e) := by
  rw [← V_v0 m c]
  blk_simp [iblk]
  refine congrArg (V m c main_v0) ?_
  blk_ext [index4]

theorem blk5 (e : Fin 1024) : iblk m c 5 t (ix2 0 e) = argF m c (ix1 e) := by
  rw [← V_v4 m c]
  blk_simp [iblk]
  refine congrArg (V m c main_v4) ?_
  blk_ext [index5]

theorem point_apply (r e : Fin 1024) :
    out0_6 (F := Ideal) (iblk m c 0 t) (iblk m c 1 t) (iblk m c 2 t) (iblk m c 3 t) (iblk m c 4 t) (iblk m c 5 t) (ix3 0 r e)
      = lastRow (argO m c) (argX m c) (argG m c) (argW m c) (argP m c) (argF m c) (g0 t) (gRow t r) e := by
  refine (out_apply (iblk m c 3 t) (iblk m c 0 t) (iblk m c 1 t) (iblk m c 2 t) (iblk m c 4 t) (iblk m c 5 t) r e).trans ?_
  unfold lastRow
  simp only [blk0, blk1, blk2, blk3, blk4, blk5]

/-- The result array after the run. -/
theorem final_array :
    (dats m 0 c).arrAt 6 cfg0.N = lastAll (argO m c) (argX m c) (argG m c) (argW m c) (argP m c) (argF m c) := by
  refine (dats m 0 c).arrAt_eq_of_covers 6 _ (by decide +kernel) fun t hf y => ?_
  blk_simp
  rw [after0_6]
  have hy : y = ix3 0 (y 1) (y 2) := by
    funext a
    match a with
    | 0 => exact Fin.ext (by have h := (y 0).isLt; change (y 0).val < 1 at h; show (y 0).val = 0; omega)
    | 1 => rfl
    | 2 => rfl
  rw [hy]
  refine (point_apply m c t (y 1) (y 2)).trans ?_
  unfold lastAll
  congr 1
  all_goals
    refine Fin.ext ?_
    blk_simp [index6] <;> first | rfl | (show _ = _; simp [g0, g1, gRow] <;> omega)

end Cert.Kernel2Ideal.Last

end
-- ==== Proof.Last.Ref.lean ====
module

public import proofs.«01_k».proof.Proof.Last.Spec
public import proofs.«01_k».proof.Proof.Gen.Reference2Ideal.Read
public import Idealize.ShloMosaic.Lib.IdealHost

/-! # The reference of the final call, at an index -/

@[expose] public section

noncomputable section

namespace Cert.Reference2Ideal.Read

open Cert.Reference2Ideal Cert.Reference2Ideal.Gen Idealize.ShloMosaic Cert.Last
open scoped BigOperators

theorem lit_zero : (FloatOps.ofBits .f32 0x00000000#32 : Ideal .f32) = (0 : EReal) := Ideal.ofBits_zero_f32
theorem lit_one : (FloatOps.ofBits .f32 0x3F800000#32 : Ideal .f32) = (1 : EReal) := Ideal.ofBits_one_f32

variable (o x : ArgO) (g : ArgG) (w : ArgW) (p : ArgP) (f : ArgF)

/-- The first normalization. -/
theorem v14_at (b : Fin 8) (X : Fin 4096) (e : Fin 1024) : val_main_v14 (F := Ideal) x g (ix3 b X e)
    = nrm (fun e => x (ix3 b X e)) (fun e => g (ix2 1 e)) e := by
  rw [val_main_v14_apply, val_main_v11_apply, val_main_v10_apply, val_main_v9_apply, val_main_v8_apply, val_main_v6_apply,
    val_main_v4_apply, val_main_v3_apply, val_main_cst_apply, lit_zero, zero_add, val_main_v5_apply, val_main_cst_0_apply,
    val_main_v7_apply, val_main_cst_1_apply, val_main_v13_apply, val_main_v12_apply, val_main_v1_apply, val_main_v0_apply]
  have hg : idx_main_v0 (idx_main_v1 (idx_main_v12 (idx_main_v13 (ix3 b X e)))) = (ix2 1 e : S2x1024.Idx) := funext fun a => Fin.ext (by
    match a with
    | 0 => rfl
    | 1 => show e.val % 1024 = e.val; omega)
  have hx (k : Fin 1024) : idx_main_v3 (idx_main_v4 (idx_main_v10 (ix3 b X e))) k = ix3 b X k := funext fun a => match a with
    | 0 => rfl
    | 1 => rfl
    | 2 => rfl
  rw [hg]
  simp only [hx, val_main_v2_apply]
  rfl

/-- The gate before its nonlinearity. -/
theorem v21_at (b : Fin 8) (X : Fin 4096) (k : Fin 1024) : val_main_v21 (F := Ideal) x g w (ix3 b X k)
    = ∑ j : Fin 1024, nrm (fun e => x (ix3 b X e)) (fun e => g (ix2 1 e)) j * w (ix3 1 j ⟨3072 + k.val, by omega⟩) := by
  rw [val_main_v21_apply, val_main_v17_apply]
  refine Finset.sum_congr rfl fun j _ => ?_
  have hl : lidx_main_v17 (idx_main_v21 (ix3 b X k)) j = ix3 b X j := funext fun a => match a with
    | 0 => rfl
    | 1 => rfl
    | 2 => rfl
  have hr : idx_main_v15 (idx_main_v16 (ridx_main_v17 (idx_main_v21 (ix3 b X k)) j)) = (ix3 1 j ⟨3072 + k.val, by omega⟩ : S2x1024x4096.Idx) :=
    funext fun a => Fin.ext (by
      have hj := j.isLt
      have hk := k.isLt
      match a with
      | 0 => rfl
      | 1 => show (j.val * 4096 + (3072 + k.val)) / 4096 % 1024 = j.val; omega
      | 2 => show (j.val * 4096 + (3072 + k.val)) % 4096 = 3072 + k.val; omega)
  rw [hl, v14_at, val_main_v16_apply, val_main_v15_apply, hr]

/-- The gated output. -/
theorem v24_at (b : Fin 8) (X : Fin 4096) (k : Fin 1024) : val_main_v24 (F := Ideal) o x g w (ix3 b X k)
    = o (ix3 b X k) * silu (∑ j : Fin 1024, nrm (fun e => x (ix3 b X e)) (fun e => g (ix2 1 e)) j * w (ix3 1 j ⟨3072 + k.val, by omega⟩)) := by
  rw [val_main_v24_apply, val_main_v22_apply, val_main_v23_apply, val_main_call0_v5_apply, val_main_call0_v4_apply,
    val_main_call0_cst_0_apply, val_main_call0_v3_apply, val_main_call0_v2_apply, val_main_call0_cst_apply,
    val_main_call0_v1_apply, val_main_call0_v0_apply, v21_at, lit_one, ← silu_eq]
  rfl

/-- The row before the last normalization. -/
theorem v28_at (b : Fin 8) (X : Fin 4096) (e : Fin 1024) : val_main_v28 (F := Ideal) o x g w p (ix3 b X e)
    = resid (fun e => x (ix3 b X e)) (fun e => o (ix3 b X e)) (fun e => g (ix2 1 e))
      (fun j k => w (ix3 1 j ⟨3072 + k.val, by omega⟩)) (fun k e => p (ix3 1 k e)) e := by
  rw [val_main_v28_apply, val_main_v27_apply, Ideal.addf_def]
  unfold resid
  refine congrArg (x (ix3 b X e) + ·) (Finset.sum_congr rfl fun k _ => ?_)
  have hl : lidx_main_v27 (ix3 b X e) k = ix3 b X k := funext fun a => match a with
    | 0 => rfl
    | 1 => rfl
    | 2 => rfl
  have hr : idx_main_v25 (idx_main_v26 (ridx_main_v27 (ix3 b X e) k)) = (ix3 1 k e : S2x1024x1024.Idx) :=
    funext fun a => Fin.ext (by
      have hk := k.isLt
      have he := e.isLt
      match a with
      | 0 => rfl
      | 1 => show (k.val * 1024 + e.val) / 1024 % 1024 = k.val; omega
      | 2 => show (k.val * 1024 + e.val) % 1024 = e.val; omega)
  rw [hl, v24_at, val_main_v26_apply, val_main_v25_apply, hr]

/-- The reference's result. -/
theorem result : val_main_v41 (F := Ideal) o x g w p f = lastAll o x g w p f := by
  funext i
  obtain ⟨b, hb⟩ : ∃ b : Fin 8, b = i 0 := ⟨_, rfl⟩
  obtain ⟨X, hX⟩ : ∃ X : Fin 4096, X = i 1 := ⟨_, rfl⟩
  obtain ⟨e, he⟩ : ∃ e : Fin 1024, e = i 2 := ⟨_, rfl⟩
  have hi : i = ix3 b X e := funext fun a => match a with
    | 0 => hb.symm
    | 1 => hX.symm
    | 2 => he.symm
  subst hi
  clear hb hX he
  show val_main_v41 (F := Ideal) o x g w p f (ix3 b X e) = lastRow o x g w p f b X e
  rw [val_main_v41_apply, val_main_v38_apply, val_main_v37_apply, val_main_v36_apply, val_main_v35_apply, val_main_v33_apply,
    val_main_v31_apply, val_main_v30_apply, val_main_cst_2_apply, lit_zero, zero_add, val_main_v32_apply, val_main_cst_3_apply,
    val_main_v34_apply, val_main_cst_4_apply, val_main_v40_apply, val_main_v39_apply, v28_at]
  have hf : idx_main_v39 (idx_main_v40 (ix3 b X e)) = (ix1 e : S1024.Idx) := funext fun a => match a with
    | 0 => rfl
  have hx (k : Fin 1024) : idx_main_v30 (idx_main_v31 (idx_main_v37 (ix3 b X e))) k = ix3 b X k := funext fun a => match a with
    | 0 => rfl
    | 1 => rfl
    | 2 => rfl
  rw [hf]
  simp only [hx, val_main_v29_apply, v28_at]
  rfl

end Cert.Reference2Ideal.Read

end
-- ==== Proof.Last.Claim.lean ====
module

public import proofs.«01_k».proof.Defs
public import proofs.«01_k».proof.Proof.Last.Ker
public import proofs.«01_k».proof.Proof.Last.Ref
public import proofs.«01_k».proof.Proof.Gen.Kernel2.Frame

/-! # The final call: its frames and its value claim -/

@[expose] public section

noncomputable section

namespace Cert.Last

open Idealize.ShloMosaic Idealize.SL.Sem

theorem kernel_frame : Cert.quiescent_Kernel2 (hKernel2 := Cert.Kernel2.Gen.facts) :=
  fun m g _ => Cert.Kernel2.Gen.frame (F := Bits) m g

theorem ideal_frame : Cert.quiescent_Kernel2Ideal (hKernel2Ideal := Cert.Kernel2Ideal.Gen.facts) :=
  fun m g _ => Cert.Kernel2Ideal.Gen.frame (F := Ideal) m g

theorem reference_frame : Cert.quiescent_Reference2Ideal (hReference2Ideal := Cert.Reference2Ideal.Gen.facts) :=
  fun m g _ => (θ_run _ _ _).mono (fun r h => ⟨fun c => (h c).2, sem_eq_zero_of_no_sems (by decide) r.2⟩)
    (Cert.Reference2Ideal.Value.run (F := Ideal) m g)

/-- Nothing was rewritten. -/
theorem names : Cert.preserves_Kernel2_Kernel2Ideal := trivial

theorem value_claim : Cert.algebraic_Kernel2Ideal_Reference2Ideal (hKernel2Ideal := Cert.Kernel2Ideal.Gen.facts)
    (hReference2Ideal := Cert.Reference2Ideal.Gen.facts) := by
  intro m g m' g' _ hm
  refine ⟨fun c => lastAll (Cert.Kernel2Ideal.Last.argO m c) (Cert.Kernel2Ideal.Last.argX m c) (Cert.Kernel2Ideal.Last.argG m c)
    (Cert.Kernel2Ideal.Last.argW m c) (Cert.Kernel2Ideal.Last.argP m c) (Cert.Kernel2Ideal.Last.argF m c), ?_, ?_⟩
  · exact (θ_run _ _ _).mono (fun r h c => ⟨(h c).1.trans (Cert.Kernel2Ideal.Last.final_array m c), (h c).2⟩)
      (Cert.Kernel2Ideal.Value.run_blocks (F := Ideal) m g)
  · refine (θ_run _ _ _).mono (fun r h c => ⟨(h c).1.trans ?_, (h c).2⟩) (Cert.Reference2Ideal.Value.run (F := Ideal) m' g')
    rw [Cert.Reference2Ideal.Read.val_main_v41_eq, (hm c).1, (hm c).2.1, (hm c).2.2.1, (hm c).2.2.2.1, (hm c).2.2.2.2.1,
      (hm c).2.2.2.2.2]
    exact Cert.Reference2Ideal.Read.result _ _ _ _ _ _

end Cert.Last

end
-- ==== Proof.First.Spec.lean ====
module

public import proofs.«01_k».proof.Proof.Last.Spec

/-! # What the first call computes, over the extended reals

A row of the residual stream is normalized and projected; the four groups of 1024 columns of the projection are the queries,
the keys, the values and the gate. The queries are scaled and transposed, the values cut into blocks of 256 positions and each
block transposed. -/

@[expose] public section

noncomputable section

namespace Cert.First

open Idealize.ShloMosaic Cert.Last
open scoped BigOperators

abbrev ArgQ := (⟨3, ![8, 1024, 4096]⟩ : Shape).Idx → EReal
abbrev ArgV := (⟨4, ![8, 16, 1024, 256]⟩ : Shape).Idx → EReal

/-- Column `n` of the projection of the normalized row `X` of batch entry `b`. -/
def proj (x : ArgO) (g : ArgG) (w : ArgW) (b : Fin 8) (X : Fin 4096) (n : Fin 4096) : EReal :=
  ∑ j : Fin 1024, nrm (fun e => x (ix3 b X e)) (fun e => g (ix2 0 e)) j * w (ix3 0 j n)

/-- Column `e` of group `a` of the projection. -/
def col (a : Fin 4) (e : Fin 1024) : Fin 4096 := ⟨1024 * a.val + e.val, by omega⟩

/-- Position `r` of block `a`. -/
def pos (a : Fin 16) (r : Fin 256) : Fin 4096 := ⟨256 * a.val + r.val, by omega⟩

def qScale : EReal := (((Real.log 256)⁻¹ : ℝ) : EReal)

def keysAll (x : ArgO) (g : ArgG) (w : ArgW) : ArgO := fun i => proj x g w (i 0) (i 1) (col 1 (i 2))
def gateAll (x : ArgO) (g : ArgG) (w : ArgW) : ArgO := fun i => proj x g w (i 0) (i 1) (col 3 (i 2))
def queriesAll (x : ArgO) (g : ArgG) (w : ArgW) : ArgQ := fun i => proj x g w (i 0) (i 2) (col 0 (i 1)) * qScale
def valuesAll (x : ArgO) (g : ArgG) (w : ArgW) : ArgV := fun i => proj x g w (i 0) (pos (i 1) (i 3)) (col 2 (i 2))

end Cert.First

end
-- ==== Proof.First.Body.lean ====
module

public import proofs.«01_k».proof.Proof.First.Spec
public import proofs.«01_k».proof.Proof.Gen.Kernel3Ideal.Value
public import Idealize.ShloMosaic.Lib.IdealHost
public import Idealize.ShloMosaic.Lib.Pipeline.ValueKit

/-! # What one grid point of the first call leaves -/

@[expose] public section

noncomputable section

namespace Cert.Kernel3Ideal.First

open Idealize.ShloMosaic
open Idealize.ShloMosaic.TcCoe Idealize.ShloMosaic.Tactic
open Idealize.SL Idealize.SL.RA Idealize.SL.Sem
open Cert.Kernel3Ideal Cert.Kernel3Ideal.Gen Cert.Last Cert.First
open scoped BigOperators

theorem hz2 : (![0, 0] : Fin 2 → ℕ) = fun _ => 0 := funext fun a => by fin_cases a <;> rfl
theorem hz3 : (![0, 0, 0] : Fin 3 → ℕ) = fun _ => 0 := funext fun a => by fin_cases a <;> rfl

/-- The four stores of the transposed values, the last first. -/
def valuePieces (n : FVec Ideal S1024x1024 .bf16) (w : Vec Ideal S1024x1024 .bf16) : List (View.Piece (Elt Ideal) S1x4x1024x256 .bf16) :=
  [⟨Rect.unit (s := S1x4x1024x256) ![0, 3, 0, 0] S1x1x1024x256.size inb_S1x4x1024x256_S1x1x1024x256_0_3_0_0, k0_pay1 (k0_pay13 n w)⟩,
   ⟨Rect.unit (s := S1x4x1024x256) ![0, 2, 0, 0] S1x1x1024x256.size inb_S1x4x1024x256_S1x1x1024x256_0_2_0_0, k0_pay12 n w⟩,
   ⟨Rect.unit (s := S1x4x1024x256) ![0, 1, 0, 0] S1x1x1024x256.size inb_S1x4x1024x256_S1x1x1024x256_0_1_0_0, k0_pay11 n w⟩,
   ⟨Rect.unit (s := S1x4x1024x256) ![0, 0, 0, 0] S1x1x1024x256.size inb_S1x4x1024x256_S1x1x1024x256_0_0_0_0, k0_pay10 n w⟩]

section Runs

variable (c : Dev nD) (i : grid0.Coords) (a2 : Memref sig .tc .vmem S1x1024x1024 .f32) (h2 : a2.IsWhole) (a3 : Memref sig .tc .vmem S1x1024 .f32) (h3 : a3.IsWhole) (a4 : Memref sig .tc .vmem S1x1024x1024 .f32) (h4 : a4.IsWhole) (a5 : Memref sig .tc .vmem S1x1024x1024 .f32) (h5 : a5.IsWhole) (a6 : Memref sig .tc .vmem S1x1024x1024 .f32) (h6 : a6.IsWhole) (a7 : Memref sig .tc .vmem S1x1024x1024 .f32) (h7 : a7.IsWhole) (a8 : Memref sig .tc .vmem S1x1024x1024 .bf16) (h8 : a8.IsWhole) (a9 : Memref sig .tc .vmem S1x1024x1024 .bf16) (h9 : a9.IsWhole) (a10 : Memref sig .tc .vmem S1x1024x1024 .bf16) (h10 : a10.IsWhole) (a11 : Memref sig .tc .vmem S1x4x1024x256 .bf16) (h11 : a11.IsWhole) (a12 : Memref sig .tc .vmem S1024x1024 .bf16) (h12 : a12.IsWhole) (a13 : Memref sig .tc .vmem S1024x1024 .bf16) (h13 : a13.IsWhole)

theorem keys_A (hc : cond0_0 i) (x0 : Vec Ideal S1x1024x1024 .f32) (x1 : Vec Ideal S1x1024 .f32) (x2 x3 x4 x5 : Vec Ideal S1x1024x1024 .f32) :
    out0_A_6 (F := Ideal) c i a2 h2 a3 h3 a4 h4 a5 h5 a6 h6 a7 h7 a8 h8 a9 h9 a10 h10 a11 h11 a12 h12 a13 h13 hc x0 x1 x2 x3 x4 x5 = k0_pay5 x0 x1 x2 := by
  unfold out0_A_6
  rw [View.read_writes_junk_eq_canon]
  unfold kernelRun0_A
  dsimp only
  sl_unfold_words
  rw [View.canon_unit_zero (S := S1x1024x1024) hz3]
  simp only [View.readAt_eq_ld, h2.read_unread, h3.read_unread, h4.read_unread, h5.read_unread, h6.read_unread, h7.read_unread, h12.read_unread, h13.read_unread, View.ld_unit_zero (S := S1x1024x1024) hz3, View.ld_unit_zero (S := S1x1024) hz2, View.ld_unit_zero (S := S1024x1024) hz2, View.readCov_unit_zero (S := S1024x1024) _ hz2]

theorem gate_A (hc : cond0_0 i) (x0 : Vec Ideal S1x1024x1024 .f32) (x1 : Vec Ideal S1x1024 .f32) (x2 x3 x4 x5 : Vec Ideal S1x1024x1024 .f32) :
    out0_A_7 (F := Ideal) c i a2 h2 a3 h3 a4 h4 a5 h5 a6 h6 a7 h7 a8 h8 a9 h9 a10 h10 a11 h11 a12 h12 a13 h13 hc x0 x1 x2 x3 x4 x5 = k0_pay7 (k0_pay6 x0 x1 x3) := by
  unfold out0_A_7
  rw [View.read_writes_junk_eq_canon]
  unfold kernelRun0_A
  dsimp only
  sl_unfold_words
  rw [View.canon_unit_zero (S := S1x1024x1024) hz3]
  simp only [View.readAt_eq_ld, h2.read_unread, h3.read_unread, h4.read_unread, h5.read_unread, h6.read_unread, h7.read_unread, h12.read_unread, h13.read_unread, View.ld_unit_zero (S := S1x1024x1024) hz3, View.ld_unit_zero (S := S1x1024) hz2, View.ld_unit_zero (S := S1024x1024) hz2, View.readCov_unit_zero (S := S1024x1024) _ hz2]

theorem queries_A (hc : cond0_0 i) (x0 : Vec Ideal S1x1024x1024 .f32) (x1 : Vec Ideal S1x1024 .f32) (x2 x3 x4 x5 : Vec Ideal S1x1024x1024 .f32) :
    out0_A_8 (F := Ideal) c i a2 h2 a3 h3 a4 h4 a5 h5 a6 h6 a7 h7 a8 h8 a9 h9 a10 h10 a11 h11 a12 h12 a13 h13 hc x0 x1 x2 x3 x4 x5 = k0_pay8 (k0_pay4 x0 x1) (k0_pay2 x4) := by
  unfold out0_A_8
  rw [View.read_writes_junk_eq_canon]
  unfold kernelRun0_A
  dsimp only
  sl_unfold_words
  rw [View.canon_unit_zero (S := S1x1024x1024) hz3]
  simp only [View.readAt_eq_ld, h2.read_unread, h3.read_unread, h4.read_unread, h5.read_unread, h6.read_unread, h7.read_unread, h12.read_unread, h13.read_unread, View.ld_unit_zero (S := S1x1024x1024) hz3, View.ld_unit_zero (S := S1x1024) hz2, View.ld_unit_zero (S := S1024x1024) hz2, View.readCov_unit_zero (S := S1024x1024) _ hz2]

theorem keys_B (hc : ¬cond0_0 i) (x0 : Vec Ideal S1x1024x1024 .f32) (x1 : Vec Ideal S1x1024 .f32) (x2 x3 x4 x5 : Vec Ideal S1x1024x1024 .f32) (s0 s1 : Vec Ideal S1024x1024 .bf16) :
    out0_B_6 (F := Ideal) c i a2 h2 a3 h3 a4 h4 a5 h5 a6 h6 a7 h7 a8 h8 a9 h9 a10 h10 a11 h11 a12 h12 a13 h13 hc x0 x1 x2 x3 x4 x5 s0 s1 = k0_pay5 x0 x1 x2 := by
  unfold out0_B_6
  rw [View.read_writes_junk_eq_canon]
  unfold kernelRun0_B
  dsimp only
  rw [View.canon_unit_zero (S := S1x1024x1024) hz3]
  simp only [View.readAt_eq_ld, h2.read_unread, h3.read_unread, h4.read_unread, h5.read_unread, h6.read_unread, h7.read_unread, h12.read_unread, h13.read_unread, View.ld_unit_zero (S := S1x1024x1024) hz3, View.ld_unit_zero (S := S1x1024) hz2, View.ld_unit_zero (S := S1024x1024) hz2]

theorem gate_B (hc : ¬cond0_0 i) (x0 : Vec Ideal S1x1024x1024 .f32) (x1 : Vec Ideal S1x1024 .f32) (x2 x3 x4 x5 : Vec Ideal S1x1024x1024 .f32) (s0 s1 : Vec Ideal S1024x1024 .bf16) :
    out0_B_7 (F := Ideal) c i a2 h2 a3 h3 a4 h4 a5 h5 a6 h6 a7 h7 a8 h8 a9 h9 a10 h10 a11 h11 a12 h12 a13 h13 hc x0 x1 x2 x3 x4 x5 s0 s1 = k0_pay7 (k0_pay6 x0 x1 x3) := by
  unfold out0_B_7
  rw [View.read_writes_junk_eq_canon]
  unfold kernelRun0_B
  dsimp only
  sl_unfold_words
  rw [View.canon_unit_zero (S := S1x1024x1024) hz3]
  simp only [View.readAt_eq_ld, h2.read_unread, h3.read_unread, h4.read_unread, h5.read_unread, h6.read_unread, h7.read_unread, h12.read_unread, h13.read_unread, View.ld_unit_zero (S := S1x1024x1024) hz3, View.ld_unit_zero (S := S1x1024) hz2, View.ld_unit_zero (S := S1024x1024) hz2]

theorem queries_B (hc : ¬cond0_0 i) (x0 : Vec Ideal S1x1024x1024 .f32) (x1 : Vec Ideal S1x1024 .f32) (x2 x3 x4 x5 : Vec Ideal S1x1024x1024 .f32) (s0 s1 : Vec Ideal S1024x1024 .bf16) :
    out0_B_8 (F := Ideal) c i a2 h2 a3 h3 a4 h4 a5 h5 a6 h6 a7 h7 a8 h8 a9 h9 a10 h10 a11 h11 a12 h12 a13 h13 hc x0 x1 x2 x3 x4 x5 s0 s1 = k0_pay8 (k0_pay4 x0 x1) (s0) := by
  unfold out0_B_8
  rw [View.read_writes_junk_eq_canon]
  unfold kernelRun0_B
  dsimp only
  sl_unfold_words
  rw [View.canon_unit_zero (S := S1x1024x1024) hz3]
  simp only [View.readAt_eq_ld, h2.read_unread, h3.read_unread, h4.read_unread, h5.read_unread, h6.read_unread, h7.read_unread, h12.read_unread, h13.read_unread, View.ld_unit_zero (S := S1x1024x1024) hz3, View.ld_unit_zero (S := S1x1024) hz2, View.ld_unit_zero (S := S1024x1024) hz2]

theorem wq_A (hc : cond0_0 i) (x0 : Vec Ideal S1x1024x1024 .f32) (x1 : Vec Ideal S1x1024 .f32) (x2 x3 x4 x5 : Vec Ideal S1x1024x1024 .f32) :
    sout0_A_0 (F := Ideal) c i a2 h2 a3 h3 a4 h4 a5 h5 a6 h6 a7 h7 a8 h8 a9 h9 a10 h10 a11 h11 a12 h12 a13 h13 hc x0 x1 x2 x3 x4 x5 = k0_pay2 x4 := by
  unfold sout0_A_0
  rw [View.read_writes_junk_eq_canon]
  unfold kernelRun0_A
  dsimp only
  sl_unfold_words
  rw [View.canon_unit_zero (S := S1024x1024) hz2]
  simp only [View.readAt_eq_ld, h2.read_unread, h3.read_unread, h4.read_unread, h5.read_unread, h6.read_unread, h7.read_unread, h12.read_unread, h13.read_unread, View.ld_unit_zero (S := S1x1024x1024) hz3, View.ld_unit_zero (S := S1x1024) hz2, View.ld_unit_zero (S := S1024x1024) hz2, View.readCov_unit_zero (S := S1024x1024) _ hz2]

theorem wv_A (hc : cond0_0 i) (x0 : Vec Ideal S1x1024x1024 .f32) (x1 : Vec Ideal S1x1024 .f32) (x2 x3 x4 x5 : Vec Ideal S1x1024x1024 .f32) :
    sout0_A_1 (F := Ideal) c i a2 h2 a3 h3 a4 h4 a5 h5 a6 h6 a7 h7 a8 h8 a9 h9 a10 h10 a11 h11 a12 h12 a13 h13 hc x0 x1 x2 x3 x4 x5 = k0_pay3 x5 := by
  unfold sout0_A_1
  rw [View.read_writes_junk_eq_canon]
  unfold kernelRun0_A
  dsimp only
  sl_unfold_words
  rw [View.canon_unit_zero (S := S1024x1024) hz2]
  simp only [View.readAt_eq_ld, h2.read_unread, h3.read_unread, h4.read_unread, h5.read_unread, h6.read_unread, h7.read_unread, h12.read_unread, h13.read_unread, View.ld_unit_zero (S := S1x1024x1024) hz3, View.ld_unit_zero (S := S1x1024) hz2, View.ld_unit_zero (S := S1024x1024) hz2, View.readCov_unit_zero (S := S1024x1024) _ hz2]

theorem values_A (hc : cond0_0 i) (x0 : Vec Ideal S1x1024x1024 .f32) (x1 : Vec Ideal S1x1024 .f32) (x2 x3 x4 x5 : Vec Ideal S1x1024x1024 .f32) :
    out0_A_9 (F := Ideal) c i a2 h2 a3 h3 a4 h4 a5 h5 a6 h6 a7 h7 a8 h8 a9 h9 a10 h10 a11 h11 a12 h12 a13 h13 hc x0 x1 x2 x3 x4 x5 = View.canon (valuePieces (k0_pay4 x0 x1) (k0_pay3 x5)) := by
  unfold out0_A_9
  rw [View.read_writes_junk_eq_canon]
  unfold kernelRun0_A
  dsimp only
  sl_unfold_words
  unfold valuePieces
  simp only [View.readAt_eq_ld, h2.read_unread, h3.read_unread, h4.read_unread, h5.read_unread, h6.read_unread, h7.read_unread, h12.read_unread, h13.read_unread, View.ld_unit_zero (S := S1x1024x1024) hz3, View.ld_unit_zero (S := S1x1024) hz2, View.ld_unit_zero (S := S1024x1024) hz2, View.readCov_unit_zero (S := S1024x1024) _ hz2]

theorem values_B (hc : ¬cond0_0 i) (x0 : Vec Ideal S1x1024x1024 .f32) (x1 : Vec Ideal S1x1024 .f32) (x2 x3 x4 x5 : Vec Ideal S1x1024x1024 .f32) (s0 s1 : Vec Ideal S1024x1024 .bf16) :
    out0_B_9 (F := Ideal) c i a2 h2 a3 h3 a4 h4 a5 h5 a6 h6 a7 h7 a8 h8 a9 h9 a10 h10 a11 h11 a12 h12 a13 h13 hc x0 x1 x2 x3 x4 x5 s0 s1 = View.canon (valuePieces (k0_pay4 x0 x1) s1) := by
  unfold out0_B_9
  rw [View.read_writes_junk_eq_canon]
  unfold kernelRun0_B
  dsimp only
  sl_unfold_words
  unfold valuePieces
  simp only [View.readAt_eq_ld, h2.read_unread, h3.read_unread, h4.read_unread, h5.read_unread, h6.read_unread, h7.read_unread, h12.read_unread, h13.read_unread, View.ld_unit_zero (S := S1x1024x1024) hz3, View.ld_unit_zero (S := S1x1024) hz2, View.ld_unit_zero (S := S1024x1024) hz2]

end Runs

end Cert.Kernel3Ideal.First

end
-- ==== Proof.First.Pay.lean ====
module

public import proofs.«01_k».proof.Proof.First.Body
public import Idealize.ShloMosaic.Lib.WritesUnit

/-! # The body's terms at an index -/

@[expose] public section

noncomputable section

namespace Cert.Kernel3Ideal.First

open Idealize.ShloMosaic
open Idealize.ShloMosaic.TcCoe Idealize.ShloMosaic.Tactic
open Idealize.SL Idealize.SL.RA Idealize.SL.Sem
open Cert.Kernel3Ideal Cert.Kernel3Ideal.Gen Cert.Last Cert.First
open scoped BigOperators

variable (x0 x2 x4 : Vec Ideal S1x1024x1024 .f32) (x1 : Vec Ideal S1x1024 .f32) (n : FVec Ideal S1024x1024 .bf16)
  (w : Vec Ideal S1024x1024 .bf16)

theorem pay4_apply (r e : Fin 1024) : k0_pay4 (F := Ideal) x0 x1 (ix2 r e)
    = nrm (fun e => x0 (ix3 0 r e)) (fun e => x1 (ix2 0 e)) e := by
  unfold k0_pay4
  pointwise
  rfl

theorem pay2_apply (e j : Fin 1024) : k0_pay2 (F := Ideal) x4 (ix2 e j) = x4 (ix3 0 j e) := by
  unfold k0_pay2
  pointwise

theorem pay3_apply (e j : Fin 1024) : k0_pay3 (F := Ideal) x4 (ix2 e j) = x4 (ix3 0 j e) := by
  unfold k0_pay3
  pointwise

theorem pay5_apply (r e : Fin 1024) : k0_pay5 (F := Ideal) x0 x1 x2 (ix3 0 r e)
    = ∑ j : Fin 1024, nrm (fun e => x0 (ix3 0 r e)) (fun e => x1 (ix2 0 e)) j * x2 (ix3 0 j e) := by
  unfold k0_pay5
  generalize hn : k0_pay4 (F := Ideal) x0 x1 = n
  pointwise
  simp only [← hn, pay4_apply]

theorem pay76_apply (r e : Fin 1024) : k0_pay7 (F := Ideal) (k0_pay6 x0 x1 x2) (ix3 0 r e)
    = ∑ j : Fin 1024, nrm (fun e => x0 (ix3 0 r e)) (fun e => x1 (ix2 0 e)) j * x2 (ix3 0 j e) := by
  unfold k0_pay7 k0_pay6
  generalize hn : k0_pay4 (F := Ideal) x0 x1 = n
  pointwise
  simp only [← hn, pay4_apply]

theorem scale_eq : (Named.named κ "q_scale" 0x3E38AA3B#32 : Ideal .f32) = qScale := by
  rfl

theorem pay8_apply (e r : Fin 1024) : k0_pay8 (F := Ideal) n w (ix3 0 e r)
    = (∑ j : Fin 1024, n (ix2 r j) * w (ix2 e j)) * qScale := by
  unfold k0_pay8
  simp only [scale_eq]
  generalize qScale = s
  pointwise
  refine congrArg (· * s) (Finset.sum_congr rfl fun j _ => mul_comm _ _)

theorem pay9_apply (e r : Fin 1024) : k0_pay9 (F := Ideal) n w (ix2 e r) = ∑ j : Fin 1024, n (ix2 r j) * w (ix2 e j) := by
  unfold k0_pay9
  pointwise
  exact Finset.sum_congr rfl fun j _ => mul_comm _ _

theorem pay10_apply (e : Fin 1024) (r : Fin 256) : k0_pay10 (F := Ideal) n w (ix4 0 0 e r)
    = ∑ j : Fin 1024, n (ix2 ⟨r.val, by omega⟩ j) * w (ix2 e j) := by
  rw [← pay9_apply n w e ⟨r.val, by omega⟩]
  unfold k0_pay10
  generalize k0_pay9 (F := Ideal) n w = p
  pointwise

theorem pay11_apply (e : Fin 1024) (r : Fin 256) : k0_pay11 (F := Ideal) n w (ix4 0 0 e r)
    = ∑ j : Fin 1024, n (ix2 ⟨256 + r.val, by omega⟩ j) * w (ix2 e j) := by
  rw [← pay9_apply n w e ⟨256 + r.val, by omega⟩]
  unfold k0_pay11
  generalize k0_pay9 (F := Ideal) n w = p
  pointwise

theorem pay12_apply (e : Fin 1024) (r : Fin 256) : k0_pay12 (F := Ideal) n w (ix4 0 0 e r)
    = ∑ j : Fin 1024, n (ix2 ⟨512 + r.val, by omega⟩ j) * w (ix2 e j) := by
  rw [← pay9_apply n w e ⟨512 + r.val, by omega⟩]
  unfold k0_pay12
  generalize k0_pay9 (F := Ideal) n w = p
  pointwise

theorem pay13_apply (e : Fin 1024) (r : Fin 256) : k0_pay1 (F := Ideal) (k0_pay13 n w) (ix4 0 0 e r)
    = ∑ j : Fin 1024, n (ix2 ⟨768 + r.val, by omega⟩ j) * w (ix2 e j) := by
  rw [← pay9_apply n w e ⟨768 + r.val, by omega⟩]
  unfold k0_pay1 k0_pay13
  generalize k0_pay9 (F := Ideal) n w = p
  pointwise

/-- What the four stores leave. -/
theorem values_apply (a : Fin 4) (e : Fin 1024) (r : Fin 256) : View.canon (valuePieces n w) (ix4 0 a e r)
    = ∑ j : Fin 1024, n (ix2 ⟨256 * a.val + r.val, by omega⟩ j) * w (ix2 e j) := by
  unfold valuePieces
  rw [← View.read_writes_junk_eq_canon VO0_9]
  have out {o : Fin 4 → ℕ} (hb : ∀ k, o k + S1x1x1024x256.size k ≤ S1x4x1024x256.size k) (p : (Rect.unit (s := S1x4x1024x256) o S1x1x1024x256.size hb).shape.Idx → Elt Ideal .bf16)
      (L : List (View.Piece (Elt Ideal) S1x4x1024x256 .bf16)) (h : a.val < o 1 ∨ o 1 + 1 ≤ a.val) :
      VO0_9.read (Elt Ideal) (VO0_9.writes (Elt Ideal) VO0_9.junk (⟨Rect.unit o S1x1x1024x256.size hb, p⟩ :: L)) (ix4 0 a e r)
        = VO0_9.read (Elt Ideal) (VO0_9.writes (Elt Ideal) VO0_9.junk L) (ix4 0 a e r) :=
    View.read_writes_cons_unit_of_not_mem VO0_9 VO0_9.junk hb p L (ix4 0 a e r) rfl 1 h
  have ins {k : ℕ} (hk : a.val = k) (hb : ∀ d, (![0, k, 0, 0] : Fin 4 → ℕ) d + S1x1x1024x256.size d ≤ S1x4x1024x256.size d)
      (p : S1x1x1024x256.Idx → Elt Ideal .bf16)
      (L : List (View.Piece (Elt Ideal) S1x4x1024x256 .bf16)) :
      VO0_9.read (Elt Ideal) (VO0_9.writes (Elt Ideal) VO0_9.junk (⟨Rect.unit ![0, k, 0, 0] S1x1x1024x256.size hb, p⟩ :: L)) (ix4 0 a e r)
        = p (ix4 0 0 e r) :=
    View.read_writes_cons_unit_of_mem VO0_9 VO0_9.junk hb p L (ix4 0 a e r) (ix4 0 0 e r) rfl fun d => by
      match d with
      | 0 => rfl
      | 1 => show a.val = k + 0; omega
      | 2 => show e.val = 0 + e.val; omega
      | 3 => show r.val = 0 + r.val; omega
  by_cases h3 : a.val = 3
  · refine (ins h3 _ _ _).trans ((pay13_apply n w e r).trans ?_)
    simp only [h3]
  refine (out _ _ _ (by left; show a.val < 3; omega)).trans ?_
  by_cases h2 : a.val = 2
  · refine (ins h2 _ _ _).trans ((pay12_apply n w e r).trans ?_)
    simp only [h2]
  refine (out _ _ _ (by left; show a.val < 2; omega)).trans ?_
  by_cases h1 : a.val = 1
  · refine (ins h1 _ _ _).trans ((pay11_apply n w e r).trans ?_)
    simp only [h1]
  refine (out _ _ _ (by left; show a.val < 1; omega)).trans ?_
  have h0 : a.val = 0 := by omega
  refine (ins h0 _ _ _).trans ((pay10_apply n w e r).trans ?_)
  simp only [h0, Nat.mul_zero, Nat.zero_add]

end Cert.Kernel3Ideal.First

end
-- ==== Proof.First.Ker.lean ====
module

public import proofs.«01_k».proof.Proof.First.Pay

/-! # The first call's result arrays -/

@[expose] public section

noncomputable section

namespace Cert.Kernel3Ideal.First

open Idealize.ShloMosaic
open Idealize.ShloMosaic.TcCoe Idealize.ShloMosaic.Tactic
open Idealize.SL Idealize.SL.RA Idealize.SL.Sem
open Cert.Kernel3Ideal Cert.Kernel3Ideal.Gen Cert.Last Cert.First
open scoped BigOperators

/-! ## The blocks -/

variable (m : (ℓ : Loc nD τ sig) → Buf (Elt Ideal) ℓ) (c : Dev nD) (t : Fin cfg0.N)

theorem index0 : ∀ t : Fin grid0.N, win0_0.index t = ![(grid0.coords t 0).val, (grid0.coords t 1).val, 0] := by decide +kernel
theorem index1 : ∀ t : Fin grid0.N, win0_1.index t = ![0, 0] := by decide +kernel
theorem index2 : ∀ t : Fin grid0.N, win0_2.index t = ![0, 0, 1] := by decide +kernel
theorem index3 : ∀ t : Fin grid0.N, win0_3.index t = ![0, 0, 3] := by decide +kernel
theorem index4 : ∀ t : Fin grid0.N, win0_4.index t = ![0, 0, 0] := by decide +kernel
theorem index5 : ∀ t : Fin grid0.N, win0_5.index t = ![0, 0, 2] := by decide +kernel
theorem index6 : ∀ t : Fin grid0.N, win0_6.index t = ![(grid0.coords t 0).val, (grid0.coords t 1).val, 0] := by decide +kernel
theorem index7 : ∀ t : Fin grid0.N, win0_7.index t = ![(grid0.coords t 0).val, (grid0.coords t 1).val, 0] := by decide +kernel
theorem index8 : ∀ t : Fin grid0.N, win0_8.index t = ![(grid0.coords t 0).val, 0, (grid0.coords t 1).val] := by decide +kernel
theorem index9 : ∀ t : Fin grid0.N, win0_9.index t = ![(grid0.coords t 0).val, (grid0.coords t 1).val, 0, 0] := by decide +kernel

/-- A grid point's two coordinates. -/
def g0 (t : Fin grid0.N) : Fin 8 := grid0.coords t 0
def g1 (t : Fin grid0.N) : Fin 4 := grid0.coords t 1

/-- A block's row in the whole array. -/
def gRow (t : Fin grid0.N) (r : Fin 1024) : Fin 4096 := ⟨1024 * (g1 t).val + r.val, by omega⟩

abbrev argX : ArgO := m ((c.tc : Thread nD τ).loc main_arg0)
abbrev argG : ArgG := m ((c.tc : Thread nD τ).loc main_arg1)
abbrev argW : ArgW := m ((c.tc : Thread nD τ).loc main_arg2)

theorem V_v2 (e : Fin 1024) : V m c main_v2 (ix2 0 e) = argG m c (ix2 0 e) := by
  have h : V m c main_v2 = shapeCast S1x1024 (shapeCast S1024 (extractStridedSlice S1x1024 ![0, 0] (argG m c : FVec Ideal S2x1024 .f32)
      slices_S2x1024_S1x1024_0_0) shapeCasts_S1x1024_S1024) shapeCasts_S1024_S1x1024 := by
    unfold V hostOps0
    after_results
    rfl
  rw [h]
  pointwise

theorem blk0 (r e : Fin 1024) : iblk m c 0 t (ix3 0 r e) = argX m c (ix3 (g0 t) (gRow t r) e) := by
  rw [argX, ← V_main_arg0 m c]
  blk_simp [iblk]
  refine congrArg (V m c main_arg0) ?_
  blk_ext [index0, g0, g1, gRow]

theorem blk1 (e : Fin 1024) : iblk m c 1 t (ix2 0 e) = argG m c (ix2 0 e) := by
  rw [← V_v2 m c]
  blk_simp [iblk]
  refine congrArg (V m c main_v2) ?_
  blk_ext [index1]

theorem blk2 (j k : Fin 1024) : iblk m c 2 t (ix3 0 j k) = argW m c (ix3 0 j (col 1 k)) := by
  rw [argW, ← V_main_arg2 m c]
  blk_simp [iblk]
  refine congrArg (V m c main_arg2) ?_
  blk_ext [index2, col]

theorem blk3 (j k : Fin 1024) : iblk m c 3 t (ix3 0 j k) = argW m c (ix3 0 j (col 3 k)) := by
  rw [argW, ← V_main_arg2 m c]
  blk_simp [iblk]
  refine congrArg (V m c main_arg2) ?_
  blk_ext [index3, col]

theorem blk4 (j k : Fin 1024) : iblk m c 4 t (ix3 0 j k) = argW m c (ix3 0 j (col 0 k)) := by
  rw [argW, ← V_main_arg2 m c]
  blk_simp [iblk]
  refine congrArg (V m c main_arg2) ?_
  blk_ext [index4, col]

theorem blk5 (j k : Fin 1024) : iblk m c 5 t (ix3 0 j k) = argW m c (ix3 0 j (col 2 k)) := by
  rw [argW, ← V_main_arg2 m c]
  blk_simp [iblk]
  refine congrArg (V m c main_arg2) ?_
  blk_ext [index5, col]

/-! ## The weights carried between the points -/

/-- After every point the two carried arrays hold the transposed weights of the queries and of the values. -/
theorem carried : ∀ (n : ℕ) (hn : n < cfg0.N),
    (∀ e j : Fin 1024, (outsAt0 m c n hn).2.2.2.2.1 (ix2 e j) = argW m c (ix3 0 j (col 0 e)))
      ∧ ∀ e j : Fin 1024, (outsAt0 m c n hn).2.2.2.2.2 (ix2 e j) = argW m c (ix3 0 j (col 2 e)) := by
  have first (t : Fin cfg0.N) (h0 : t.val % 32 = 0) :
      (∀ e j : Fin 1024, (outsAt0 m c t.val t.isLt).2.2.2.2.1 (ix2 e j) = argW m c (ix3 0 j (col 0 e)))
        ∧ ∀ e j : Fin 1024, (outsAt0 m c t.val t.isLt).2.2.2.2.2 (ix2 e j) = argW m c (ix3 0 j (col 2 e)) := by
    rw [outsAt0_A m c t h0]
    dsimp only
    refine ⟨fun e j => ?_, fun e j => ?_⟩
    · rw [wq_A]
      exact (pay2_apply _ e j).trans (blk4 m c t j e)
    · rw [wv_A]
      exact (pay3_apply _ e j).trans (blk5 m c t j e)
  intro n
  induction n with
  | zero => exact fun hn => first ⟨0, hn⟩ (Nat.zero_mod _)
  | succ n ih =>
    intro hn
    by_cases h0 : (n + 1) % 32 = 0
    · exact first ⟨n + 1, hn⟩ h0
    · have h := outsAt0_B m c ⟨n + 1, hn⟩ h0
      dsimp only at h
      rw [h]
      exact ih (Nat.lt_of_succ_lt hn)

/-! ## What one point leaves -/

theorem point_keys (r e : Fin 1024) : (outsAt0 m c t.val t.isLt).1 (ix3 0 r e)
    = proj (argX m c) (argG m c) (argW m c) (g0 t) (gRow t r) (col 1 e) := by
  have h : (outsAt0 m c t.val t.isLt).1 = k0_pay5 (F := Ideal) (iblk m c 0 t) (iblk m c 1 t) (iblk m c 2 t) := by
    by_cases h0 : t.val % 32 = 0
    · rw [outsAt0_A m c t h0]
      dsimp only
      rw [keys_A]
    · rw [outsAt0_B m c t h0]
      dsimp only
      rw [keys_B]
  rw [h]
  refine (pay5_apply (iblk m c 0 t) (iblk m c 2 t) (iblk m c 1 t) r e).trans ?_
  unfold proj
  simp only [blk0, blk1, blk2]

theorem point_gate (r e : Fin 1024) : (outsAt0 m c t.val t.isLt).2.1 (ix3 0 r e)
    = proj (argX m c) (argG m c) (argW m c) (g0 t) (gRow t r) (col 3 e) := by
  have h : (outsAt0 m c t.val t.isLt).2.1 = k0_pay7 (F := Ideal) (k0_pay6 (iblk m c 0 t) (iblk m c 1 t) (iblk m c 3 t)) := by
    by_cases h0 : t.val % 32 = 0
    · rw [outsAt0_A m c t h0]
      dsimp only
      rw [gate_A]
    · rw [outsAt0_B m c t h0]
      dsimp only
      rw [gate_B]
  rw [h]
  refine (pay76_apply (iblk m c 0 t) (iblk m c 3 t) (iblk m c 1 t) r e).trans ?_
  unfold proj
  simp only [blk0, blk1, blk3]

theorem point_queries (e r : Fin 1024) : (outsAt0 m c t.val t.isLt).2.2.1 (ix3 0 e r)
    = proj (argX m c) (argG m c) (argW m c) (g0 t) (gRow t r) (col 0 e) * qScale := by
  obtain ⟨w, hw, h⟩ : ∃ w : Vec Ideal S1024x1024 .bf16, (∀ e j : Fin 1024, w (ix2 e j) = argW m c (ix3 0 j (col 0 e)))
      ∧ (outsAt0 m c t.val t.isLt).2.2.1 = k0_pay8 (F := Ideal) (k0_pay4 (iblk m c 0 t) (iblk m c 1 t)) w := by
    by_cases h0 : t.val % 32 = 0
    · refine ⟨k0_pay2 (F := Ideal) (iblk m c 4 t), fun e j => (pay2_apply _ e j).trans (blk4 m c t j e), ?_⟩
      rw [outsAt0_A m c t h0]
      dsimp only
      rw [queries_A]
    · refine ⟨_, (carried m c (t.val - 1) (Nat.lt_of_le_of_lt (Nat.sub_le _ _) t.isLt)).1, ?_⟩
      rw [outsAt0_B m c t h0]
      dsimp only
      rw [queries_B]
  rw [h]
  refine (pay8_apply _ w e r).trans ?_
  unfold proj
  refine congrArg (· * qScale) (Finset.sum_congr rfl fun j _ => ?_)
  rw [hw]
  refine congrArg (· * argW m c (ix3 0 j (col 0 e))) ((pay4_apply (iblk m c 0 t) (iblk m c 1 t) r j).trans ?_)
  simp only [blk0, blk1]

theorem point_values (a : Fin 4) (e : Fin 1024) (r : Fin 256) : (outsAt0 m c t.val t.isLt).2.2.2.1 (ix4 0 a e r)
    = proj (argX m c) (argG m c) (argW m c) (g0 t) (gRow t ⟨256 * a.val + r.val, by omega⟩) (col 2 e) := by
  obtain ⟨w, hw, h⟩ : ∃ w : Vec Ideal S1024x1024 .bf16, (∀ e j : Fin 1024, w (ix2 e j) = argW m c (ix3 0 j (col 2 e)))
      ∧ (outsAt0 m c t.val t.isLt).2.2.2.1 = View.canon (valuePieces (k0_pay4 (iblk m c 0 t) (iblk m c 1 t)) w) := by
    by_cases h0 : t.val % 32 = 0
    · refine ⟨k0_pay3 (F := Ideal) (iblk m c 5 t), fun e j => (pay3_apply _ e j).trans (blk5 m c t j e), ?_⟩
      rw [outsAt0_A m c t h0]
      dsimp only
      rw [values_A]
    · refine ⟨_, (carried m c (t.val - 1) (Nat.lt_of_le_of_lt (Nat.sub_le _ _) t.isLt)).2, ?_⟩
      rw [outsAt0_B m c t h0]
      dsimp only
      rw [values_B]
  rw [h]
  refine (values_apply _ w a e r).trans ?_
  unfold proj
  refine Finset.sum_congr rfl fun j _ => ?_
  rw [hw]
  refine congrArg (· * argW m c (ix3 0 j (col 2 e))) ((pay4_apply (iblk m c 0 t) (iblk m c 1 t) _ j).trans ?_)
  simp only [blk0, blk1]

/-! ## The arrays after the run -/

theorem block_index (y : S1x1024x1024.Idx) : y = ix3 0 (y 1) (y 2) := by
  funext a
  match a with
  | 0 => exact Fin.ext (by have h := (y 0).isLt; change (y 0).val < 1 at h; show (y 0).val = 0; omega)
  | 1 => rfl
  | 2 => rfl

theorem block_index4 (y : S1x4x1024x256.Idx) : y = ix4 0 (y 1) (y 2) (y 3) := by
  funext a
  match a with
  | 0 => exact Fin.ext (by have h := (y 0).isLt; change (y 0).val < 1 at h; show (y 0).val = 0; omega)
  | 1 => rfl
  | 2 => rfl
  | 3 => rfl

theorem final_keys : (dats m 0 c).arrAt 6 cfg0.N = keysAll (argX m c) (argG m c) (argW m c) := by
  refine (dats m 0 c).arrAt_eq_of_covers 6 _ (by decide +kernel) fun t hf y => ?_
  blk_simp
  rw [after0_6]
  rw [block_index y]
  refine (point_keys m c t (y 1) (y 2)).trans ?_
  unfold keysAll
  congr 1
  all_goals
    refine Fin.ext ?_
    try blk_simp [index6]
    all_goals first | rfl | (show _ = _; simp [index6, g0, g1, gRow, col] <;> omega)

theorem final_gate : (dats m 0 c).arrAt 7 cfg0.N = gateAll (argX m c) (argG m c) (argW m c) := by
  refine (dats m 0 c).arrAt_eq_of_covers 7 _ (by decide +kernel) fun t hf y => ?_
  blk_simp
  rw [after0_7]
  rw [block_index y]
  refine (point_gate m c t (y 1) (y 2)).trans ?_
  unfold gateAll
  congr 1
  all_goals
    refine Fin.ext ?_
    try blk_simp [index7]
    all_goals first | rfl | (show _ = _; simp [index7, g0, g1, gRow, col] <;> omega)

theorem final_queries : (dats m 0 c).arrAt 8 cfg0.N = queriesAll (argX m c) (argG m c) (argW m c) := by
  refine (dats m 0 c).arrAt_eq_of_covers 8 _ (by decide +kernel) fun t hf y => ?_
  blk_simp
  rw [after0_8]
  rw [block_index y]
  refine (point_queries m c t (y 1) (y 2)).trans ?_
  unfold queriesAll
  refine congrArg (· * qScale) ?_
  congr 1
  all_goals
    refine Fin.ext ?_
    try blk_simp [index8]
    all_goals first | rfl | (show _ = _; simp [index8, g0, g1, gRow, col] <;> omega)

theorem final_values : (dats m 0 c).arrAt 9 cfg0.N = valuesAll (argX m c) (argG m c) (argW m c) := by
  refine (dats m 0 c).arrAt_eq_of_covers 9 _ (by decide +kernel) fun t hf y => ?_
  blk_simp
  rw [after0_9]
  rw [block_index4 y]
  refine (point_values m c t (y 1) (y 2) (y 3)).trans ?_
  unfold valuesAll
  congr 1
  all_goals
    refine Fin.ext ?_
    try blk_simp [index9]
    all_goals first | rfl | (show _ = _; simp [index9, g0, g1, gRow, col, pos] <;> omega)

end Cert.Kernel3Ideal.First

end
-- ==== Proof.First.Ref.lean ====
module

public import proofs.«01_k».proof.Proof.First.Spec
public import proofs.«01_k».proof.Proof.Gen.Reference3Ideal.Read
public import Idealize.ShloMosaic.Lib.IdealHost

/-! # The reference of the first call, at an index -/

@[expose] public section

noncomputable section

namespace Cert.Reference3Ideal.Read

open Cert.Reference3Ideal Cert.Reference3Ideal.Gen Idealize.ShloMosaic Cert.Last Cert.First
open scoped BigOperators

theorem lit_zero : (FloatOps.ofBits .f32 0x00000000#32 : Ideal .f32) = (0 : EReal) := Ideal.ofBits_zero_f32
theorem lit_eighth : (FloatOps.ofBits .f32 0x3E000000#32 : Ideal .f32) = (((1 / 8 : ℝ)) : EReal) := by
  simp [Ideal.ofBits, Ideal.ieee]
  rw [← EReal.coe_mul]
  norm_num
theorem lit_two : (FloatOps.ofBits .f32 0x40000000#32 : Ideal .f32) = ((2 : ℝ) : EReal) := by
  simp [Ideal.ofBits, Ideal.ieee]
  rw [← EReal.coe_mul]
  norm_num

variable (x : ArgO) (g : ArgG) (w : ArgW)

/-- The normalization. -/
theorem v14_at (b : Fin 8) (X : Fin 4096) (e : Fin 1024) : val_main_v14 (F := Ideal) x g (ix3 b X e)
    = nrm (fun e => x (ix3 b X e)) (fun e => g (ix2 0 e)) e := by
  rw [val_main_v14_apply, val_main_v9_apply, val_main_v8_apply, val_main_v7_apply, val_main_v6_apply, val_main_v4_apply,
    val_main_v2_apply, val_main_v1_apply, val_main_cst_apply, lit_zero, zero_add, val_main_v3_apply, val_main_cst_0_apply,
    val_main_v5_apply, val_main_cst_1_apply, val_main_v13_apply, val_main_v12_apply, val_main_v11_apply, val_main_v10_apply]
  have hg : idx_main_v10 (idx_main_v11 (idx_main_v12 (idx_main_v13 (ix3 b X e)))) = (ix2 0 e : S2x1024.Idx) := funext fun a => Fin.ext (by
    match a with
    | 0 => rfl
    | 1 => show e.val % 1024 = e.val; omega)
  have hx (k : Fin 1024) : idx_main_v1 (idx_main_v2 (idx_main_v8 (ix3 b X e))) k = ix3 b X k := funext fun a => match a with
    | 0 => rfl
    | 1 => rfl
    | 2 => rfl
  rw [hg]
  simp only [hx, val_main_v0_apply]
  rfl

/-- The projection. -/
theorem v17_at (b : Fin 8) (X n : Fin 4096) : val_main_v17 (F := Ideal) x g w (ix3 b X n) = proj x g w b X n := by
  rw [val_main_v17_apply]
  refine Finset.sum_congr rfl fun j _ => ?_
  have hl : lidx_main_v17 (ix3 b X n) j = ix3 b X j := funext fun a => match a with
    | 0 => rfl
    | 1 => rfl
    | 2 => rfl
  have hr : idx_main_v15 (idx_main_v16 (ridx_main_v17 (ix3 b X n) j)) = (ix3 0 j n : S2x1024x4096.Idx) :=
    funext fun a => Fin.ext (by
      have hj := j.isLt
      have hn := n.isLt
      match a with
      | 0 => rfl
      | 1 => show (j.val * 4096 + n.val) / 4096 % 1024 = j.val; omega
      | 2 => show (j.val * 4096 + n.val) % 4096 = n.val; omega)
  rw [hl, v14_at, val_main_v16_apply, val_main_v15_apply, hr]

theorem scale (p : EReal) : Ideal.div (p * ((1 / 8 : ℝ) : EReal)) ((Real.log 2 : ℝ) : EReal) = p * qScale := by
  have h2 : Real.log 2 ≠ 0 := (Real.log_pos one_lt_two).ne'
  have h : Real.log 256 = 8 * Real.log 2 := by
    rw [show (256 : ℝ) = 2 ^ 8 by norm_num, Real.log_pow]; norm_num
  rw [Ideal.div_coe h2, mul_assoc, ← EReal.coe_mul, qScale, h]
  congr 2
  field_simp

theorem keys_result : val_main_v30 (F := Ideal) x g w = keysAll x g w := by
  funext i
  show val_main_v19 (F := Ideal) x g w i = _
  rw [val_main_v19_apply]
  refine Eq.trans (congrArg (val_main_v17 (F := Ideal) x g w) (funext fun a => Fin.ext ?_)) (v17_at x g w (i 0) (i 1) (col 1 (i 2)))
  match a with
  | 0 => rfl
  | 1 => rfl
  | 2 => rfl

theorem gate_result : val_main_v31 (F := Ideal) x g w = gateAll x g w := by
  funext i
  show val_main_v21 (F := Ideal) x g w i = _
  rw [val_main_v21_apply]
  refine Eq.trans (congrArg (val_main_v17 (F := Ideal) x g w) (funext fun a => Fin.ext ?_)) (v17_at x g w (i 0) (i 1) (col 3 (i 2)))
  match a with
  | 0 => rfl
  | 1 => rfl
  | 2 => rfl

theorem queries_result : val_main_v32 (F := Ideal) x g w = queriesAll x g w := by
  funext i
  show val_main_v27 (F := Ideal) x g w i = _
  rw [val_main_v27_apply, val_main_v26_apply, val_main_v25_apply, val_main_v24_apply, val_main_cst_3_apply, val_main_v23_apply,
    val_main_v22_apply, val_main_cst_2_apply, val_main_v18_apply, lit_two, lit_eighth]
  have e : val_main_v17 (F := Ideal) x g w (idx_main_v18 (idx_main_v27 i)) = proj x g w (i 0) (i 2) (col 0 (i 1)) := by
    refine Eq.trans (congrArg (val_main_v17 (F := Ideal) x g w) (funext fun a => Fin.ext ?_)) (v17_at x g w (i 0) (i 2) (col 0 (i 1)))
    match a with
    | 0 => rfl
    | 1 => rfl
    | 2 => show (i 1).val = 1024 * 0 + (i 1).val; omega
  rw [e]
  show Ideal.div (_ * _) (Ideal.log ((2 : ℝ) : EReal)) = _
  rw [Ideal.log_coe, if_neg (by norm_num)]
  exact scale _

theorem values_result : val_main_v33 (F := Ideal) x g w = valuesAll x g w := by
  funext i
  show val_main_v29 (F := Ideal) x g w i = _
  rw [val_main_v29_apply, val_main_v28_apply, val_main_v20_apply]
  refine Eq.trans (congrArg (val_main_v17 (F := Ideal) x g w) (funext fun a => Fin.ext ?_))
    (v17_at x g w (i 0) (pos (i 1) (i 3)) (col 2 (i 2)))
  have h0 : (i 0).val < 8 := (i 0).isLt
  have h1 : (i 1).val < 16 := (i 1).isLt
  have h2 : (i 2).val < 1024 := (i 2).isLt
  have h3 : (i 3).val < 256 := (i 3).isLt
  match a with
  | 0 => show ((((i 0).val * 16 + (i 1).val) * 256 + (i 3).val) * 1024 + (i 2).val) / 4194304 = (i 0).val; omega
  | 1 => show ((((i 0).val * 16 + (i 1).val) * 256 + (i 3).val) * 1024 + (i 2).val) / 1024 % 4096 = 256 * (i 1).val + (i 3).val; omega
  | 2 => show 2048 + ((((i 0).val * 16 + (i 1).val) * 256 + (i 3).val) * 1024 + (i 2).val) % 1024 = 1024 * 2 + (i 2).val; omega

end Cert.Reference3Ideal.Read

end
-- ==== Proof.First.Claim.lean ====
module

public import proofs.«01_k».proof.Defs
public import proofs.«01_k».proof.Proof.First.Ker
public import proofs.«01_k».proof.Proof.First.Ref
public import proofs.«01_k».proof.Proof.Gen.Kernel3.Frame

/-! # The first call: its frames and its value claim -/

@[expose] public section

noncomputable section

namespace Cert.First

open Idealize.ShloMosaic Idealize.SL.Sem

theorem kernel_frame : Cert.quiescent_Kernel3 (hKernel3 := Cert.Kernel3.Gen.facts) :=
  fun m g _ => Cert.Kernel3.Gen.frame (F := Bits) m g

theorem ideal_frame : Cert.quiescent_Kernel3Ideal (hKernel3Ideal := Cert.Kernel3Ideal.Gen.facts) :=
  fun m g _ => Cert.Kernel3Ideal.Gen.frame (F := Ideal) m g

theorem reference_frame : Cert.quiescent_Reference3Ideal (hReference3Ideal := Cert.Reference3Ideal.Gen.facts) :=
  fun m g _ => (θ_run _ _ _).mono (fun r h => ⟨fun c => (h c).2.2.2.2, sem_eq_zero_of_no_sems (by decide) r.2⟩)
    (Cert.Reference3Ideal.Value.run (F := Ideal) m g)

/-- The named constant is the one word it stands for. -/
theorem names : Cert.preserves_Kernel3_Kernel3Ideal :=
  IdealRules.named_const.statement _ _ _ _ _ (by simp [Cert.Kernel3Ideal.κ])

theorem value_claim : Cert.algebraic_Kernel3Ideal_Reference3Ideal (hKernel3Ideal := Cert.Kernel3Ideal.Gen.facts)
    (hReference3Ideal := Cert.Reference3Ideal.Gen.facts) := by
  intro m g m' g' _ hm
  refine ⟨fun c => keysAll (Cert.Kernel3Ideal.First.argX m c) (Cert.Kernel3Ideal.First.argG m c) (Cert.Kernel3Ideal.First.argW m c),
    fun c => gateAll (Cert.Kernel3Ideal.First.argX m c) (Cert.Kernel3Ideal.First.argG m c) (Cert.Kernel3Ideal.First.argW m c),
    fun c => queriesAll (Cert.Kernel3Ideal.First.argX m c) (Cert.Kernel3Ideal.First.argG m c) (Cert.Kernel3Ideal.First.argW m c),
    fun c => valuesAll (Cert.Kernel3Ideal.First.argX m c) (Cert.Kernel3Ideal.First.argG m c) (Cert.Kernel3Ideal.First.argW m c), ?_, ?_⟩
  · exact (θ_run _ _ _).mono (fun r h c => ⟨(h c).1.trans (Cert.Kernel3Ideal.First.final_keys m c),
        (h c).2.1.trans (Cert.Kernel3Ideal.First.final_gate m c), (h c).2.2.1.trans (Cert.Kernel3Ideal.First.final_queries m c),
        (h c).2.2.2.1.trans (Cert.Kernel3Ideal.First.final_values m c), (h c).2.2.2.2⟩)
      (Cert.Kernel3Ideal.Value.run_blocks (F := Ideal) m g)
  · refine (θ_run _ _ _).mono (fun r h c => ⟨(h c).1.trans ?_, (h c).2.1.trans ?_, (h c).2.2.1.trans ?_, (h c).2.2.2.1.trans ?_,
      (h c).2.2.2.2⟩) (Cert.Reference3Ideal.Value.run (F := Ideal) m' g')
    · rw [Cert.Reference3Ideal.Read.val_main_v30_eq, (hm c).1, (hm c).2.1, (hm c).2.2]
      exact Cert.Reference3Ideal.Read.keys_result _ _ _
    · rw [Cert.Reference3Ideal.Read.val_main_v31_eq, (hm c).1, (hm c).2.1, (hm c).2.2]
      exact Cert.Reference3Ideal.Read.gate_result _ _ _
    · rw [Cert.Reference3Ideal.Read.val_main_v32_eq, (hm c).1, (hm c).2.1, (hm c).2.2]
      exact Cert.Reference3Ideal.Read.queries_result _ _ _
    · rw [Cert.Reference3Ideal.Read.val_main_v33_eq, (hm c).1, (hm c).2.1, (hm c).2.2]
      exact Cert.Reference3Ideal.Read.values_result _ _ _

end Cert.First

end
-- ==== Proof.lean ====
module

public import proofs.«01_k».proof.Defs
public import proofs.«01_k».proof.Proof.Frames
public import proofs.«01_k».proof.Proof.Val.Claim
public import proofs.«01_k».proof.Proof.Last.Claim
public import proofs.«01_k».proof.Proof.First.Claim

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    kernel_frame, ideal_frame, reference_frame, Cert.Last.kernel_frame, Cert.Last.ideal_frame, Cert.Last.reference_frame,
    Cert.First.kernel_frame, Cert.First.ideal_frame, Cert.First.reference_frame,
    names, Cert.Val.value_claim, Cert.Last.names, Cert.Last.value_claim,
    Cert.First.names, Cert.First.value_claim⟩

end Cert.Proof

end
